-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S4096x4096 : Shape := ⟨2, ![4096, 4096]⟩
abbrev S32x8x128 : Shape := ⟨3, ![32, 8, 128]⟩
abbrev S16 : Shape := ⟨1, ![16]⟩
abbrev S31 : Shape := ⟨1, ![31]⟩
abbrev S_ : Shape := ⟨0, ![]⟩
abbrev S1 : Shape := ⟨1, ![1]⟩
abbrev S128x64 : Shape := ⟨2, ![128, 64]⟩
abbrev S1x128x64 : Shape := ⟨3, ![1, 128, 64]⟩
abbrev S1x1x1 : Shape := ⟨3, ![1, 1, 1]⟩
abbrev S64x4096 : Shape := ⟨2, ![64, 4096]⟩
abbrev S1x8x128 : Shape := ⟨3, ![1, 8, 128]⟩
abbrev S32x1x1 : Shape := ⟨3, ![32, 1, 1]⟩
abbrev S32 : Shape := ⟨1, ![32]⟩
abbrev S1x32 : Shape := ⟨2, ![1, 32]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4096x64, .bf16⟩
  | .hbm, ⟨2, _⟩ => ⟨S4096x64, .f32⟩
  | .local _ .vmem, ⟨0, _⟩ => ⟨S128x4096, .bf16⟩
  | .local _ .vmem, ⟨1, _⟩ => ⟨S4096x64, .bf16⟩
  | .local _ .vmem, ⟨2, _⟩ => ⟨S4096x64, .f32⟩
  | .local _ .vmem, ⟨3, _⟩ => ⟨S4096x4096, .bf16⟩
  | .local _ .vmem, ⟨4, _⟩ => ⟨S32x8x128, .f32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_119 : BitVec 32 := 1#32
  let v231 : BitVec 32 := Scalar.addi v2 c1_i32_119
  let c32_i32_120 : BitVec 32 := 32#32
  let c0_i32_121 : BitVec 32 := 0#32
  let v232 : BitVec 1 := Scalar.cmpi .eq c32_i32_120 c0_i32_121
  let c1_i32_122 : BitVec 32 := 1#32
  let v233 : BitVec 32 := Scalar.select v232 c1_i32_122 c32_i32_120
  let v234 : BitVec 32 := Scalar.remsi v231 v233
  let c0_i32_124 : BitVec 32 := 0#32
  let v236 : BitVec 1 := Scalar.cmpi .slt v234 c0_i32_124
  let c0_i32_125 : BitVec 32 := 0#32
  let v237 : BitVec 1 := Scalar.cmpi .slt v233 c0_i32_125
  let v238 : BitVec 1 := Scalar.xori v236 v237
  let c0_i32_123 : BitVec 32 := 0#32
  let v235 : BitVec 1 := Scalar.cmpi .ne v234 c0_i32_123
  let v239 : BitVec 1 := Scalar.andi v238 v235
  let v240 : BitVec 32 := Scalar.addi v234 v233
  let v241 : BitVec 32 := Scalar.select v239 v240 v234
  let c1_i32_127 : BitVec 32 := 1#32
  let v242 : BitVec 32 := Scalar.muli v241 c1_i32_127
  let v243 : BitVec 32 := Scalar.addi c0_i32_128 v242
  v243.toNat
def k0_dev2 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_129 : BitVec 32 := 2#32
  let v244 : BitVec 32 := Scalar.addi v2 c2_i32_129
  let c32_i32_130 : BitVec 32 := 32#32
  let c0_i32_131 : BitVec 32 := 0#32
  let v245 : BitVec 1 := Scalar.cmpi .eq c32_i32_130 c0_i32_131
  let c1_i32_132 : BitVec 32 := 1#32
  let v246 : BitVec 32 := Scalar.select v245 c1_i32_132 c32_i32_130
  let v247 : BitVec 32 := Scalar.remsi v244 v246
  let c0_i32_134 : BitVec 32 := 0#32
  let v249 : BitVec 1 := Scalar.cmpi .slt v247 c0_i32_134
  let c0_i32_135 : BitVec 32 := 0#32
  let v250 : BitVec 1 := Scalar.cmpi .slt v246 c0_i32_135
  let v251 : BitVec 1 := Scalar.xori v249 v250
  let c0_i32_133 : BitVec 32 := 0#32
  let v248 : BitVec 1 := Scalar.cmpi .ne v247 c0_i32_133
  let v252 : BitVec 1 := Scalar.andi v251 v248
  let v253 : BitVec 32 := Scalar.addi v247 v246
  let v254 : BitVec 32 := Scalar.select v252 v253 v247
  let c1_i32_137 : BitVec 32 := 1#32
  let v255 : BitVec 32 := Scalar.muli v254 c1_i32_137
  let v256 : BitVec 32 := Scalar.addi c0_i32_138 v255
  v256.toNat
def k0_dev3 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_139 : BitVec 32 := 3#32
  let v257 : BitVec 32 := Scalar.addi v2 c3_i32_139
  let c32_i32_140 : BitVec 32 := 32#32
  let c0_i32_141 : BitVec 32 := 0#32
  let v258 : BitVec 1 := Scalar.cmpi .eq c32_i32_140 c0_i32_141
  let c1_i32_142 : BitVec 32 := 1#32
  let v259 : BitVec 32 := Scalar.select v258 c1_i32_142 c32_i32_140
  let v260 : BitVec 32 := Scalar.remsi v257 v259
  let c0_i32_144 : BitVec 32 := 0#32
  let v262 : BitVec 1 := Scalar.cmpi .slt v260 c0_i32_144
  let c0_i32_145 : BitVec 32 := 0#32
  let v263 : BitVec 1 := Scalar.cmpi .slt v259 c0_i32_145
  let v264 : BitVec 1 := Scalar.xori v262 v263
  let c0_i32_143 : BitVec 32 := 0#32
  let v261 : BitVec 1 := Scalar.cmpi .ne v260 c0_i32_143
  let v265 : BitVec 1 := Scalar.andi v264 v261
  let v266 : BitVec 32 := Scalar.addi v260 v259
  let v267 : BitVec 32 := Scalar.select v265 v266 v260
  let c1_i32_147 : BitVec 32 := 1#32
  let v268 : BitVec 32 := Scalar.muli v267 c1_i32_147
  let v269 : BitVec 32 := Scalar.addi c0_i32_148 v268
  v269.toNat
def k0_dev4 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_149 : BitVec 32 := 4#32
  let v270 : BitVec 32 := Scalar.addi v2 c4_i32_149
  let c32_i32_150 : BitVec 32 := 32#32
  let c0_i32_151 : BitVec 32 := 0#32
  let v271 : BitVec 1 := Scalar.cmpi .eq c32_i32_150 c0_i32_151
  let c1_i32_152 : BitVec 32 := 1#32
  let v272 : BitVec 32 := Scalar.select v271 c1_i32_152 c32_i32_150
  let v273 : BitVec 32 := Scalar.remsi v270 v272
  let c0_i32_154 : BitVec 32 := 0#32
  let v275 : BitVec 1 := Scalar.cmpi .slt v273 c0_i32_154
  let c0_i32_155 : BitVec 32 := 0#32
  let v276 : BitVec 1 := Scalar.cmpi .slt v272 c0_i32_155
  let v277 : BitVec 1 := Scalar.xori v275 v276
  let c0_i32_153 : BitVec 32 := 0#32
  let v274 : BitVec 1 := Scalar.cmpi .ne v273 c0_i32_153
  let v278 : BitVec 1 := Scalar.andi v277 v274
  let v279 : BitVec 32 := Scalar.addi v273 v272
  let v280 : BitVec 32 := Scalar.select v278 v279 v273
  let c1_i32_157 : BitVec 32 := 1#32
  let v281 : BitVec 32 := Scalar.muli v280 c1_i32_157
  let v282 : BitVec 32 := Scalar.addi c0_i32_158 v281
  v282.toNat
def k0_dev5 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v283 : BitVec 32 := Scalar.addi v2 c5_i32
  let c32_i32_159 : BitVec 32 := 32#32
  let c0_i32_160 : BitVec 32 := 0#32
  let v284 : BitVec 1 := Scalar.cmpi .eq c32_i32_159 c0_i32_160
  let c1_i32_161 : BitVec 32 := 1#32
  let v285 : BitVec 32 := Scalar.select v284 c1_i32_161 c32_i32_159
  let v286 : BitVec 32 := Scalar.remsi v283 v285
  let c0_i32_163 : BitVec 32 := 0#32
  let v288 : BitVec 1 := Scalar.cmpi .slt v286 c0_i32_163
  let c0_i32_164 : BitVec 32 := 0#32
  let v289 : BitVec 1 := Scalar.cmpi .slt v285 c0_i32_164
  let v290 : BitVec 1 := Scalar.xori v288 v289
  let c0_i32_162 : BitVec 32 := 0#32
  let v287 : BitVec 1 := Scalar.cmpi .ne v286 c0_i32_162
  let v291 : BitVec 1 := Scalar.andi v290 v287
  let v292 : BitVec 32 := Scalar.addi v286 v285
  let v293 : BitVec 32 := Scalar.select v291 v292 v286
  let c1_i32_166 : BitVec 32 := 1#32
  let v294 : BitVec 32 := Scalar.muli v293 c1_i32_166
  let v295 : BitVec 32 := Scalar.addi c0_i32_167 v294
  v295.toNat
def k0_dev6 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v296 : BitVec 32 := Scalar.addi v2 c6_i32
  let c32_i32_168 : BitVec 32 := 32#32
  let c0_i32_169 : BitVec 32 := 0#32
  let v297 : BitVec 1 := Scalar.cmpi .eq c32_i32_168 c0_i32_169
  let c1_i32_170 : BitVec 32 := 1#32
  let v298 : BitVec 32 := Scalar.select v297 c1_i32_170 c32_i32_168
  let v299 : BitVec 32 := Scalar.remsi v296 v298
  let c0_i32_172 : BitVec 32 := 0#32
  let v301 : BitVec 1 := Scalar.cmpi .slt v299 c0_i32_172
  let c0_i32_173 : BitVec 32 := 0#32
  let v302 : BitVec 1 := Scalar.cmpi .slt v298 c0_i32_173
  let v303 : BitVec 1 := Scalar.xori v301 v302
  let c0_i32_171 : BitVec 32 := 0#32
  let v300 : BitVec 1 := Scalar.cmpi .ne v299 c0_i32_171
  let v304 : BitVec 1 := Scalar.andi v303 v300
  let v305 : BitVec 32 := Scalar.addi v299 v298
  let v306 : BitVec 32 := Scalar.select v304 v305 v299
  let c1_i32_175 : BitVec 32 := 1#32
  let v307 : BitVec 32 := Scalar.muli v306 c1_i32_175
  let v308 : BitVec 32 := Scalar.addi c0_i32_176 v307
  v308.toNat
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v309 : BitVec 32 := Scalar.addi v2 c7_i32
  let c32_i32_177 : BitVec 32 := 32#32
  let c0_i32_178 : BitVec 32 := 0#32
  let v310 : BitVec 1 := Scalar.cmpi .eq c32_i32_177 c0_i32_178
  let c1_i32_179 : BitVec 32 := 1#32
  let v311 : BitVec 32 := Scalar.select v310 c1_i32_179 c32_i32_177
  let v312 : BitVec 32 := Scalar.remsi v309 v311
  let c0_i32_181 : BitVec 32 := 0#32
  let v314 : BitVec 1 := Scalar.cmpi .slt v312 c0_i32_181
  let c0_i32_182 : BitVec 32 := 0#32
  let v315 : BitVec 1 := Scalar.cmpi .slt v311 c0_i32_182
  let v316 : BitVec 1 := Scalar.xori v314 v315
  let c0_i32_180 : BitVec 32 := 0#32
  let v313 : BitVec 1 := Scalar.cmpi .ne v312 c0_i32_180
  let v317 : BitVec 1 := Scalar.andi v316 v313
  let v318 : BitVec 32 := Scalar.addi v312 v311
  let v319 : BitVec 32 := Scalar.select v317 v318 v312
  let c1_i32_184 : BitVec 32 := 1#32
  let v320 : BitVec 32 := Scalar.muli v319 c1_i32_184
  let v321 : BitVec 32 := Scalar.addi c0_i32_185 v320
  v321.toNat
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_186 : BitVec 32 := 8#32
  let v322 : BitVec 32 := Scalar.addi v2 c8_i32_186
  let c32_i32_187 : BitVec 32 := 32#32
  let c0_i32_188 : BitVec 32 := 0#32
  let v323 : BitVec 1 := Scalar.cmpi .eq c32_i32_187 c0_i32_188
  let c1_i32_189 : BitVec 32 := 1#32
  let v324 : BitVec 32 := Scalar.select v323 c1_i32_189 c32_i32_187
  let v325 : BitVec 32 := Scalar.remsi v322 v324
  let c0_i32_191 : BitVec 32 := 0#32
  let v327 : BitVec 1 := Scalar.cmpi .slt v325 c0_i32_191
  let c0_i32_192 : BitVec 32 := 0#32
  let v328 : BitVec 1 := Scalar.cmpi .slt v324 c0_i32_192
  let v329 : BitVec 1 := Scalar.xori v327 v328
  let c0_i32_190 : BitVec 32 := 0#32
  let v326 : BitVec 1 := Scalar.cmpi .ne v325 c0_i32_190
  let v330 : BitVec 1 := Scalar.andi v329 v326
  let v331 : BitVec 32 := Scalar.addi v325 v324
  let v332 : BitVec 32 := Scalar.select v330 v331 v325
  let c1_i32_194 : BitVec 32 := 1#32
  let v333 : BitVec 32 := Scalar.muli v332 c1_i32_194
  let v334 : BitVec 32 := Scalar.addi c0_i32_195 v333
  v334.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v335 : BitVec 32 := Scalar.addi v2 c9_i32
  let c32_i32_196 : BitVec 32 := 32#32
  let c0_i32_197 : BitVec 32 := 0#32
  let v336 : BitVec 1 := Scalar.cmpi .eq c32_i32_196 c0_i32_197
  let c1_i32_198 : BitVec 32 := 1#32
  let v337 : BitVec 32 := Scalar.select v336 c1_i32_198 c32_i32_196
  let v338 : BitVec 32 := Scalar.remsi v335 v337
  let c0_i32_200 : BitVec 32 := 0#32
  let v340 : BitVec 1 := Scalar.cmpi .slt v338 c0_i32_200
  let c0_i32_201 : BitVec 32 := 0#32
  let v341 : BitVec 1 := Scalar.cmpi .slt v337 c0_i32_201
  let v342 : BitVec 1 := Scalar.xori v340 v341
  let c0_i32_199 : BitVec 32 := 0#32
  let v339 : BitVec 1 := Scalar.cmpi .ne v338 c0_i32_199
  let v343 : BitVec 1 := Scalar.andi v342 v339
  let v344 : BitVec 32 := Scalar.addi v338 v337
  let v345 : BitVec 32 := Scalar.select v343 v344 v338
  let c1_i32_203 : BitVec 32 := 1#32
  let v346 : BitVec 32 := Scalar.muli v345 c1_i32_203
  let v347 : BitVec 32 := Scalar.addi c0_i32_204 v346
  v347.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v348 : BitVec 32 := Scalar.addi v2 c10_i32
  let c32_i32_205 : BitVec 32 := 32#32
  let c0_i32_206 : BitVec 32 := 0#32
  let v349 : BitVec 1 := Scalar.cmpi .eq c32_i32_205 c0_i32_206
  let c1_i32_207 : BitVec 32 := 1#32
  let v350 : BitVec 32 := Scalar.select v349 c1_i32_207 c32_i32_205
  let v351 : BitVec 32 := Scalar.remsi v348 v350
  let c0_i32_209 : BitVec 32 := 0#32
  let v353 : BitVec 1 := Scalar.cmpi .slt v351 c0_i32_209
  let c0_i32_210 : BitVec 32 := 0#32
  let v354 : BitVec 1 := Scalar.cmpi .slt v350 c0_i32_210
  let v355 : BitVec 1 := Scalar.xori v353 v354
  let c0_i32_208 : BitVec 32 := 0#32
  let v352 : BitVec 1 := Scalar.cmpi .ne v351 c0_i32_208
  let v356 : BitVec 1 := Scalar.andi v355 v352
  let v357 : BitVec 32 := Scalar.addi v351 v350
  let v358 : BitVec 32 := Scalar.select v356 v357 v351
  let c1_i32_212 : BitVec 32 := 1#32
  let v359 : BitVec 32 := Scalar.muli v358 c1_i32_212
  let v360 : BitVec 32 := Scalar.addi c0_i32_213 v359
  v360.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v361 : BitVec 32 := Scalar.addi v2 c11_i32
  let c32_i32_214 : BitVec 32 := 32#32
  let c0_i32_215 : BitVec 32 := 0#32
  let v362 : BitVec 1 := Scalar.cmpi .eq c32_i32_214 c0_i32_215
  let c1_i32_216 : BitVec 32 := 1#32
  let v363 : BitVec 32 := Scalar.select v362 c1_i32_216 c32_i32_214
  let v364 : BitVec 32 := Scalar.remsi v361 v363
  let c0_i32_218 : BitVec 32 := 0#32
  let v366 : BitVec 1 := Scalar.cmpi .slt v364 c0_i32_218
  let c0_i32_219 : BitVec 32 := 0#32
  let v367 : BitVec 1 := Scalar.cmpi .slt v363 c0_i32_219
  let v368 : BitVec 1 := Scalar.xori v366 v367
  let c0_i32_217 : BitVec 32 := 0#32
  let v365 : BitVec 1 := Scalar.cmpi .ne v364 c0_i32_217
  let v369 : BitVec 1 := Scalar.andi v368 v365
  let v370 : BitVec 32 := Scalar.addi v364 v363
  let v371 : BitVec 32 := Scalar.select v369 v370 v364
  let c1_i32_221 : BitVec 32 := 1#32
  let v372 : BitVec 32 := Scalar.muli v371 c1_i32_221
  let v373 : BitVec 32 := Scalar.addi c0_i32_222 v372
  v373.toNat
def k0_dev12 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v374 : BitVec 32 := Scalar.addi v2 c12_i32
  let c32_i32_223 : BitVec 32 := 32#32
  let c0_i32_224 : BitVec 32 := 0#32
  let v375 : BitVec 1 := Scalar.cmpi .eq c32_i32_223 c0_i32_224
  let c1_i32_225 : BitVec 32 := 1#32
  let v376 : BitVec 32 := Scalar.select v375 c1_i32_225 c32_i32_223
  let v377 : BitVec 32 := Scalar.remsi v374 v376
  let c0_i32_227 : BitVec 32 := 0#32
  let v379 : BitVec 1 := Scalar.cmpi .slt v377 c0_i32_227
  let c0_i32_228 : BitVec 32 := 0#32
  let v380 : BitVec 1 := Scalar.cmpi .slt v376 c0_i32_228
  let v381 : BitVec 1 := Scalar.xori v379 v380
  let c0_i32_226 : BitVec 32 := 0#32
  let v378 : BitVec 1 := Scalar.cmpi .ne v377 c0_i32_226
  let v382 : BitVec 1 := Scalar.andi v381 v378
  let v383 : BitVec 32 := Scalar.addi v377 v376
  let v384 : BitVec 32 := Scalar.select v382 v383 v377
  let c1_i32_230 : BitVec 32 := 1#32
  let v385 : BitVec 32 := Scalar.muli v384 c1_i32_230
  let v386 : BitVec 32 := Scalar.addi c0_i32_231 v385
  v386.toNat
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v387 : BitVec 32 := Scalar.addi v2 c13_i32
  let c32_i32_232 : BitVec 32 := 32#32
  let c0_i32_233 : BitVec 32 := 0#32
  let v388 : BitVec 1 := Scalar.cmpi .eq c32_i32_232 c0_i32_233
  let c1_i32_234 : BitVec 32 := 1#32
  let v389 : BitVec 32 := Scalar.select v388 c1_i32_234 c32_i32_232
  let v390 : BitVec 32 := Scalar.remsi v387 v389
  let c0_i32_236 : BitVec 32 := 0#32
  let v392 : BitVec 1 := Scalar.cmpi .slt v390 c0_i32_236
  let c0_i32_237 : BitVec 32 := 0#32
  let v393 : BitVec 1 := Scalar.cmpi .slt v389 c0_i32_237
  let v394 : BitVec 1 := Scalar.xori v392 v393
  let c0_i32_235 : BitVec 32 := 0#32
  let v391 : BitVec 1 := Scalar.cmpi .ne v390 c0_i32_235
  let v395 : BitVec 1 := Scalar.andi v394 v391
  let v396 : BitVec 32 := Scalar.addi v390 v389
  let v397 : BitVec 32 := Scalar.select v395 v396 v390
  let c1_i32_239 : BitVec 32 := 1#32
  let v398 : BitVec 32 := Scalar.muli v397 c1_i32_239
  let v399 : BitVec 32 := Scalar.addi c0_i32_240 v398
  v399.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v400 : BitVec 32 := Scalar.addi v2 c14_i32
  let c32_i32_241 : BitVec 32 := 32#32
  let c0_i32_242 : BitVec 32 := 0#32
  let v401 : BitVec 1 := Scalar.cmpi .eq c32_i32_241 c0_i32_242
  let c1_i32_243 : BitVec 32 := 1#32
  let v402 : BitVec 32 := Scalar.select v401 c1_i32_243 c32_i32_241
  let v403 : BitVec 32 := Scalar.remsi v400 v402
  let c0_i32_245 : BitVec 32 := 0#32
  let v405 : BitVec 1 := Scalar.cmpi .slt v403 c0_i32_245
  let c0_i32_246 : BitVec 32 := 0#32
  let v406 : BitVec 1 := Scalar.cmpi .slt v402 c0_i32_246
  let v407 : BitVec 1 := Scalar.xori v405 v406
  let c0_i32_244 : BitVec 32 := 0#32
  let v404 : BitVec 1 := Scalar.cmpi .ne v403 c0_i32_244
  let v408 : BitVec 1 := Scalar.andi v407 v404
  let v409 : BitVec 32 := Scalar.addi v403 v402
  let v410 : BitVec 32 := Scalar.select v408 v409 v403
  let c1_i32_248 : BitVec 32 := 1#32
  let v411 : BitVec 32 := Scalar.muli v410 c1_i32_248
  let v412 : BitVec 32 := Scalar.addi c0_i32_249 v411
  v412.toNat
def k0_dev15 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v413 : BitVec 32 := Scalar.addi v2 c15_i32
  let c32_i32_250 : BitVec 32 := 32#32
  let c0_i32_251 : BitVec 32 := 0#32
  let v414 : BitVec 1 := Scalar.cmpi .eq c32_i32_250 c0_i32_251
  let c1_i32_252 : BitVec 32 := 1#32
  let v415 : BitVec 32 := Scalar.select v414 c1_i32_252 c32_i32_250
  let v416 : BitVec 32 := Scalar.remsi v413 v415
  let c0_i32_254 : BitVec 32 := 0#32
  let v418 : BitVec 1 := Scalar.cmpi .slt v416 c0_i32_254
  let c0_i32_255 : BitVec 32 := 0#32
  let v419 : BitVec 1 := Scalar.cmpi .slt v415 c0_i32_255
  let v420 : BitVec 1 := Scalar.xori v418 v419
  let c0_i32_253 : BitVec 32 := 0#32
  let v417 : BitVec 1 := Scalar.cmpi .ne v416 c0_i32_253
  let v421 : BitVec 1 := Scalar.andi v420 v417
  let v422 : BitVec 32 := Scalar.addi v416 v415
  let v423 : BitVec 32 := Scalar.select v421 v422 v416
  let c1_i32_257 : BitVec 32 := 1#32
  let v424 : BitVec 32 := Scalar.muli v423 c1_i32_257
  let v425 : BitVec 32 := Scalar.addi c0_i32_258 v424
  v425.toNat
def k0_dev16 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_259 : BitVec 32 := 16#32
  let v426 : BitVec 32 := Scalar.addi v2 c16_i32_259
  let c32_i32_260 : BitVec 32 := 32#32
  let c0_i32_261 : BitVec 32 := 0#32
  let v427 : BitVec 1 := Scalar.cmpi .eq c32_i32_260 c0_i32_261
  let c1_i32_262 : BitVec 32 := 1#32
  let v428 : BitVec 32 := Scalar.select v427 c1_i32_262 c32_i32_260
  let v429 : BitVec 32 := Scalar.remsi v426 v428
  let c0_i32_264 : BitVec 32 := 0#32
  let v431 : BitVec 1 := Scalar.cmpi .slt v429 c0_i32_264
  let c0_i32_265 : BitVec 32 := 0#32
  let v432 : BitVec 1 := Scalar.cmpi .slt v428 c0_i32_265
  let v433 : BitVec 1 := Scalar.xori v431 v432
  let c0_i32_263 : BitVec 32 := 0#32
  let v430 : BitVec 1 := Scalar.cmpi .ne v429 c0_i32_263
  let v434 : BitVec 1 := Scalar.andi v433 v430
  let v435 : BitVec 32 := Scalar.addi v429 v428
  let v436 : BitVec 32 := Scalar.select v434 v435 v429
  let c1_i32_267 : BitVec 32 := 1#32
  let v437 : BitVec 32 := Scalar.muli v436 c1_i32_267
  let v438 : BitVec 32 := Scalar.addi c0_i32_268 v437
  v438.toNat
def k0_dev17 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v439 : BitVec 32 := Scalar.addi v2 c17_i32
  let c32_i32_269 : BitVec 32 := 32#32
  let c0_i32_270 : BitVec 32 := 0#32
  let v440 : BitVec 1 := Scalar.cmpi .eq c32_i32_269 c0_i32_270
  let c1_i32_271 : BitVec 32 := 1#32
  let v441 : BitVec 32 := Scalar.select v440 c1_i32_271 c32_i32_269
  let v442 : BitVec 32 := Scalar.remsi v439 v441
  let c0_i32_273 : BitVec 32 := 0#32
  let v444 : BitVec 1 := Scalar.cmpi .slt v442 c0_i32_273
  let c0_i32_274 : BitVec 32 := 0#32
  let v445 : BitVec 1 := Scalar.cmpi .slt v441 c0_i32_274
  let v446 : BitVec 1 := Scalar.xori v444 v445
  let c0_i32_272 : BitVec 32 := 0#32
  let v443 : BitVec 1 := Scalar.cmpi .ne v442 c0_i32_272
  let v447 : BitVec 1 := Scalar.andi v446 v443
  let v448 : BitVec 32 := Scalar.addi v442 v441
  let v449 : BitVec 32 := Scalar.select v447 v448 v442
  let c1_i32_276 : BitVec 32 := 1#32
  let v450 : BitVec 32 := Scalar.muli v449 c1_i32_276
  let v451 : BitVec 32 := Scalar.addi c0_i32_277 v450
  v451.toNat
def k0_dev18 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v452 : BitVec 32 := Scalar.addi v2 c18_i32
  let c32_i32_278 : BitVec 32 := 32#32
  let c0_i32_279 : BitVec 32 := 0#32
  let v453 : BitVec 1 := Scalar.cmpi .eq c32_i32_278 c0_i32_279
  let c1_i32_280 : BitVec 32 := 1#32
  let v454 : BitVec 32 := Scalar.select v453 c1_i32_280 c32_i32_278
  let v455 : BitVec 32 := Scalar.remsi v452 v454
  let c0_i32_282 : BitVec 32 := 0#32
  let v457 : BitVec 1 := Scalar.cmpi .slt v455 c0_i32_282
  let c0_i32_283 : BitVec 32 := 0#32
  let v458 : BitVec 1 := Scalar.cmpi .slt v454 c0_i32_283
  let v459 : BitVec 1 := Scalar.xori v457 v458
  let c0_i32_281 : BitVec 32 := 0#32
  let v456 : BitVec 1 := Scalar.cmpi .ne v455 c0_i32_281
  let v460 : BitVec 1 := Scalar.andi v459 v456
  let v461 : BitVec 32 := Scalar.addi v455 v454
  let v462 : BitVec 32 := Scalar.select v460 v461 v455
  let c1_i32_285 : BitVec 32 := 1#32
  let v463 : BitVec 32 := Scalar.muli v462 c1_i32_285
  let v464 : BitVec 32 := Scalar.addi c0_i32_286 v463
  v464.toNat
def k0_dev19 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v465 : BitVec 32 := Scalar.addi v2 c19_i32
  let c32_i32_287 : BitVec 32 := 32#32
  let c0_i32_288 : BitVec 32 := 0#32
  let v466 : BitVec 1 := Scalar.cmpi .eq c32_i32_287 c0_i32_288
  let c1_i32_289 : BitVec 32 := 1#32
  let v467 : BitVec 32 := Scalar.select v466 c1_i32_289 c32_i32_287
  let v468 : BitVec 32 := Scalar.remsi v465 v467
  let c0_i32_291 : BitVec 32 := 0#32
  let v470 : BitVec 1 := Scalar.cmpi .slt v468 c0_i32_291
  let c0_i32_292 : BitVec 32 := 0#32
  let v471 : BitVec 1 := Scalar.cmpi .slt v467 c0_i32_292
  let v472 : BitVec 1 := Scalar.xori v470 v471
  let c0_i32_290 : BitVec 32 := 0#32
  let v469 : BitVec 1 := Scalar.cmpi .ne v468 c0_i32_290
  let v473 : BitVec 1 := Scalar.andi v472 v469
  let v474 : BitVec 32 := Scalar.addi v468 v467
  let v475 : BitVec 32 := Scalar.select v473 v474 v468
  let c1_i32_294 : BitVec 32 := 1#32
  let v476 : BitVec 32 := Scalar.muli v475 c1_i32_294
  let v477 : BitVec 32 := Scalar.addi c0_i32_295 v476
  v477.toNat
def k0_dev20 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v478 : BitVec 32 := Scalar.addi v2 c20_i32
  let c32_i32_296 : BitVec 32 := 32#32
  let c0_i32_297 : BitVec 32 := 0#32
  let v479 : BitVec 1 := Scalar.cmpi .eq c32_i32_296 c0_i32_297
  let c1_i32_298 : BitVec 32 := 1#32
  let v480 : BitVec 32 := Scalar.select v479 c1_i32_298 c32_i32_296
  let v481 : BitVec 32 := Scalar.remsi v478 v480
  let c0_i32_300 : BitVec 32 := 0#32
  let v483 : BitVec 1 := Scalar.cmpi .slt v481 c0_i32_300
  let c0_i32_301 : BitVec 32 := 0#32
  let v484 : BitVec 1 := Scalar.cmpi .slt v480 c0_i32_301
  let v485 : BitVec 1 := Scalar.xori v483 v484
  let c0_i32_299 : BitVec 32 := 0#32
  let v482 : BitVec 1 := Scalar.cmpi .ne v481 c0_i32_299
  let v486 : BitVec 1 := Scalar.andi v485 v482
  let v487 : BitVec 32 := Scalar.addi v481 v480
  let v488 : BitVec 32 := Scalar.select v486 v487 v481
  let c1_i32_303 : BitVec 32 := 1#32
  let v489 : BitVec 32 := Scalar.muli v488 c1_i32_303
  let v490 : BitVec 32 := Scalar.addi c0_i32_304 v489
  v490.toNat
def k0_dev21 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v491 : BitVec 32 := Scalar.addi v2 c21_i32
  let c32_i32_305 : BitVec 32 := 32#32
  let c0_i32_306 : BitVec 32 := 0#32
  let v492 : BitVec 1 := Scalar.cmpi .eq c32_i32_305 c0_i32_306
  let c1_i32_307 : BitVec 32 := 1#32
  let v493 : BitVec 32 := Scalar.select v492 c1_i32_307 c32_i32_305
  let v494 : BitVec 32 := Scalar.remsi v491 v493
  let c0_i32_309 : BitVec 32 := 0#32
  let v496 : BitVec 1 := Scalar.cmpi .slt v494 c0_i32_309
  let c0_i32_310 : BitVec 32 := 0#32
  let v497 : BitVec 1 := Scalar.cmpi .slt v493 c0_i32_310
  let v498 : BitVec 1 := Scalar.xori v496 v497
  let c0_i32_308 : BitVec 32 := 0#32
  let v495 : BitVec 1 := Scalar.cmpi .ne v494 c0_i32_308
  let v499 : BitVec 1 := Scalar.andi v498 v495
  let v500 : BitVec 32 := Scalar.addi v494 v493
  let v501 : BitVec 32 := Scalar.select v499 v500 v494
  let c1_i32_312 : BitVec 32 := 1#32
  let v502 : BitVec 32 := Scalar.muli v501 c1_i32_312
  let v503 : BitVec 32 := Scalar.addi c0_i32_313 v502
  v503.toNat
def k0_dev22 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v504 : BitVec 32 := Scalar.addi v2 c22_i32
  let c32_i32_314 : BitVec 32 := 32#32
  let c0_i32_315 : BitVec 32 := 0#32
  let v505 : BitVec 1 := Scalar.cmpi .eq c32_i32_314 c0_i32_315
  let c1_i32_316 : BitVec 32 := 1#32
  let v506 : BitVec 32 := Scalar.select v505 c1_i32_316 c32_i32_314
  let v507 : BitVec 32 := Scalar.remsi v504 v506
  let c0_i32_318 : BitVec 32 := 0#32
  let v509 : BitVec 1 := Scalar.cmpi .slt v507 c0_i32_318
  let c0_i32_319 : BitVec 32 := 0#32
  let v510 : BitVec 1 := Scalar.cmpi .slt v506 c0_i32_319
  let v511 : BitVec 1 := Scalar.xori v509 v510
  let c0_i32_317 : BitVec 32 := 0#32
  let v508 : BitVec 1 := Scalar.cmpi .ne v507 c0_i32_317
  let v512 : BitVec 1 := Scalar.andi v511 v508
  let v513 : BitVec 32 := Scalar.addi v507 v506
  let v514 : BitVec 32 := Scalar.select v512 v513 v507
  let c1_i32_321 : BitVec 32 := 1#32
  let v515 : BitVec 32 := Scalar.muli v514 c1_i32_321
  let v516 : BitVec 32 := Scalar.addi c0_i32_322 v515
  v516.toNat
def k0_dev23 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v517 : BitVec 32 := Scalar.addi v2 c23_i32
  let c32_i32_323 : BitVec 32 := 32#32
  let c0_i32_324 : BitVec 32 := 0#32
  let v518 : BitVec 1 := Scalar.cmpi .eq c32_i32_323 c0_i32_324
  let c1_i32_325 : BitVec 32 := 1#32
  let v519 : BitVec 32 := Scalar.select v518 c1_i32_325 c32_i32_323
  let v520 : BitVec 32 := Scalar.remsi v517 v519
  let c0_i32_327 : BitVec 32 := 0#32
  let v522 : BitVec 1 := Scalar.cmpi .slt v520 c0_i32_327
  let c0_i32_328 : BitVec 32 := 0#32
  let v523 : BitVec 1 := Scalar.cmpi .slt v519 c0_i32_328
  let v524 : BitVec 1 := Scalar.xori v522 v523
  let c0_i32_326 : BitVec 32 := 0#32
  let v521 : BitVec 1 := Scalar.cmpi .ne v520 c0_i32_326
  let v525 : BitVec 1 := Scalar.andi v524 v521
  let v526 : BitVec 32 := Scalar.addi v520 v519
  let v527 : BitVec 32 := Scalar.select v525 v526 v520
  let c1_i32_330 : BitVec 32 := 1#32
  let v528 : BitVec 32 := Scalar.muli v527 c1_i32_330
  let v529 : BitVec 32 := Scalar.addi c0_i32_331 v528
  v529.toNat
def k0_dev24 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v530 : BitVec 32 := Scalar.addi v2 c24_i32
  let c32_i32_332 : BitVec 32 := 32#32
  let c0_i32_333 : BitVec 32 := 0#32
  let v531 : BitVec 1 := Scalar.cmpi .eq c32_i32_332 c0_i32_333
  let c1_i32_334 : BitVec 32 := 1#32
  let v532 : BitVec 32 := Scalar.select v531 c1_i32_334 c32_i32_332
  let v533 : BitVec 32 := Scalar.remsi v530 v532
  let c0_i32_336 : BitVec 32 := 0#32
  let v535 : BitVec 1 := Scalar.cmpi .slt v533 c0_i32_336
  let c0_i32_337 : BitVec 32 := 0#32
  let v536 : BitVec 1 := Scalar.cmpi .slt v532 c0_i32_337
  let v537 : BitVec 1 := Scalar.xori v535 v536
  let c0_i32_335 : BitVec 32 := 0#32
  let v534 : BitVec 1 := Scalar.cmpi .ne v533 c0_i32_335
  let v538 : BitVec 1 := Scalar.andi v537 v534
  let v539 : BitVec 32 := Scalar.addi v533 v532
  let v540 : BitVec 32 := Scalar.select v538 v539 v533
  let c1_i32_339 : BitVec 32 := 1#32
  let v541 : BitVec 32 := Scalar.muli v540 c1_i32_339
  let v542 : BitVec 32 := Scalar.addi c0_i32_340 v541
  v542.toNat
def k0_dev25 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v543 : BitVec 32 := Scalar.addi v2 c25_i32
  let c32_i32_341 : BitVec 32 := 32#32
  let c0_i32_342 : BitVec 32 := 0#32
  let v544 : BitVec 1 := Scalar.cmpi .eq c32_i32_341 c0_i32_342
  let c1_i32_343 : BitVec 32 := 1#32
  let v545 : BitVec 32 := Scalar.select v544 c1_i32_343 c32_i32_341
  let v546 : BitVec 32 := Scalar.remsi v543 v545
  let c0_i32_345 : BitVec 32 := 0#32
  let v548 : BitVec 1 := Scalar.cmpi .slt v546 c0_i32_345
  let c0_i32_346 : BitVec 32 := 0#32
  let v549 : BitVec 1 := Scalar.cmpi .slt v545 c0_i32_346
  let v550 : BitVec 1 := Scalar.xori v548 v549
  let c0_i32_344 : BitVec 32 := 0#32
  let v547 : BitVec 1 := Scalar.cmpi .ne v546 c0_i32_344
  let v551 : BitVec 1 := Scalar.andi v550 v547
  let v552 : BitVec 32 := Scalar.addi v546 v545
  let v553 : BitVec 32 := Scalar.select v551 v552 v546
  let c1_i32_348 : BitVec 32 := 1#32
  let v554 : BitVec 32 := Scalar.muli v553 c1_i32_348
  let v555 : BitVec 32 := Scalar.addi c0_i32_349 v554
  v555.toNat
def k0_dev26 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v556 : BitVec 32 := Scalar.addi v2 c26_i32
  let c32_i32_350 : BitVec 32 := 32#32
  let c0_i32_351 : BitVec 32 := 0#32
  let v557 : BitVec 1 := Scalar.cmpi .eq c32_i32_350 c0_i32_351
  let c1_i32_352 : BitVec 32 := 1#32
  let v558 : BitVec 32 := Scalar.select v557 c1_i32_352 c32_i32_350
  let v559 : BitVec 32 := Scalar.remsi v556 v558
  let c0_i32_354 : BitVec 32 := 0#32
  let v561 : BitVec 1 := Scalar.cmpi .slt v559 c0_i32_354
  let c0_i32_355 : BitVec 32 := 0#32
  let v562 : BitVec 1 := Scalar.cmpi .slt v558 c0_i32_355
  let v563 : BitVec 1 := Scalar.xori v561 v562
  let c0_i32_353 : BitVec 32 := 0#32
  let v560 : BitVec 1 := Scalar.cmpi .ne v559 c0_i32_353
  let v564 : BitVec 1 := Scalar.andi v563 v560
  let v565 : BitVec 32 := Scalar.addi v559 v558
  let v566 : BitVec 32 := Scalar.select v564 v565 v559
  let c1_i32_357 : BitVec 32 := 1#32
  let v567 : BitVec 32 := Scalar.muli v566 c1_i32_357
  let v568 : BitVec 32 := Scalar.addi c0_i32_358 v567
  v568.toNat
def k0_dev27 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v569 : BitVec 32 := Scalar.addi v2 c27_i32
  let c32_i32_359 : BitVec 32 := 32#32
  let c0_i32_360 : BitVec 32 := 0#32
  let v570 : BitVec 1 := Scalar.cmpi .eq c32_i32_359 c0_i32_360
  let c1_i32_361 : BitVec 32 := 1#32
  let v571 : BitVec 32 := Scalar.select v570 c1_i32_361 c32_i32_359
  let v572 : BitVec 32 := Scalar.remsi v569 v571
  let c0_i32_363 : BitVec 32 := 0#32
  let v574 : BitVec 1 := Scalar.cmpi .slt v572 c0_i32_363
  let c0_i32_364 : BitVec 32 := 0#32
  let v575 : BitVec 1 := Scalar.cmpi .slt v571 c0_i32_364
  let v576 : BitVec 1 := Scalar.xori v574 v575
  let c0_i32_362 : BitVec 32 := 0#32
  let v573 : BitVec 1 := Scalar.cmpi .ne v572 c0_i32_362
  let v577 : BitVec 1 := Scalar.andi v576 v573
  let v578 : BitVec 32 := Scalar.addi v572 v571
  let v579 : BitVec 32 := Scalar.select v577 v578 v572
  let c1_i32_366 : BitVec 32 := 1#32
  let v580 : BitVec 32 := Scalar.muli v579 c1_i32_366
  let v581 : BitVec 32 := Scalar.addi c0_i32_367 v580
  v581.toNat
def k0_dev28 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v582 : BitVec 32 := Scalar.addi v2 c28_i32
  let c32_i32_368 : BitVec 32 := 32#32
  let c0_i32_369 : BitVec 32 := 0#32
  let v583 : BitVec 1 := Scalar.cmpi .eq c32_i32_368 c0_i32_369
  let c1_i32_370 : BitVec 32 := 1#32
  let v584 : BitVec 32 := Scalar.select v583 c1_i32_370 c32_i32_368
  let v585 : BitVec 32 := Scalar.remsi v582 v584
  let c0_i32_372 : BitVec 32 := 0#32
  let v587 : BitVec 1 := Scalar.cmpi .slt v585 c0_i32_372
  let c0_i32_373 : BitVec 32 := 0#32
  let v588 : BitVec 1 := Scalar.cmpi .slt v584 c0_i32_373
  let v589 : BitVec 1 := Scalar.xori v587 v588
  let c0_i32_371 : BitVec 32 := 0#32
  let v586 : BitVec 1 := Scalar.cmpi .ne v585 c0_i32_371
  let v590 : BitVec 1 := Scalar.andi v589 v586
  let v591 : BitVec 32 := Scalar.addi v585 v584
  let v592 : BitVec 32 := Scalar.select v590 v591 v585
  let c1_i32_375 : BitVec 32 := 1#32
  let v593 : BitVec 32 := Scalar.muli v592 c1_i32_375
  let v594 : BitVec 32 := Scalar.addi c0_i32_376 v593
  v594.toNat
def k0_dev29 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v595 : BitVec 32 := Scalar.addi v2 c29_i32
  let c32_i32_377 : BitVec 32 := 32#32
  let c0_i32_378 : BitVec 32 := 0#32
  let v596 : BitVec 1 := Scalar.cmpi .eq c32_i32_377 c0_i32_378
  let c1_i32_379 : BitVec 32 := 1#32
  let v597 : BitVec 32 := Scalar.select v596 c1_i32_379 c32_i32_377
  let v598 : BitVec 32 := Scalar.remsi v595 v597
  let c0_i32_381 : BitVec 32 := 0#32
  let v600 : BitVec 1 := Scalar.cmpi .slt v598 c0_i32_381
  let c0_i32_382 : BitVec 32 := 0#32
  let v601 : BitVec 1 := Scalar.cmpi .slt v597 c0_i32_382
  let v602 : BitVec 1 := Scalar.xori v600 v601
  let c0_i32_380 : BitVec 32 := 0#32
  let v599 : BitVec 1 := Scalar.cmpi .ne v598 c0_i32_380
  let v603 : BitVec 1 := Scalar.andi v602 v599
  let v604 : BitVec 32 := Scalar.addi v598 v597
  let v605 : BitVec 32 := Scalar.select v603 v604 v598
  let c1_i32_384 : BitVec 32 := 1#32
  let v606 : BitVec 32 := Scalar.muli v605 c1_i32_384
  let v607 : BitVec 32 := Scalar.addi c0_i32_385 v606
  v607.toNat
def k0_dev30 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v608 : BitVec 32 := Scalar.addi v2 c30_i32
  let c32_i32_386 : BitVec 32 := 32#32
  let c0_i32_387 : BitVec 32 := 0#32
  let v609 : BitVec 1 := Scalar.cmpi .eq c32_i32_386 c0_i32_387
  let c1_i32_388 : BitVec 32 := 1#32
  let v610 : BitVec 32 := Scalar.select v609 c1_i32_388 c32_i32_386
  let v611 : BitVec 32 := Scalar.remsi v608 v610
  let c0_i32_390 : BitVec 32 := 0#32
  let v613 : BitVec 1 := Scalar.cmpi .slt v611 c0_i32_390
  let c0_i32_391 : BitVec 32 := 0#32
  let v614 : BitVec 1 := Scalar.cmpi .slt v610 c0_i32_391
  let v615 : BitVec 1 := Scalar.xori v613 v614
  let c0_i32_389 : BitVec 32 := 0#32
  let v612 : BitVec 1 := Scalar.cmpi .ne v611 c0_i32_389
  let v616 : BitVec 1 := Scalar.andi v615 v612
  let v617 : BitVec 32 := Scalar.addi v611 v610
  let v618 : BitVec 32 := Scalar.select v616 v617 v611
  let c1_i32_393 : BitVec 32 := 1#32
  let v619 : BitVec 32 := Scalar.muli v618 c1_i32_393
  let v620 : BitVec 32 := Scalar.addi c0_i32_394 v619
  v620.toNat
def k0_dev31 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_395 : BitVec 32 := 31#32
  let v621 : BitVec 32 := Scalar.addi v2 c31_i32_395
  let c32_i32_396 : BitVec 32 := 32#32
  let c0_i32_397 : BitVec 32 := 0#32
  let v622 : BitVec 1 := Scalar.cmpi .eq c32_i32_396 c0_i32_397
  let c1_i32_398 : BitVec 32 := 1#32
  let v623 : BitVec 32 := Scalar.select v622 c1_i32_398 c32_i32_396
  let v624 : BitVec 32 := Scalar.remsi v621 v623
  let c0_i32_400 : BitVec 32 := 0#32
  let v626 : BitVec 1 := Scalar.cmpi .slt v624 c0_i32_400
  let c0_i32_401 : BitVec 32 := 0#32
  let v627 : BitVec 1 := Scalar.cmpi .slt v623 c0_i32_401
  let v628 : BitVec 1 := Scalar.xori v626 v627
  let c0_i32_399 : BitVec 32 := 0#32
  let v625 : BitVec 1 := Scalar.cmpi .ne v624 c0_i32_399
  let v629 : BitVec 1 := Scalar.andi v628 v625
  let v630 : BitVec 32 := Scalar.addi v624 v623
  let v631 : BitVec 32 := Scalar.select v629 v630 v624
  let c1_i32_403 : BitVec 32 := 1#32
  let v632 : BitVec 32 := Scalar.muli v631 c1_i32_403
  let v633 : BitVec 32 := Scalar.addi c0_i32_404 v632
  v633.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v636 : BitVec 32 := Scalar.muli v2 c128_i32
  let v637 : Index := Scalar.indexCast v636
  let c0_408 : Index := 0#32
  ![v637.toNat, 0]
def k0_off2 (d0 : Dev nD) (c0_i32_409 : BitVec 32) : Fin 2 → Nat :=
  let c8_i32_442 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v641 : BitVec 32 := Scalar.subi v85 c0_i32_409
  let c32_i32_410 : BitVec 32 := 32#32
  let c0_i32_411 : BitVec 32 := 0#32
  let v642 : BitVec 1 := Scalar.cmpi .eq c32_i32_410 c0_i32_411
  let c1_i32_412 : BitVec 32 := 1#32
  let v643 : BitVec 32 := Scalar.select v642 c1_i32_412 c32_i32_410
  let v644 : BitVec 32 := Scalar.remsi v641 v643
  let c0_i32_414 : BitVec 32 := 0#32
  let v646 : BitVec 1 := Scalar.cmpi .slt v644 c0_i32_414
  let c0_i32_415 : BitVec 32 := 0#32
  let v647 : BitVec 1 := Scalar.cmpi .slt v643 c0_i32_415
  let v648 : BitVec 1 := Scalar.xori v646 v647
  let c0_i32_413 : BitVec 32 := 0#32
  let v645 : BitVec 1 := Scalar.cmpi .ne v644 c0_i32_413
  let v649 : BitVec 1 := Scalar.andi v648 v645
  let v650 : BitVec 32 := Scalar.addi v644 v643
  let v651 : BitVec 32 := Scalar.select v649 v650 v644
  let c16_i32_416 : BitVec 32 := 16#32
  let v652 : BitVec 1 := Scalar.cmpi .slt v651 c16_i32_416
  let c31_i32_417 : BitVec 32 := 31#32
  let v653 : BitVec 32 := Scalar.subi c31_i32_417 v651
  let v654 : BitVec 32 := Scalar.select v652 v651 v653
  let c0_i32_422 : BitVec 32 := 0#32
  let v658 : BitVec 1 := Scalar.cmpi .sgt v654 c0_i32_422
  let v659 : BitVec 32 := Scalar.extui v658
  let c0_i32_423 : BitVec 32 := 0#32
  let v660 : BitVec 1 := Scalar.cmpi .slt v654 c0_i32_423
  let v661 : BitVec 32 := Scalar.extui v660
  let v662 : BitVec 32 := Scalar.subi v659 v661
  let c4_i32_421 : BitVec 32 := 4#32
  let c0_i32_424 : BitVec 32 := 0#32
  let v663 : BitVec 1 := Scalar.cmpi .sgt c4_i32_421 c0_i32_424
  let v664 : BitVec 32 := Scalar.extui v663
  let c0_i32_425 : BitVec 32 := 0#32
  let v665 : BitVec 1 := Scalar.cmpi .slt c4_i32_421 c0_i32_425
  let v666 : BitVec 32 := Scalar.extui v665
  let v667 : BitVec 32 := Scalar.subi v664 v666
  let v668 : BitVec 1 := Scalar.cmpi .ne v662 v667
  let v669 : BitVec 32 := Scalar.remsi v654 c4_i32_421
  let c0_i32_426 : BitVec 32 := 0#32
  let v670 : BitVec 1 := Scalar.cmpi .ne v669 c0_i32_426
  let v671 : BitVec 1 := Scalar.andi v668 v670
  let v657 : BitVec 32 := Scalar.divsi v654 c4_i32_421
  let c1_i32_427 : BitVec 32 := 1#32
  let v672 : BitVec 32 := Scalar.subi v657 c1_i32_427
  let v673 : BitVec 32 := Scalar.select v671 v672 v657
  let c2_i32_434 : BitVec 32 := 2#32
  let c0_i32_435 : BitVec 32 := 0#32
  let v684 : BitVec 1 := Scalar.cmpi .eq c2_i32_434 c0_i32_435
  let c1_i32_436 : BitVec 32 := 1#32
  let v685 : BitVec 32 := Scalar.select v684 c1_i32_436 c2_i32_434
  let v686 : BitVec 32 := Scalar.remsi v673 v685
  let c0_i32_438 : BitVec 32 := 0#32
  let v688 : BitVec 1 := Scalar.cmpi .slt v686 c0_i32_438
  let c0_i32_439 : BitVec 32 := 0#32
  let v689 : BitVec 1 := Scalar.cmpi .slt v685 c0_i32_439
  let v690 : BitVec 1 := Scalar.xori v688 v689
  let c0_i32_437 : BitVec 32 := 0#32
  let v687 : BitVec 1 := Scalar.cmpi .ne v686 c0_i32_437
  let v691 : BitVec 1 := Scalar.andi v690 v687
  let v692 : BitVec 32 := Scalar.addi v686 v685
  let v693 : BitVec 32 := Scalar.select v691 v692 v686
  let c0_i32_440 : BitVec 32 := 0#32
  let v694 : BitVec 1 := Scalar.cmpi .eq v693 c0_i32_440
  let c4_i32_428 : BitVec 32 := 4#32
  let c0_i32_429 : BitVec 32 := 0#32
  let v674 : BitVec 1 := Scalar.cmpi .eq c4_i32_428 c0_i32_429
  let c1_i32_430 : BitVec 32 := 1#32
  let v675 : BitVec 32 := Scalar.select v674 c1_i32_430 c4_i32_428
  let v676 : BitVec 32 := Scalar.remsi v654 v675
  let c0_i32_432 : BitVec 32 := 0#32
  let v678 : BitVec 1 := Scalar.cmpi .slt v676 c0_i32_432
  let c0_i32_433 : BitVec 32 := 0#32
  let v679 : BitVec 1 := Scalar.cmpi .slt v675 c0_i32_433
  let v680 : BitVec 1 := Scalar.xori v678 v679
  let c0_i32_431 : BitVec 32 := 0#32
  let v677 : BitVec 1 := Scalar.cmpi .ne v676 c0_i32_431
  let v681 : BitVec 1 := Scalar.andi v680 v677
  let v682 : BitVec 32 := Scalar.addi v676 v675
  let v683 : BitVec 32 := Scalar.select v681 v682 v676
  let c3_i32_441 : BitVec 32 := 3#32
  let v695 : BitVec 32 := Scalar.subi c3_i32_441 v683
  let v696 : BitVec 32 := Scalar.select v694 v683 v695
  let v697 : BitVec 32 := Scalar.muli c8_i32_442 v696
  let c2_i32_443 : BitVec 32 := 2#32
  let v698 : BitVec 32 := Scalar.muli c2_i32_443 v673
  let v699 : BitVec 32 := Scalar.addi v697 v698
  let c16_i32_418 : BitVec 32 := 16#32
  let v655 : BitVec 1 := Scalar.cmpi .slt v651 c16_i32_418
  let c0_i32_419 : BitVec 32 := 0#32
  let c1_i32_420 : BitVec 32 := 1#32
  let v656 : BitVec 32 := Scalar.select v655 c0_i32_419 c1_i32_420
  let c2_i32_444 : BitVec 32 := 2#32
  let c0_i32_445 : BitVec 32 := 0#32
  let v700 : BitVec 1 := Scalar.cmpi .eq c2_i32_444 c0_i32_445
  let c1_i32_446 : BitVec 32 := 1#32
  let v701 : BitVec 32 := Scalar.select v700 c1_i32_446 c2_i32_444
  let v702 : BitVec 32 := Scalar.remsi v673 v701
  let c0_i32_448 : BitVec 32 := 0#32
  let v704 : BitVec 1 := Scalar.cmpi .slt v702 c0_i32_448
  let c0_i32_449 : BitVec 32 := 0#32
  let v705 : BitVec 1 := Scalar.cmpi .slt v701 c0_i32_449
  let v706 : BitVec 1 := Scalar.xori v704 v705
  let c0_i32_447 : BitVec 32 := 0#32
  let v703 : BitVec 1 := Scalar.cmpi .ne v702 c0_i32_447
  let v707 : BitVec 1 := Scalar.andi v706 v703
  let v708 : BitVec 32 := Scalar.addi v702 v701
  let v709 : BitVec 32 := Scalar.select v707 v708 v702
  let v710 : BitVec 32 := Scalar.xori v656 v709
  let v711 : BitVec 32 := Scalar.addi v699 v710
  let c128_i32_491 : BitVec 32 := 128#32
  let v783 : BitVec 32 := Scalar.muli v711 c128_i32_491
  let c0_i32_497 : BitVec 32 := 0#32
  ![v783.toNat, 0]
def k0_dev32 (d0 : Dev nD) : Nat :=
  let c0_i32_496 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_495 : BitVec 32 := 1#32
  let v785 : BitVec 32 := Scalar.muli v156 c1_i32_495
  let v786 : BitVec 32 := Scalar.addi c0_i32_496 v785
  v786.toNat
def k0_off3 (d0 : Dev nD) (c0_i32_450 : BitVec 32) : Fin 2 → Nat :=
  let c8_i32_483 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v712 : BitVec 32 := Scalar.addi v85 c0_i32_450
  let c32_i32_451 : BitVec 32 := 32#32
  let c0_i32_452 : BitVec 32 := 0#32
  let v713 : BitVec 1 := Scalar.cmpi .eq c32_i32_451 c0_i32_452
  let c1_i32_453 : BitVec 32 := 1#32
  let v714 : BitVec 32 := Scalar.select v713 c1_i32_453 c32_i32_451
  let v715 : BitVec 32 := Scalar.remsi v712 v714
  let c0_i32_455 : BitVec 32 := 0#32
  let v717 : BitVec 1 := Scalar.cmpi .slt v715 c0_i32_455
  let c0_i32_456 : BitVec 32 := 0#32
  let v718 : BitVec 1 := Scalar.cmpi .slt v714 c0_i32_456
  let v719 : BitVec 1 := Scalar.xori v717 v718
  let c0_i32_454 : BitVec 32 := 0#32
  let v716 : BitVec 1 := Scalar.cmpi .ne v715 c0_i32_454
  let v720 : BitVec 1 := Scalar.andi v719 v716
  let v721 : BitVec 32 := Scalar.addi v715 v714
  let v722 : BitVec 32 := Scalar.select v720 v721 v715
  let c16_i32_457 : BitVec 32 := 16#32
  let v723 : BitVec 1 := Scalar.cmpi .slt v722 c16_i32_457
  let c31_i32_458 : BitVec 32 := 31#32
  let v724 : BitVec 32 := Scalar.subi c31_i32_458 v722
  let v725 : BitVec 32 := Scalar.select v723 v722 v724
  let c0_i32_463 : BitVec 32 := 0#32
  let v729 : BitVec 1 := Scalar.cmpi .sgt v725 c0_i32_463
  let v730 : BitVec 32 := Scalar.extui v729
  let c0_i32_464 : BitVec 32 := 0#32
  let v731 : BitVec 1 := Scalar.cmpi .slt v725 c0_i32_464
  let v732 : BitVec 32 := Scalar.extui v731
  let v733 : BitVec 32 := Scalar.subi v730 v732
  let c4_i32_462 : BitVec 32 := 4#32
  let c0_i32_465 : BitVec 32 := 0#32
  let v734 : BitVec 1 := Scalar.cmpi .sgt c4_i32_462 c0_i32_465
  let v735 : BitVec 32 := Scalar.extui v734
  let c0_i32_466 : BitVec 32 := 0#32
  let v736 : BitVec 1 := Scalar.cmpi .slt c4_i32_462 c0_i32_466
  let v737 : BitVec 32 := Scalar.extui v736
  let v738 : BitVec 32 := Scalar.subi v735 v737
  let v739 : BitVec 1 := Scalar.cmpi .ne v733 v738
  let v740 : BitVec 32 := Scalar.remsi v725 c4_i32_462
  let c0_i32_467 : BitVec 32 := 0#32
  let v741 : BitVec 1 := Scalar.cmpi .ne v740 c0_i32_467
  let v742 : BitVec 1 := Scalar.andi v739 v741
  let v728 : BitVec 32 := Scalar.divsi v725 c4_i32_462
  let c1_i32_468 : BitVec 32 := 1#32
  let v743 : BitVec 32 := Scalar.subi v728 c1_i32_468
  let v744 : BitVec 32 := Scalar.select v742 v743 v728
  let c2_i32_475 : BitVec 32 := 2#32
  let c0_i32_476 : BitVec 32 := 0#32
  let v755 : BitVec 1 := Scalar.cmpi .eq c2_i32_475 c0_i32_476
  let c1_i32_477 : BitVec 32 := 1#32
  let v756 : BitVec 32 := Scalar.select v755 c1_i32_477 c2_i32_475
  let v757 : BitVec 32 := Scalar.remsi v744 v756
  let c0_i32_479 : BitVec 32 := 0#32
  let v759 : BitVec 1 := Scalar.cmpi .slt v757 c0_i32_479
  let c0_i32_480 : BitVec 32 := 0#32
  let v760 : BitVec 1 := Scalar.cmpi .slt v756 c0_i32_480
  let v761 : BitVec 1 := Scalar.xori v759 v760
  let c0_i32_478 : BitVec 32 := 0#32
  let v758 : BitVec 1 := Scalar.cmpi .ne v757 c0_i32_478
  let v762 : BitVec 1 := Scalar.andi v761 v758
  let v763 : BitVec 32 := Scalar.addi v757 v756
  let v764 : BitVec 32 := Scalar.select v762 v763 v757
  let c0_i32_481 : BitVec 32 := 0#32
  let v765 : BitVec 1 := Scalar.cmpi .eq v764 c0_i32_481
  let c4_i32_469 : BitVec 32 := 4#32
  let c0_i32_470 : BitVec 32 := 0#32
  let v745 : BitVec 1 := Scalar.cmpi .eq c4_i32_469 c0_i32_470
  let c1_i32_471 : BitVec 32 := 1#32
  let v746 : BitVec 32 := Scalar.select v745 c1_i32_471 c4_i32_469
  let v747 : BitVec 32 := Scalar.remsi v725 v746
  let c0_i32_473 : BitVec 32 := 0#32
  let v749 : BitVec 1 := Scalar.cmpi .slt v747 c0_i32_473
  let c0_i32_474 : BitVec 32 := 0#32
  let v750 : BitVec 1 := Scalar.cmpi .slt v746 c0_i32_474
  let v751 : BitVec 1 := Scalar.xori v749 v750
  let c0_i32_472 : BitVec 32 := 0#32
  let v748 : BitVec 1 := Scalar.cmpi .ne v747 c0_i32_472
  let v752 : BitVec 1 := Scalar.andi v751 v748
  let v753 : BitVec 32 := Scalar.addi v747 v746
  let v754 : BitVec 32 := Scalar.select v752 v753 v747
  let c3_i32_482 : BitVec 32 := 3#32
  let v766 : BitVec 32 := Scalar.subi c3_i32_482 v754
  let v767 : BitVec 32 := Scalar.select v765 v754 v766
  let v768 : BitVec 32 := Scalar.muli c8_i32_483 v767
  let c2_i32_484 : BitVec 32 := 2#32
  let v769 : BitVec 32 := Scalar.muli c2_i32_484 v744
  let v770 : BitVec 32 := Scalar.addi v768 v769
  let c16_i32_459 : BitVec 32 := 16#32
  let v726 : BitVec 1 := Scalar.cmpi .slt v722 c16_i32_459
  let c0_i32_460 : BitVec 32 := 0#32
  let c1_i32_461 : BitVec 32 := 1#32
  let v727 : BitVec 32 := Scalar.select v726 c0_i32_460 c1_i32_461
  let c2_i32_485 : BitVec 32 := 2#32
  let c0_i32_486 : BitVec 32 := 0#32
  let v771 : BitVec 1 := Scalar.cmpi .eq c2_i32_485 c0_i32_486
  let c1_i32_487 : BitVec 32 := 1#32
  let v772 : BitVec 32 := Scalar.select v771 c1_i32_487 c2_i32_485
  let v773 : BitVec 32 := Scalar.remsi v744 v772
  let c0_i32_489 : BitVec 32 := 0#32
  let v775 : BitVec 1 := Scalar.cmpi .slt v773 c0_i32_489
  let c0_i32_490 : BitVec 32 := 0#32
  let v776 : BitVec 1 := Scalar.cmpi .slt v772 c0_i32_490
  let v777 : BitVec 1 := Scalar.xori v775 v776
  let c0_i32_488 : BitVec 32 := 0#32
  let v774 : BitVec 1 := Scalar.cmpi .ne v773 c0_i32_488
  let v778 : BitVec 1 := Scalar.andi v777 v774
  let v779 : BitVec 32 := Scalar.addi v773 v772
  let v780 : BitVec 32 := Scalar.select v778 v779 v773
  let v781 : BitVec 32 := Scalar.xori v727 v780
  let v782 : BitVec 32 := Scalar.addi v770 v781
  let c128_i32_492 : BitVec 32 := 128#32
  let v784 : BitVec 32 := Scalar.muli v782 c128_i32_492
  let c0_i32_503 : BitVec 32 := 0#32
  ![v784.toNat, 0]
def k0_dev33 (d0 : Dev nD) : Nat :=
  let c0_i32_502 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_501 : BitVec 32 := 1#32
  let v793 : BitVec 32 := Scalar.muli v227 c1_i32_501
  let v794 : BitVec 32 := Scalar.addi c0_i32_502 v793
  v794.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_505 : BitVec 32 := 128#32
  let v801 : BitVec 32 := Scalar.muli v2 c128_i32_505
  let v807 : Index := Scalar.indexCast v801
  let c0_508 : Index := 0#32
  ![v807.toNat, 0]
def k0_dev34 (d0 : Dev nD) : Nat :=
  let c0_i32_610 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_609 : BitVec 32 := 1#32
  let v970 : BitVec 32 := Scalar.muli v156 c1_i32_609
  let v971 : BitVec 32 := Scalar.addi c0_i32_610 v970
  v971.toNat
def k0_dev35 (d0 : Dev nD) : Nat :=
  let c0_i32_616 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_615 : BitVec 32 := 1#32
  let v978 : BitVec 32 := Scalar.muli v227 c1_i32_615
  let v979 : BitVec 32 := Scalar.addi c0_i32_616 v978
  v979.toNat
def k0_off5 (d0 : Dev nD) (c1_i32_523 : BitVec 32) : Fin 2 → Nat :=
  let c8_i32_556 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v826 : BitVec 32 := Scalar.subi v85 c1_i32_523
  let c32_i32_524 : BitVec 32 := 32#32
  let c0_i32_525 : BitVec 32 := 0#32
  let v827 : BitVec 1 := Scalar.cmpi .eq c32_i32_524 c0_i32_525
  let c1_i32_526 : BitVec 32 := 1#32
  let v828 : BitVec 32 := Scalar.select v827 c1_i32_526 c32_i32_524
  let v829 : BitVec 32 := Scalar.remsi v826 v828
  let c0_i32_528 : BitVec 32 := 0#32
  let v831 : BitVec 1 := Scalar.cmpi .slt v829 c0_i32_528
  let c0_i32_529 : BitVec 32 := 0#32
  let v832 : BitVec 1 := Scalar.cmpi .slt v828 c0_i32_529
  let v833 : BitVec 1 := Scalar.xori v831 v832
  let c0_i32_527 : BitVec 32 := 0#32
  let v830 : BitVec 1 := Scalar.cmpi .ne v829 c0_i32_527
  let v834 : BitVec 1 := Scalar.andi v833 v830
  let v835 : BitVec 32 := Scalar.addi v829 v828
  let v836 : BitVec 32 := Scalar.select v834 v835 v829
  let c16_i32_530 : BitVec 32 := 16#32
  let v837 : BitVec 1 := Scalar.cmpi .slt v836 c16_i32_530
  let c31_i32_531 : BitVec 32 := 31#32
  let v838 : BitVec 32 := Scalar.subi c31_i32_531 v836
  let v839 : BitVec 32 := Scalar.select v837 v836 v838
  let c0_i32_536 : BitVec 32 := 0#32
  let v843 : BitVec 1 := Scalar.cmpi .sgt v839 c0_i32_536
  let v844 : BitVec 32 := Scalar.extui v843
  let c0_i32_537 : BitVec 32 := 0#32
  let v845 : BitVec 1 := Scalar.cmpi .slt v839 c0_i32_537
  let v846 : BitVec 32 := Scalar.extui v845
  let v847 : BitVec 32 := Scalar.subi v844 v846
  let c4_i32_535 : BitVec 32 := 4#32
  let c0_i32_538 : BitVec 32 := 0#32
  let v848 : BitVec 1 := Scalar.cmpi .sgt c4_i32_535 c0_i32_538
  let v849 : BitVec 32 := Scalar.extui v848
  let c0_i32_539 : BitVec 32 := 0#32
  let v850 : BitVec 1 := Scalar.cmpi .slt c4_i32_535 c0_i32_539
  let v851 : BitVec 32 := Scalar.extui v850
  let v852 : BitVec 32 := Scalar.subi v849 v851
  let v853 : BitVec 1 := Scalar.cmpi .ne v847 v852
  let v854 : BitVec 32 := Scalar.remsi v839 c4_i32_535
  let c0_i32_540 : BitVec 32 := 0#32
  let v855 : BitVec 1 := Scalar.cmpi .ne v854 c0_i32_540
  let v856 : BitVec 1 := Scalar.andi v853 v855
  let v842 : BitVec 32 := Scalar.divsi v839 c4_i32_535
  let c1_i32_541 : BitVec 32 := 1#32
  let v857 : BitVec 32 := Scalar.subi v842 c1_i32_541
  let v858 : BitVec 32 := Scalar.select v856 v857 v842
  let c2_i32_548 : BitVec 32 := 2#32
  let c0_i32_549 : BitVec 32 := 0#32
  let v869 : BitVec 1 := Scalar.cmpi .eq c2_i32_548 c0_i32_549
  let c1_i32_550 : BitVec 32 := 1#32
  let v870 : BitVec 32 := Scalar.select v869 c1_i32_550 c2_i32_548
  let v871 : BitVec 32 := Scalar.remsi v858 v870
  let c0_i32_552 : BitVec 32 := 0#32
  let v873 : BitVec 1 := Scalar.cmpi .slt v871 c0_i32_552
  let c0_i32_553 : BitVec 32 := 0#32
  let v874 : BitVec 1 := Scalar.cmpi .slt v870 c0_i32_553
  let v875 : BitVec 1 := Scalar.xori v873 v874
  let c0_i32_551 : BitVec 32 := 0#32
  let v872 : BitVec 1 := Scalar.cmpi .ne v871 c0_i32_551
  let v876 : BitVec 1 := Scalar.andi v875 v872
  let v877 : BitVec 32 := Scalar.addi v871 v870
  let v878 : BitVec 32 := Scalar.select v876 v877 v871
  let c0_i32_554 : BitVec 32 := 0#32
  let v879 : BitVec 1 := Scalar.cmpi .eq v878 c0_i32_554
  let c4_i32_542 : BitVec 32 := 4#32
  let c0_i32_543 : BitVec 32 := 0#32
  let v859 : BitVec 1 := Scalar.cmpi .eq c4_i32_542 c0_i32_543
  let c1_i32_544 : BitVec 32 := 1#32
  let v860 : BitVec 32 := Scalar.select v859 c1_i32_544 c4_i32_542
  let v861 : BitVec 32 := Scalar.remsi v839 v860
  let c0_i32_546 : BitVec 32 := 0#32
  let v863 : BitVec 1 := Scalar.cmpi .slt v861 c0_i32_546
  let c0_i32_547 : BitVec 32 := 0#32
  let v864 : BitVec 1 := Scalar.cmpi .slt v860 c0_i32_547
  let v865 : BitVec 1 := Scalar.xori v863 v864
  let c0_i32_545 : BitVec 32 := 0#32
  let v862 : BitVec 1 := Scalar.cmpi .ne v861 c0_i32_545
  let v866 : BitVec 1 := Scalar.andi v865 v862
  let v867 : BitVec 32 := Scalar.addi v861 v860
  let v868 : BitVec 32 := Scalar.select v866 v867 v861
  let c3_i32_555 : BitVec 32 := 3#32
  let v880 : BitVec 32 := Scalar.subi c3_i32_555 v868
  let v881 : BitVec 32 := Scalar.select v879 v868 v880
  let v882 : BitVec 32 := Scalar.muli c8_i32_556 v881
  let c2_i32_557 : BitVec 32 := 2#32
  let v883 : BitVec 32 := Scalar.muli c2_i32_557 v858
  let v884 : BitVec 32 := Scalar.addi v882 v883
  let c16_i32_532 : BitVec 32 := 16#32
  let v840 : BitVec 1 := Scalar.cmpi .slt v836 c16_i32_532
  let c0_i32_533 : BitVec 32 := 0#32
  let c1_i32_534 : BitVec 32 := 1#32
  let v841 : BitVec 32 := Scalar.select v840 c0_i32_533 c1_i32_534
  let c2_i32_558 : BitVec 32 := 2#32
  let c0_i32_559 : BitVec 32 := 0#32
  let v885 : BitVec 1 := Scalar.cmpi .eq c2_i32_558 c0_i32_559
  let c1_i32_560 : BitVec 32 := 1#32
  let v886 : BitVec 32 := Scalar.select v885 c1_i32_560 c2_i32_558
  let v887 : BitVec 32 := Scalar.remsi v858 v886
  let c0_i32_562 : BitVec 32 := 0#32
  let v889 : BitVec 1 := Scalar.cmpi .slt v887 c0_i32_562
  let c0_i32_563 : BitVec 32 := 0#32
  let v890 : BitVec 1 := Scalar.cmpi .slt v886 c0_i32_563
  let v891 : BitVec 1 := Scalar.xori v889 v890
  let c0_i32_561 : BitVec 32 := 0#32
  let v888 : BitVec 1 := Scalar.cmpi .ne v887 c0_i32_561
  let v892 : BitVec 1 := Scalar.andi v891 v888
  let v893 : BitVec 32 := Scalar.addi v887 v886
  let v894 : BitVec 32 := Scalar.select v892 v893 v887
  let v895 : BitVec 32 := Scalar.xori v841 v894
  let v896 : BitVec 32 := Scalar.addi v884 v895
  let c128_i32_619 : BitVec 32 := 128#32
  let v986 : BitVec 32 := Scalar.muli v896 c128_i32_619
  let v987 : Index := Scalar.indexCast v986
  let c0_620 : Index := 0#32
  ![v987.toNat, 0]
def k0_off6 (d0 : Dev nD) (c1_i32_523 : BitVec 32) : Fin 2 → Nat :=
  let c8_i32_556 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v826 : BitVec 32 := Scalar.subi v85 c1_i32_523
  let c32_i32_524 : BitVec 32 := 32#32
  let c0_i32_525 : BitVec 32 := 0#32
  let v827 : BitVec 1 := Scalar.cmpi .eq c32_i32_524 c0_i32_525
  let c1_i32_526 : BitVec 32 := 1#32
  let v828 : BitVec 32 := Scalar.select v827 c1_i32_526 c32_i32_524
  let v829 : BitVec 32 := Scalar.remsi v826 v828
  let c0_i32_528 : BitVec 32 := 0#32
  let v831 : BitVec 1 := Scalar.cmpi .slt v829 c0_i32_528
  let c0_i32_529 : BitVec 32 := 0#32
  let v832 : BitVec 1 := Scalar.cmpi .slt v828 c0_i32_529
  let v833 : BitVec 1 := Scalar.xori v831 v832
  let c0_i32_527 : BitVec 32 := 0#32
  let v830 : BitVec 1 := Scalar.cmpi .ne v829 c0_i32_527
  let v834 : BitVec 1 := Scalar.andi v833 v830
  let v835 : BitVec 32 := Scalar.addi v829 v828
  let v836 : BitVec 32 := Scalar.select v834 v835 v829
  let c16_i32_530 : BitVec 32 := 16#32
  let v837 : BitVec 1 := Scalar.cmpi .slt v836 c16_i32_530
  let c31_i32_531 : BitVec 32 := 31#32
  let v838 : BitVec 32 := Scalar.subi c31_i32_531 v836
  let v839 : BitVec 32 := Scalar.select v837 v836 v838
  let c0_i32_536 : BitVec 32 := 0#32
  let v843 : BitVec 1 := Scalar.cmpi .sgt v839 c0_i32_536
  let v844 : BitVec 32 := Scalar.extui v843
  let c0_i32_537 : BitVec 32 := 0#32
  let v845 : BitVec 1 := Scalar.cmpi .slt v839 c0_i32_537
  let v846 : BitVec 32 := Scalar.extui v845
  let v847 : BitVec 32 := Scalar.subi v844 v846
  let c4_i32_535 : BitVec 32 := 4#32
  let c0_i32_538 : BitVec 32 := 0#32
  let v848 : BitVec 1 := Scalar.cmpi .sgt c4_i32_535 c0_i32_538
  let v849 : BitVec 32 := Scalar.extui v848
  let c0_i32_539 : BitVec 32 := 0#32
  let v850 : BitVec 1 := Scalar.cmpi .slt c4_i32_535 c0_i32_539
  let v851 : BitVec 32 := Scalar.extui v850
  let v852 : BitVec 32 := Scalar.subi v849 v851
  let v853 : BitVec 1 := Scalar.cmpi .ne v847 v852
  let v854 : BitVec 32 := Scalar.remsi v839 c4_i32_535
  let c0_i32_540 : BitVec 32 := 0#32
  let v855 : BitVec 1 := Scalar.cmpi .ne v854 c0_i32_540
  let v856 : BitVec 1 := Scalar.andi v853 v855
  let v842 : BitVec 32 := Scalar.divsi v839 c4_i32_535
  let c1_i32_541 : BitVec 32 := 1#32
  let v857 : BitVec 32 := Scalar.subi v842 c1_i32_541
  let v858 : BitVec 32 := Scalar.select v856 v857 v842
  let c2_i32_548 : BitVec 32 := 2#32
  let c0_i32_549 : BitVec 32 := 0#32
  let v869 : BitVec 1 := Scalar.cmpi .eq c2_i32_548 c0_i32_549
  let c1_i32_550 : BitVec 32 := 1#32
  let v870 : BitVec 32 := Scalar.select v869 c1_i32_550 c2_i32_548
  let v871 : BitVec 32 := Scalar.remsi v858 v870
  let c0_i32_552 : BitVec 32 := 0#32
  let v873 : BitVec 1 := Scalar.cmpi .slt v871 c0_i32_552
  let c0_i32_553 : BitVec 32 := 0#32
  let v874 : BitVec 1 := Scalar.cmpi .slt v870 c0_i32_553
  let v875 : BitVec 1 := Scalar.xori v873 v874
  let c0_i32_551 : BitVec 32 := 0#32
  let v872 : BitVec 1 := Scalar.cmpi .ne v871 c0_i32_551
  let v876 : BitVec 1 := Scalar.andi v875 v872
  let v877 : BitVec 32 := Scalar.addi v871 v870
  let v878 : BitVec 32 := Scalar.select v876 v877 v871
  let c0_i32_554 : BitVec 32 := 0#32
  let v879 : BitVec 1 := Scalar.cmpi .eq v878 c0_i32_554
  let c4_i32_542 : BitVec 32 := 4#32
  let c0_i32_543 : BitVec 32 := 0#32
  let v859 : BitVec 1 := Scalar.cmpi .eq c4_i32_542 c0_i32_543
  let c1_i32_544 : BitVec 32 := 1#32
  let v860 : BitVec 32 := Scalar.select v859 c1_i32_544 c4_i32_542
  let v861 : BitVec 32 := Scalar.remsi v839 v860
  let c0_i32_546 : BitVec 32 := 0#32
  let v863 : BitVec 1 := Scalar.cmpi .slt v861 c0_i32_546
  let c0_i32_547 : BitVec 32 := 0#32
  let v864 : BitVec 1 := Scalar.cmpi .slt v860 c0_i32_547
  let v865 : BitVec 1 := Scalar.xori v863 v864
  let c0_i32_545 : BitVec 32 := 0#32
  let v862 : BitVec 1 := Scalar.cmpi .ne v861 c0_i32_545
  let v866 : BitVec 1 := Scalar.andi v865 v862
  let v867 : BitVec 32 := Scalar.addi v861 v860
  let v868 : BitVec 32 := Scalar.select v866 v867 v861
  let c3_i32_555 : BitVec 32 := 3#32
  let v880 : BitVec 32 := Scalar.subi c3_i32_555 v868
  let v881 : BitVec 32 := Scalar.select v879 v868 v880
  let v882 : BitVec 32 := Scalar.muli c8_i32_556 v881
  let c2_i32_557 : BitVec 32 := 2#32
  let v883 : BitVec 32 := Scalar.muli c2_i32_557 v858
  let v884 : BitVec 32 := Scalar.addi v882 v883
  let c16_i32_532 : BitVec 32 := 16#32
  let v840 : BitVec 1 := Scalar.cmpi .slt v836 c16_i32_532
  let c0_i32_533 : BitVec 32 := 0#32
  let c1_i32_534 : BitVec 32 := 1#32
  let v841 : BitVec 32 := Scalar.select v840 c0_i32_533 c1_i32_534
  let c2_i32_558 : BitVec 32 := 2#32
  let c0_i32_559 : BitVec 32 := 0#32
  let v885 : BitVec 1 := Scalar.cmpi .eq c2_i32_558 c0_i32_559
  let c1_i32_560 : BitVec 32 := 1#32
  let v886 : BitVec 32 := Scalar.select v885 c1_i32_560 c2_i32_558
  let v887 : BitVec 32 := Scalar.remsi v858 v886
  let c0_i32_562 : BitVec 32 := 0#32
  let v889 : BitVec 1 := Scalar.cmpi .slt v887 c0_i32_562
  let c0_i32_563 : BitVec 32 := 0#32
  let v890 : BitVec 1 := Scalar.cmpi .slt v886 c0_i32_563
  let v891 : BitVec 1 := Scalar.xori v889 v890
  let c0_i32_561 : BitVec 32 := 0#32
  let v888 : BitVec 1 := Scalar.cmpi .ne v887 c0_i32_561
  let v892 : BitVec 1 := Scalar.andi v891 v888
  let v893 : BitVec 32 := Scalar.addi v887 v886
  let v894 : BitVec 32 := Scalar.select v892 v893 v887
  let v895 : BitVec 32 := Scalar.xori v841 v894
  let v896 : BitVec 32 := Scalar.addi v884 v895
  let c128_i32_619 : BitVec 32 := 128#32
  let v986 : BitVec 32 := Scalar.muli v896 c128_i32_619
  let v992 : Index := Scalar.indexCast v986
  let c0_623 : Index := 0#32
  ![v992.toNat, 0]
def k0_off7 (d0 : Dev nD) (c1_i32_564 : BitVec 32) : Fin 2 → Nat :=
  let c8_i32_597 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v897 : BitVec 32 := Scalar.addi v85 c1_i32_564
  let c32_i32_565 : BitVec 32 := 32#32
  let c0_i32_566 : BitVec 32 := 0#32
  let v898 : BitVec 1 := Scalar.cmpi .eq c32_i32_565 c0_i32_566
  let c1_i32_567 : BitVec 32 := 1#32
  let v899 : BitVec 32 := Scalar.select v898 c1_i32_567 c32_i32_565
  let v900 : BitVec 32 := Scalar.remsi v897 v899
  let c0_i32_569 : BitVec 32 := 0#32
  let v902 : BitVec 1 := Scalar.cmpi .slt v900 c0_i32_569
  let c0_i32_570 : BitVec 32 := 0#32
  let v903 : BitVec 1 := Scalar.cmpi .slt v899 c0_i32_570
  let v904 : BitVec 1 := Scalar.xori v902 v903
  let c0_i32_568 : BitVec 32 := 0#32
  let v901 : BitVec 1 := Scalar.cmpi .ne v900 c0_i32_568
  let v905 : BitVec 1 := Scalar.andi v904 v901
  let v906 : BitVec 32 := Scalar.addi v900 v899
  let v907 : BitVec 32 := Scalar.select v905 v906 v900
  let c16_i32_571 : BitVec 32 := 16#32
  let v908 : BitVec 1 := Scalar.cmpi .slt v907 c16_i32_571
  let c31_i32_572 : BitVec 32 := 31#32
  let v909 : BitVec 32 := Scalar.subi c31_i32_572 v907
  let v910 : BitVec 32 := Scalar.select v908 v907 v909
  let c0_i32_577 : BitVec 32 := 0#32
  let v914 : BitVec 1 := Scalar.cmpi .sgt v910 c0_i32_577
  let v915 : BitVec 32 := Scalar.extui v914
  let c0_i32_578 : BitVec 32 := 0#32
  let v916 : BitVec 1 := Scalar.cmpi .slt v910 c0_i32_578
  let v917 : BitVec 32 := Scalar.extui v916
  let v918 : BitVec 32 := Scalar.subi v915 v917
  let c4_i32_576 : BitVec 32 := 4#32
  let c0_i32_579 : BitVec 32 := 0#32
  let v919 : BitVec 1 := Scalar.cmpi .sgt c4_i32_576 c0_i32_579
  let v920 : BitVec 32 := Scalar.extui v919
  let c0_i32_580 : BitVec 32 := 0#32
  let v921 : BitVec 1 := Scalar.cmpi .slt c4_i32_576 c0_i32_580
  let v922 : BitVec 32 := Scalar.extui v921
  let v923 : BitVec 32 := Scalar.subi v920 v922
  let v924 : BitVec 1 := Scalar.cmpi .ne v918 v923
  let v925 : BitVec 32 := Scalar.remsi v910 c4_i32_576
  let c0_i32_581 : BitVec 32 := 0#32
  let v926 : BitVec 1 := Scalar.cmpi .ne v925 c0_i32_581
  let v927 : BitVec 1 := Scalar.andi v924 v926
  let v913 : BitVec 32 := Scalar.divsi v910 c4_i32_576
  let c1_i32_582 : BitVec 32 := 1#32
  let v928 : BitVec 32 := Scalar.subi v913 c1_i32_582
  let v929 : BitVec 32 := Scalar.select v927 v928 v913
  let c2_i32_589 : BitVec 32 := 2#32
  let c0_i32_590 : BitVec 32 := 0#32
  let v940 : BitVec 1 := Scalar.cmpi .eq c2_i32_589 c0_i32_590
  let c1_i32_591 : BitVec 32 := 1#32
  let v941 : BitVec 32 := Scalar.select v940 c1_i32_591 c2_i32_589
  let v942 : BitVec 32 := Scalar.remsi v929 v941
  let c0_i32_593 : BitVec 32 := 0#32
  let v944 : BitVec 1 := Scalar.cmpi .slt v942 c0_i32_593
  let c0_i32_594 : BitVec 32 := 0#32
  let v945 : BitVec 1 := Scalar.cmpi .slt v941 c0_i32_594
  let v946 : BitVec 1 := Scalar.xori v944 v945
  let c0_i32_592 : BitVec 32 := 0#32
  let v943 : BitVec 1 := Scalar.cmpi .ne v942 c0_i32_592
  let v947 : BitVec 1 := Scalar.andi v946 v943
  let v948 : BitVec 32 := Scalar.addi v942 v941
  let v949 : BitVec 32 := Scalar.select v947 v948 v942
  let c0_i32_595 : BitVec 32 := 0#32
  let v950 : BitVec 1 := Scalar.cmpi .eq v949 c0_i32_595
  let c4_i32_583 : BitVec 32 := 4#32
  let c0_i32_584 : BitVec 32 := 0#32
  let v930 : BitVec 1 := Scalar.cmpi .eq c4_i32_583 c0_i32_584
  let c1_i32_585 : BitVec 32 := 1#32
  let v931 : BitVec 32 := Scalar.select v930 c1_i32_585 c4_i32_583
  let v932 : BitVec 32 := Scalar.remsi v910 v931
  let c0_i32_587 : BitVec 32 := 0#32
  let v934 : BitVec 1 := Scalar.cmpi .slt v932 c0_i32_587
  let c0_i32_588 : BitVec 32 := 0#32
  let v935 : BitVec 1 := Scalar.cmpi .slt v931 c0_i32_588
  let v936 : BitVec 1 := Scalar.xori v934 v935
  let c0_i32_586 : BitVec 32 := 0#32
  let v933 : BitVec 1 := Scalar.cmpi .ne v932 c0_i32_586
  let v937 : BitVec 1 := Scalar.andi v936 v933
  let v938 : BitVec 32 := Scalar.addi v932 v931
  let v939 : BitVec 32 := Scalar.select v937 v938 v932
  let c3_i32_596 : BitVec 32 := 3#32
  let v951 : BitVec 32 := Scalar.subi c3_i32_596 v939
  let v952 : BitVec 32 := Scalar.select v950 v939 v951
  let v953 : BitVec 32 := Scalar.muli c8_i32_597 v952
  let c2_i32_598 : BitVec 32 := 2#32
  let v954 : BitVec 32 := Scalar.muli c2_i32_598 v929
  let v955 : BitVec 32 := Scalar.addi v953 v954
  let c16_i32_573 : BitVec 32 := 16#32
  let v911 : BitVec 1 := Scalar.cmpi .slt v907 c16_i32_573
  let c0_i32_574 : BitVec 32 := 0#32
  let c1_i32_575 : BitVec 32 := 1#32
  let v912 : BitVec 32 := Scalar.select v911 c0_i32_574 c1_i32_575
  let c2_i32_599 : BitVec 32 := 2#32
  let c0_i32_600 : BitVec 32 := 0#32
  let v956 : BitVec 1 := Scalar.cmpi .eq c2_i32_599 c0_i32_600
  let c1_i32_601 : BitVec 32 := 1#32
  let v957 : BitVec 32 := Scalar.select v956 c1_i32_601 c2_i32_599
  let v958 : BitVec 32 := Scalar.remsi v929 v957
  let c0_i32_603 : BitVec 32 := 0#32
  let v960 : BitVec 1 := Scalar.cmpi .slt v958 c0_i32_603
  let c0_i32_604 : BitVec 32 := 0#32
  let v961 : BitVec 1 := Scalar.cmpi .slt v957 c0_i32_604
  let v962 : BitVec 1 := Scalar.xori v960 v961
  let c0_i32_602 : BitVec 32 := 0#32
  let v959 : BitVec 1 := Scalar.cmpi .ne v958 c0_i32_602
  let v963 : BitVec 1 := Scalar.andi v962 v959
  let v964 : BitVec 32 := Scalar.addi v958 v957
  let v965 : BitVec 32 := Scalar.select v963 v964 v958
  let v966 : BitVec 32 := Scalar.xori v912 v965
  let v967 : BitVec 32 := Scalar.addi v955 v966
  let c128_i32_625 : BitVec 32 := 128#32
  let v999 : BitVec 32 := Scalar.muli v967 c128_i32_625
  let v1000 : Index := Scalar.indexCast v999
  let c0_626 : Index := 0#32
  ![v1000.toNat, 0]
def k0_off8 (d0 : Dev nD) (c1_i32_564 : BitVec 32) : Fin 2 → Nat :=
  let c8_i32_597 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let v897 : BitVec 32 := Scalar.addi v85 c1_i32_564
  let c32_i32_565 : BitVec 32 := 32#32
  let c0_i32_566 : BitVec 32 := 0#32
  let v898 : BitVec 1 := Scalar.cmpi .eq c32_i32_565 c0_i32_566
  let c1_i32_567 : BitVec 32 := 1#32
  let v899 : BitVec 32 := Scalar.select v898 c1_i32_567 c32_i32_565
  let v900 : BitVec 32 := Scalar.remsi v897 v899
  let c0_i32_569 : BitVec 32 := 0#32
  let v902 : BitVec 1 := Scalar.cmpi .slt v900 c0_i32_569
  let c0_i32_570 : BitVec 32 := 0#32
  let v903 : BitVec 1 := Scalar.cmpi .slt v899 c0_i32_570
  let v904 : BitVec 1 := Scalar.xori v902 v903
  let c0_i32_568 : BitVec 32 := 0#32
  let v901 : BitVec 1 := Scalar.cmpi .ne v900 c0_i32_568
  let v905 : BitVec 1 := Scalar.andi v904 v901
  let v906 : BitVec 32 := Scalar.addi v900 v899
  let v907 : BitVec 32 := Scalar.select v905 v906 v900
  let c16_i32_571 : BitVec 32 := 16#32
  let v908 : BitVec 1 := Scalar.cmpi .slt v907 c16_i32_571
  let c31_i32_572 : BitVec 32 := 31#32
  let v909 : BitVec 32 := Scalar.subi c31_i32_572 v907
  let v910 : BitVec 32 := Scalar.select v908 v907 v909
  let c0_i32_577 : BitVec 32 := 0#32
  let v914 : BitVec 1 := Scalar.cmpi .sgt v910 c0_i32_577
  let v915 : BitVec 32 := Scalar.extui v914
  let c0_i32_578 : BitVec 32 := 0#32
  let v916 : BitVec 1 := Scalar.cmpi .slt v910 c0_i32_578
  let v917 : BitVec 32 := Scalar.extui v916
  let v918 : BitVec 32 := Scalar.subi v915 v917
  let c4_i32_576 : BitVec 32 := 4#32
  let c0_i32_579 : BitVec 32 := 0#32
  let v919 : BitVec 1 := Scalar.cmpi .sgt c4_i32_576 c0_i32_579
  let v920 : BitVec 32 := Scalar.extui v919
  let c0_i32_580 : BitVec 32 := 0#32
  let v921 : BitVec 1 := Scalar.cmpi .slt c4_i32_576 c0_i32_580
  let v922 : BitVec 32 := Scalar.extui v921
  let v923 : BitVec 32 := Scalar.subi v920 v922
  let v924 : BitVec 1 := Scalar.cmpi .ne v918 v923
  let v925 : BitVec 32 := Scalar.remsi v910 c4_i32_576
  let c0_i32_581 : BitVec 32 := 0#32
  let v926 : BitVec 1 := Scalar.cmpi .ne v925 c0_i32_581
  let v927 : BitVec 1 := Scalar.andi v924 v926
  let v913 : BitVec 32 := Scalar.divsi v910 c4_i32_576
  let c1_i32_582 : BitVec 32 := 1#32
  let v928 : BitVec 32 := Scalar.subi v913 c1_i32_582
  let v929 : BitVec 32 := Scalar.select v927 v928 v913
  let c2_i32_589 : BitVec 32 := 2#32
  let c0_i32_590 : BitVec 32 := 0#32
  let v940 : BitVec 1 := Scalar.cmpi .eq c2_i32_589 c0_i32_590
  let c1_i32_591 : BitVec 32 := 1#32
  let v941 : BitVec 32 := Scalar.select v940 c1_i32_591 c2_i32_589
  let v942 : BitVec 32 := Scalar.remsi v929 v941
  let c0_i32_593 : BitVec 32 := 0#32
  let v944 : BitVec 1 := Scalar.cmpi .slt v942 c0_i32_593
  let c0_i32_594 : BitVec 32 := 0#32
  let v945 : BitVec 1 := Scalar.cmpi .slt v941 c0_i32_594
  let v946 : BitVec 1 := Scalar.xori v944 v945
  let c0_i32_592 : BitVec 32 := 0#32
  let v943 : BitVec 1 := Scalar.cmpi .ne v942 c0_i32_592
  let v947 : BitVec 1 := Scalar.andi v946 v943
  let v948 : BitVec 32 := Scalar.addi v942 v941
  let v949 : BitVec 32 := Scalar.select v947 v948 v942
  let c0_i32_595 : BitVec 32 := 0#32
  let v950 : BitVec 1 := Scalar.cmpi .eq v949 c0_i32_595
  let c4_i32_583 : BitVec 32 := 4#32
  let c0_i32_584 : BitVec 32 := 0#32
  let v930 : BitVec 1 := Scalar.cmpi .eq c4_i32_583 c0_i32_584
  let c1_i32_585 : BitVec 32 := 1#32
  let v931 : BitVec 32 := Scalar.select v930 c1_i32_585 c4_i32_583
  let v932 : BitVec 32 := Scalar.remsi v910 v931
  let c0_i32_587 : BitVec 32 := 0#32
  let v934 : BitVec 1 := Scalar.cmpi .slt v932 c0_i32_587
  let c0_i32_588 : BitVec 32 := 0#32
  let v935 : BitVec 1 := Scalar.cmpi .slt v931 c0_i32_588
  let v936 : BitVec 1 := Scalar.xori v934 v935
  let c0_i32_586 : BitVec 32 := 0#32
  let v933 : BitVec 1 := Scalar.cmpi .ne v932 c0_i32_586
  let v937 : BitVec 1 := Scalar.andi v936 v933
  let v938 : BitVec 32 := Scalar.addi v932 v931
  let v939 : BitVec 32 := Scalar.select v937 v938 v932
  let c3_i32_596 : BitVec 32 := 3#32
  let v951 : BitVec 32 := Scalar.subi c3_i32_596 v939
  let v952 : BitVec 32 := Scalar.select v950 v939 v951
  let v953 : BitVec 32 := Scalar.muli c8_i32_597 v952
  let c2_i32_598 : BitVec 32 := 2#32
  let v954 : BitVec 32 := Scalar.muli c2_i32_598 v929
  let v955 : BitVec 32 := Scalar.addi v953 v954
  let c16_i32_573 : BitVec 32 := 16#32
  let v911 : BitVec 1 := Scalar.cmpi .slt v907 c16_i32_573
  let c0_i32_574 : BitVec 32 := 0#32
  let c1_i32_575 : BitVec 32 := 1#32
  let v912 : BitVec 32 := Scalar.select v911 c0_i32_574 c1_i32_575
  let c2_i32_599 : BitVec 32 := 2#32
  let c0_i32_600 : BitVec 32 := 0#32
  let v956 : BitVec 1 := Scalar.cmpi .eq c2_i32_599 c0_i32_600
  let c1_i32_601 : BitVec 32 := 1#32
  let v957 : BitVec 32 := Scalar.select v956 c1_i32_601 c2_i32_599
  let v958 : BitVec 32 := Scalar.remsi v929 v957
  let c0_i32_603 : BitVec 32 := 0#32
  let v960 : BitVec 1 := Scalar.cmpi .slt v958 c0_i32_603
  let c0_i32_604 : BitVec 32 := 0#32
  let v961 : BitVec 1 := Scalar.cmpi .slt v957 c0_i32_604
  let v962 : BitVec 1 := Scalar.xori v960 v961
  let c0_i32_602 : BitVec 32 := 0#32
  let v959 : BitVec 1 := Scalar.cmpi .ne v958 c0_i32_602
  let v963 : BitVec 1 := Scalar.andi v962 v959
  let v964 : BitVec 32 := Scalar.addi v958 v957
  let v965 : BitVec 32 := Scalar.select v963 v964 v958
  let v966 : BitVec 32 := Scalar.xori v912 v965
  let v967 : BitVec 32 := Scalar.addi v955 v966
  let c128_i32_625 : BitVec 32 := 128#32
  let v999 : BitVec 32 := Scalar.muli v967 c128_i32_625
  let v1005 : Index := Scalar.indexCast v999
  let c0_629 : Index := 0#32
  ![v1005.toNat, 0]
def k0_dev36 (d0 : Dev nD) : Nat :=
  let c0_i32_730 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_729 : BitVec 32 := 1#32
  let v1168 : BitVec 32 := Scalar.muli v156 c1_i32_729
  let v1169 : BitVec 32 := Scalar.addi c0_i32_730 v1168
  v1169.toNat
def k0_dev37 (d0 : Dev nD) : Nat :=
  let c0_i32_736 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_735 : BitVec 32 := 1#32
  let v1176 : BitVec 32 := Scalar.muli v227 c1_i32_735
  let v1177 : BitVec 32 := Scalar.addi c0_i32_736 v1176
  v1177.toNat
def k0_dev38 (d0 : Dev nD) : Nat :=
  let c0_i32_850 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_849 : BitVec 32 := 1#32
  let v1366 : BitVec 32 := Scalar.muli v156 c1_i32_849
  let v1367 : BitVec 32 := Scalar.addi c0_i32_850 v1366
  v1367.toNat
def k0_dev39 (d0 : Dev nD) : Nat :=
  let c0_i32_856 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_855 : BitVec 32 := 1#32
  let v1374 : BitVec 32 := Scalar.muli v227 c1_i32_855
  let v1375 : BitVec 32 := Scalar.addi c0_i32_856 v1374
  v1375.toNat
def k0_dev40 (d0 : Dev nD) : Nat :=
  let c0_i32_970 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_969 : BitVec 32 := 1#32
  let v1564 : BitVec 32 := Scalar.muli v156 c1_i32_969
  let v1565 : BitVec 32 := Scalar.addi c0_i32_970 v1564
  v1565.toNat
def k0_dev41 (d0 : Dev nD) : Nat :=
  let c0_i32_976 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_975 : BitVec 32 := 1#32
  let v1572 : BitVec 32 := Scalar.muli v227 c1_i32_975
  let v1573 : BitVec 32 := Scalar.addi c0_i32_976 v1572
  v1573.toNat
def k0_dev42 (d0 : Dev nD) : Nat :=
  let c0_i32_1090 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1089 : BitVec 32 := 1#32
  let v1762 : BitVec 32 := Scalar.muli v156 c1_i32_1089
  let v1763 : BitVec 32 := Scalar.addi c0_i32_1090 v1762
  v1763.toNat
def k0_dev43 (d0 : Dev nD) : Nat :=
  let c0_i32_1096 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1095 : BitVec 32 := 1#32
  let v1770 : BitVec 32 := Scalar.muli v227 c1_i32_1095
  let v1771 : BitVec 32 := Scalar.addi c0_i32_1096 v1770
  v1771.toNat
def k0_dev44 (d0 : Dev nD) : Nat :=
  let c0_i32_1210 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1209 : BitVec 32 := 1#32
  let v1960 : BitVec 32 := Scalar.muli v156 c1_i32_1209
  let v1961 : BitVec 32 := Scalar.addi c0_i32_1210 v1960
  v1961.toNat
def k0_dev45 (d0 : Dev nD) : Nat :=
  let c0_i32_1216 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1215 : BitVec 32 := 1#32
  let v1968 : BitVec 32 := Scalar.muli v227 c1_i32_1215
  let v1969 : BitVec 32 := Scalar.addi c0_i32_1216 v1968
  v1969.toNat
def k0_dev46 (d0 : Dev nD) : Nat :=
  let c0_i32_1330 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1329 : BitVec 32 := 1#32
  let v2158 : BitVec 32 := Scalar.muli v156 c1_i32_1329
  let v2159 : BitVec 32 := Scalar.addi c0_i32_1330 v2158
  v2159.toNat
def k0_dev47 (d0 : Dev nD) : Nat :=
  let c0_i32_1336 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1335 : BitVec 32 := 1#32
  let v2166 : BitVec 32 := Scalar.muli v227 c1_i32_1335
  let v2167 : BitVec 32 := Scalar.addi c0_i32_1336 v2166
  v2167.toNat
def k0_dev48 (d0 : Dev nD) : Nat :=
  let c0_i32_1450 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1449 : BitVec 32 := 1#32
  let v2356 : BitVec 32 := Scalar.muli v156 c1_i32_1449
  let v2357 : BitVec 32 := Scalar.addi c0_i32_1450 v2356
  v2357.toNat
def k0_dev49 (d0 : Dev nD) : Nat :=
  let c0_i32_1456 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1455 : BitVec 32 := 1#32
  let v2364 : BitVec 32 := Scalar.muli v227 c1_i32_1455
  let v2365 : BitVec 32 := Scalar.addi c0_i32_1456 v2364
  v2365.toNat
def k0_dev50 (d0 : Dev nD) : Nat :=
  let c0_i32_1570 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1569 : BitVec 32 := 1#32
  let v2554 : BitVec 32 := Scalar.muli v156 c1_i32_1569
  let v2555 : BitVec 32 := Scalar.addi c0_i32_1570 v2554
  v2555.toNat
def k0_dev51 (d0 : Dev nD) : Nat :=
  let c0_i32_1576 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1575 : BitVec 32 := 1#32
  let v2562 : BitVec 32 := Scalar.muli v227 c1_i32_1575
  let v2563 : BitVec 32 := Scalar.addi c0_i32_1576 v2562
  v2563.toNat
def k0_dev52 (d0 : Dev nD) : Nat :=
  let c0_i32_1690 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1689 : BitVec 32 := 1#32
  let v2752 : BitVec 32 := Scalar.muli v156 c1_i32_1689
  let v2753 : BitVec 32 := Scalar.addi c0_i32_1690 v2752
  v2753.toNat
def k0_dev53 (d0 : Dev nD) : Nat :=
  let c0_i32_1696 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1695 : BitVec 32 := 1#32
  let v2760 : BitVec 32 := Scalar.muli v227 c1_i32_1695
  let v2761 : BitVec 32 := Scalar.addi c0_i32_1696 v2760
  v2761.toNat
def k0_dev54 (d0 : Dev nD) : Nat :=
  let c0_i32_1810 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1809 : BitVec 32 := 1#32
  let v2950 : BitVec 32 := Scalar.muli v156 c1_i32_1809
  let v2951 : BitVec 32 := Scalar.addi c0_i32_1810 v2950
  v2951.toNat
def k0_dev55 (d0 : Dev nD) : Nat :=
  let c0_i32_1816 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1815 : BitVec 32 := 1#32
  let v2958 : BitVec 32 := Scalar.muli v227 c1_i32_1815
  let v2959 : BitVec 32 := Scalar.addi c0_i32_1816 v2958
  v2959.toNat
def k0_dev56 (d0 : Dev nD) : Nat :=
  let c0_i32_1930 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_1929 : BitVec 32 := 1#32
  let v3148 : BitVec 32 := Scalar.muli v156 c1_i32_1929
  let v3149 : BitVec 32 := Scalar.addi c0_i32_1930 v3148
  v3149.toNat
def k0_dev57 (d0 : Dev nD) : Nat :=
  let c0_i32_1936 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_1935 : BitVec 32 := 1#32
  let v3156 : BitVec 32 := Scalar.muli v227 c1_i32_1935
  let v3157 : BitVec 32 := Scalar.addi c0_i32_1936 v3156
  v3157.toNat
def k0_dev58 (d0 : Dev nD) : Nat :=
  let c0_i32_2050 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_2049 : BitVec 32 := 1#32
  let v3346 : BitVec 32 := Scalar.muli v156 c1_i32_2049
  let v3347 : BitVec 32 := Scalar.addi c0_i32_2050 v3346
  v3347.toNat
def k0_dev59 (d0 : Dev nD) : Nat :=
  let c0_i32_2056 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_2055 : BitVec 32 := 1#32
  let v3354 : BitVec 32 := Scalar.muli v227 c1_i32_2055
  let v3355 : BitVec 32 := Scalar.addi c0_i32_2056 v3354
  v3355.toNat
def k0_dev60 (d0 : Dev nD) : Nat :=
  let c0_i32_2170 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_2169 : BitVec 32 := 1#32
  let v3544 : BitVec 32 := Scalar.muli v156 c1_i32_2169
  let v3545 : BitVec 32 := Scalar.addi c0_i32_2170 v3544
  v3545.toNat
def k0_dev61 (d0 : Dev nD) : Nat :=
  let c0_i32_2176 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_2175 : BitVec 32 := 1#32
  let v3552 : BitVec 32 := Scalar.muli v227 c1_i32_2175
  let v3553 : BitVec 32 := Scalar.addi c0_i32_2176 v3552
  v3553.toNat
def k0_off9 (d0 : Dev nD) : Fin 2 → Nat :=
  let c8_i32_2236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c15_i32_2203 : BitVec 32 := 15#32
  let v3598 : BitVec 32 := Scalar.subi v85 c15_i32_2203
  let c32_i32_2204 : BitVec 32 := 32#32
  let c0_i32_2205 : BitVec 32 := 0#32
  let v3599 : BitVec 1 := Scalar.cmpi .eq c32_i32_2204 c0_i32_2205
  let c1_i32_2206 : BitVec 32 := 1#32
  let v3600 : BitVec 32 := Scalar.select v3599 c1_i32_2206 c32_i32_2204
  let v3601 : BitVec 32 := Scalar.remsi v3598 v3600
  let c0_i32_2208 : BitVec 32 := 0#32
  let v3603 : BitVec 1 := Scalar.cmpi .slt v3601 c0_i32_2208
  let c0_i32_2209 : BitVec 32 := 0#32
  let v3604 : BitVec 1 := Scalar.cmpi .slt v3600 c0_i32_2209
  let v3605 : BitVec 1 := Scalar.xori v3603 v3604
  let c0_i32_2207 : BitVec 32 := 0#32
  let v3602 : BitVec 1 := Scalar.cmpi .ne v3601 c0_i32_2207
  let v3606 : BitVec 1 := Scalar.andi v3605 v3602
  let v3607 : BitVec 32 := Scalar.addi v3601 v3600
  let v3608 : BitVec 32 := Scalar.select v3606 v3607 v3601
  let c16_i32_2210 : BitVec 32 := 16#32
  let v3609 : BitVec 1 := Scalar.cmpi .slt v3608 c16_i32_2210
  let c31_i32_2211 : BitVec 32 := 31#32
  let v3610 : BitVec 32 := Scalar.subi c31_i32_2211 v3608
  let v3611 : BitVec 32 := Scalar.select v3609 v3608 v3610
  let c0_i32_2216 : BitVec 32 := 0#32
  let v3615 : BitVec 1 := Scalar.cmpi .sgt v3611 c0_i32_2216
  let v3616 : BitVec 32 := Scalar.extui v3615
  let c0_i32_2217 : BitVec 32 := 0#32
  let v3617 : BitVec 1 := Scalar.cmpi .slt v3611 c0_i32_2217
  let v3618 : BitVec 32 := Scalar.extui v3617
  let v3619 : BitVec 32 := Scalar.subi v3616 v3618
  let c4_i32_2215 : BitVec 32 := 4#32
  let c0_i32_2218 : BitVec 32 := 0#32
  let v3620 : BitVec 1 := Scalar.cmpi .sgt c4_i32_2215 c0_i32_2218
  let v3621 : BitVec 32 := Scalar.extui v3620
  let c0_i32_2219 : BitVec 32 := 0#32
  let v3622 : BitVec 1 := Scalar.cmpi .slt c4_i32_2215 c0_i32_2219
  let v3623 : BitVec 32 := Scalar.extui v3622
  let v3624 : BitVec 32 := Scalar.subi v3621 v3623
  let v3625 : BitVec 1 := Scalar.cmpi .ne v3619 v3624
  let v3626 : BitVec 32 := Scalar.remsi v3611 c4_i32_2215
  let c0_i32_2220 : BitVec 32 := 0#32
  let v3627 : BitVec 1 := Scalar.cmpi .ne v3626 c0_i32_2220
  let v3628 : BitVec 1 := Scalar.andi v3625 v3627
  let v3614 : BitVec 32 := Scalar.divsi v3611 c4_i32_2215
  let c1_i32_2221 : BitVec 32 := 1#32
  let v3629 : BitVec 32 := Scalar.subi v3614 c1_i32_2221
  let v3630 : BitVec 32 := Scalar.select v3628 v3629 v3614
  let c2_i32_2228 : BitVec 32 := 2#32
  let c0_i32_2229 : BitVec 32 := 0#32
  let v3641 : BitVec 1 := Scalar.cmpi .eq c2_i32_2228 c0_i32_2229
  let c1_i32_2230 : BitVec 32 := 1#32
  let v3642 : BitVec 32 := Scalar.select v3641 c1_i32_2230 c2_i32_2228
  let v3643 : BitVec 32 := Scalar.remsi v3630 v3642
  let c0_i32_2232 : BitVec 32 := 0#32
  let v3645 : BitVec 1 := Scalar.cmpi .slt v3643 c0_i32_2232
  let c0_i32_2233 : BitVec 32 := 0#32
  let v3646 : BitVec 1 := Scalar.cmpi .slt v3642 c0_i32_2233
  let v3647 : BitVec 1 := Scalar.xori v3645 v3646
  let c0_i32_2231 : BitVec 32 := 0#32
  let v3644 : BitVec 1 := Scalar.cmpi .ne v3643 c0_i32_2231
  let v3648 : BitVec 1 := Scalar.andi v3647 v3644
  let v3649 : BitVec 32 := Scalar.addi v3643 v3642
  let v3650 : BitVec 32 := Scalar.select v3648 v3649 v3643
  let c0_i32_2234 : BitVec 32 := 0#32
  let v3651 : BitVec 1 := Scalar.cmpi .eq v3650 c0_i32_2234
  let c4_i32_2222 : BitVec 32 := 4#32
  let c0_i32_2223 : BitVec 32 := 0#32
  let v3631 : BitVec 1 := Scalar.cmpi .eq c4_i32_2222 c0_i32_2223
  let c1_i32_2224 : BitVec 32 := 1#32
  let v3632 : BitVec 32 := Scalar.select v3631 c1_i32_2224 c4_i32_2222
  let v3633 : BitVec 32 := Scalar.remsi v3611 v3632
  let c0_i32_2226 : BitVec 32 := 0#32
  let v3635 : BitVec 1 := Scalar.cmpi .slt v3633 c0_i32_2226
  let c0_i32_2227 : BitVec 32 := 0#32
  let v3636 : BitVec 1 := Scalar.cmpi .slt v3632 c0_i32_2227
  let v3637 : BitVec 1 := Scalar.xori v3635 v3636
  let c0_i32_2225 : BitVec 32 := 0#32
  let v3634 : BitVec 1 := Scalar.cmpi .ne v3633 c0_i32_2225
  let v3638 : BitVec 1 := Scalar.andi v3637 v3634
  let v3639 : BitVec 32 := Scalar.addi v3633 v3632
  let v3640 : BitVec 32 := Scalar.select v3638 v3639 v3633
  let c3_i32_2235 : BitVec 32 := 3#32
  let v3652 : BitVec 32 := Scalar.subi c3_i32_2235 v3640
  let v3653 : BitVec 32 := Scalar.select v3651 v3640 v3652
  let v3654 : BitVec 32 := Scalar.muli c8_i32_2236 v3653
  let c2_i32_2237 : BitVec 32 := 2#32
  let v3655 : BitVec 32 := Scalar.muli c2_i32_2237 v3630
  let v3656 : BitVec 32 := Scalar.addi v3654 v3655
  let c16_i32_2212 : BitVec 32 := 16#32
  let v3612 : BitVec 1 := Scalar.cmpi .slt v3608 c16_i32_2212
  let c0_i32_2213 : BitVec 32 := 0#32
  let c1_i32_2214 : BitVec 32 := 1#32
  let v3613 : BitVec 32 := Scalar.select v3612 c0_i32_2213 c1_i32_2214
  let c2_i32_2238 : BitVec 32 := 2#32
  let c0_i32_2239 : BitVec 32 := 0#32
  let v3657 : BitVec 1 := Scalar.cmpi .eq c2_i32_2238 c0_i32_2239
  let c1_i32_2240 : BitVec 32 := 1#32
  let v3658 : BitVec 32 := Scalar.select v3657 c1_i32_2240 c2_i32_2238
  let v3659 : BitVec 32 := Scalar.remsi v3630 v3658
  let c0_i32_2242 : BitVec 32 := 0#32
  let v3661 : BitVec 1 := Scalar.cmpi .slt v3659 c0_i32_2242
  let c0_i32_2243 : BitVec 32 := 0#32
  let v3662 : BitVec 1 := Scalar.cmpi .slt v3658 c0_i32_2243
  let v3663 : BitVec 1 := Scalar.xori v3661 v3662
  let c0_i32_2241 : BitVec 32 := 0#32
  let v3660 : BitVec 1 := Scalar.cmpi .ne v3659 c0_i32_2241
  let v3664 : BitVec 1 := Scalar.andi v3663 v3660
  let v3665 : BitVec 32 := Scalar.addi v3659 v3658
  let v3666 : BitVec 32 := Scalar.select v3664 v3665 v3659
  let v3667 : BitVec 32 := Scalar.xori v3613 v3666
  let v3668 : BitVec 32 := Scalar.addi v3656 v3667
  let c128_i32_2285 : BitVec 32 := 128#32
  let v3740 : BitVec 32 := Scalar.muli v3668 c128_i32_2285
  let c0_i32_2291 : BitVec 32 := 0#32
  ![v3740.toNat, 0]
def k0_dev62 (d0 : Dev nD) : Nat :=
  let c0_i32_2290 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_37 : BitVec 32 := 1#32
  let v86 : BitVec 32 := Scalar.addi v85 c1_i32_37
  let c32_i32_38 : BitVec 32 := 32#32
  let c0_i32_39 : BitVec 32 := 0#32
  let v87 : BitVec 1 := Scalar.cmpi .eq c32_i32_38 c0_i32_39
  let c1_i32_40 : BitVec 32 := 1#32
  let v88 : BitVec 32 := Scalar.select v87 c1_i32_40 c32_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let c16_i32 : BitVec 32 := 16#32
  let v97 : BitVec 1 := Scalar.cmpi .slt v96 c16_i32
  let c31_i32_44 : BitVec 32 := 31#32
  let v98 : BitVec 32 := Scalar.subi c31_i32_44 v96
  let v99 : BitVec 32 := Scalar.select v97 v96 v98
  let c0_i32_49 : BitVec 32 := 0#32
  let v103 : BitVec 1 := Scalar.cmpi .sgt v99 c0_i32_49
  let v104 : BitVec 32 := Scalar.extui v103
  let c0_i32_50 : BitVec 32 := 0#32
  let v105 : BitVec 1 := Scalar.cmpi .slt v99 c0_i32_50
  let v106 : BitVec 32 := Scalar.extui v105
  let v107 : BitVec 32 := Scalar.subi v104 v106
  let c4_i32_48 : BitVec 32 := 4#32
  let c0_i32_51 : BitVec 32 := 0#32
  let v108 : BitVec 1 := Scalar.cmpi .sgt c4_i32_48 c0_i32_51
  let v109 : BitVec 32 := Scalar.extui v108
  let c0_i32_52 : BitVec 32 := 0#32
  let v110 : BitVec 1 := Scalar.cmpi .slt c4_i32_48 c0_i32_52
  let v111 : BitVec 32 := Scalar.extui v110
  let v112 : BitVec 32 := Scalar.subi v109 v111
  let v113 : BitVec 1 := Scalar.cmpi .ne v107 v112
  let v114 : BitVec 32 := Scalar.remsi v99 c4_i32_48
  let c0_i32_53 : BitVec 32 := 0#32
  let v115 : BitVec 1 := Scalar.cmpi .ne v114 c0_i32_53
  let v116 : BitVec 1 := Scalar.andi v113 v115
  let v102 : BitVec 32 := Scalar.divsi v99 c4_i32_48
  let c1_i32_54 : BitVec 32 := 1#32
  let v117 : BitVec 32 := Scalar.subi v102 c1_i32_54
  let v118 : BitVec 32 := Scalar.select v116 v117 v102
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi v118 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c0_i32_67 : BitVec 32 := 0#32
  let v139 : BitVec 1 := Scalar.cmpi .eq v138 c0_i32_67
  let c4_i32_55 : BitVec 32 := 4#32
  let c0_i32_56 : BitVec 32 := 0#32
  let v119 : BitVec 1 := Scalar.cmpi .eq c4_i32_55 c0_i32_56
  let c1_i32_57 : BitVec 32 := 1#32
  let v120 : BitVec 32 := Scalar.select v119 c1_i32_57 c4_i32_55
  let v121 : BitVec 32 := Scalar.remsi v99 v120
  let c0_i32_59 : BitVec 32 := 0#32
  let v123 : BitVec 1 := Scalar.cmpi .slt v121 c0_i32_59
  let c0_i32_60 : BitVec 32 := 0#32
  let v124 : BitVec 1 := Scalar.cmpi .slt v120 c0_i32_60
  let v125 : BitVec 1 := Scalar.xori v123 v124
  let c0_i32_58 : BitVec 32 := 0#32
  let v122 : BitVec 1 := Scalar.cmpi .ne v121 c0_i32_58
  let v126 : BitVec 1 := Scalar.andi v125 v122
  let v127 : BitVec 32 := Scalar.addi v121 v120
  let v128 : BitVec 32 := Scalar.select v126 v127 v121
  let c3_i32_68 : BitVec 32 := 3#32
  let v140 : BitVec 32 := Scalar.subi c3_i32_68 v128
  let v141 : BitVec 32 := Scalar.select v139 v128 v140
  let v142 : BitVec 32 := Scalar.muli c8_i32_69 v141
  let c2_i32_70 : BitVec 32 := 2#32
  let v143 : BitVec 32 := Scalar.muli c2_i32_70 v118
  let v144 : BitVec 32 := Scalar.addi v142 v143
  let c16_i32_45 : BitVec 32 := 16#32
  let v100 : BitVec 1 := Scalar.cmpi .slt v96 c16_i32_45
  let c0_i32_46 : BitVec 32 := 0#32
  let c1_i32_47 : BitVec 32 := 1#32
  let v101 : BitVec 32 := Scalar.select v100 c0_i32_46 c1_i32_47
  let c2_i32_71 : BitVec 32 := 2#32
  let c0_i32_72 : BitVec 32 := 0#32
  let v145 : BitVec 1 := Scalar.cmpi .eq c2_i32_71 c0_i32_72
  let c1_i32_73 : BitVec 32 := 1#32
  let v146 : BitVec 32 := Scalar.select v145 c1_i32_73 c2_i32_71
  let v147 : BitVec 32 := Scalar.remsi v118 v146
  let c0_i32_75 : BitVec 32 := 0#32
  let v149 : BitVec 1 := Scalar.cmpi .slt v147 c0_i32_75
  let c0_i32_76 : BitVec 32 := 0#32
  let v150 : BitVec 1 := Scalar.cmpi .slt v146 c0_i32_76
  let v151 : BitVec 1 := Scalar.xori v149 v150
  let c0_i32_74 : BitVec 32 := 0#32
  let v148 : BitVec 1 := Scalar.cmpi .ne v147 c0_i32_74
  let v152 : BitVec 1 := Scalar.andi v151 v148
  let v153 : BitVec 32 := Scalar.addi v147 v146
  let v154 : BitVec 32 := Scalar.select v152 v153 v147
  let v155 : BitVec 32 := Scalar.xori v101 v154
  let v156 : BitVec 32 := Scalar.addi v144 v155
  let c1_i32_2289 : BitVec 32 := 1#32
  let v3743 : BitVec 32 := Scalar.muli v156 c1_i32_2289
  let v3744 : BitVec 32 := Scalar.addi c0_i32_2290 v3743
  v3744.toNat
def k0_off10 (d0 : Dev nD) : Fin 2 → Nat :=
  let c8_i32_2277 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c15_i32_2244 : BitVec 32 := 15#32
  let v3669 : BitVec 32 := Scalar.addi v85 c15_i32_2244
  let c32_i32_2245 : BitVec 32 := 32#32
  let c0_i32_2246 : BitVec 32 := 0#32
  let v3670 : BitVec 1 := Scalar.cmpi .eq c32_i32_2245 c0_i32_2246
  let c1_i32_2247 : BitVec 32 := 1#32
  let v3671 : BitVec 32 := Scalar.select v3670 c1_i32_2247 c32_i32_2245
  let v3672 : BitVec 32 := Scalar.remsi v3669 v3671
  let c0_i32_2249 : BitVec 32 := 0#32
  let v3674 : BitVec 1 := Scalar.cmpi .slt v3672 c0_i32_2249
  let c0_i32_2250 : BitVec 32 := 0#32
  let v3675 : BitVec 1 := Scalar.cmpi .slt v3671 c0_i32_2250
  let v3676 : BitVec 1 := Scalar.xori v3674 v3675
  let c0_i32_2248 : BitVec 32 := 0#32
  let v3673 : BitVec 1 := Scalar.cmpi .ne v3672 c0_i32_2248
  let v3677 : BitVec 1 := Scalar.andi v3676 v3673
  let v3678 : BitVec 32 := Scalar.addi v3672 v3671
  let v3679 : BitVec 32 := Scalar.select v3677 v3678 v3672
  let c16_i32_2251 : BitVec 32 := 16#32
  let v3680 : BitVec 1 := Scalar.cmpi .slt v3679 c16_i32_2251
  let c31_i32_2252 : BitVec 32 := 31#32
  let v3681 : BitVec 32 := Scalar.subi c31_i32_2252 v3679
  let v3682 : BitVec 32 := Scalar.select v3680 v3679 v3681
  let c0_i32_2257 : BitVec 32 := 0#32
  let v3686 : BitVec 1 := Scalar.cmpi .sgt v3682 c0_i32_2257
  let v3687 : BitVec 32 := Scalar.extui v3686
  let c0_i32_2258 : BitVec 32 := 0#32
  let v3688 : BitVec 1 := Scalar.cmpi .slt v3682 c0_i32_2258
  let v3689 : BitVec 32 := Scalar.extui v3688
  let v3690 : BitVec 32 := Scalar.subi v3687 v3689
  let c4_i32_2256 : BitVec 32 := 4#32
  let c0_i32_2259 : BitVec 32 := 0#32
  let v3691 : BitVec 1 := Scalar.cmpi .sgt c4_i32_2256 c0_i32_2259
  let v3692 : BitVec 32 := Scalar.extui v3691
  let c0_i32_2260 : BitVec 32 := 0#32
  let v3693 : BitVec 1 := Scalar.cmpi .slt c4_i32_2256 c0_i32_2260
  let v3694 : BitVec 32 := Scalar.extui v3693
  let v3695 : BitVec 32 := Scalar.subi v3692 v3694
  let v3696 : BitVec 1 := Scalar.cmpi .ne v3690 v3695
  let v3697 : BitVec 32 := Scalar.remsi v3682 c4_i32_2256
  let c0_i32_2261 : BitVec 32 := 0#32
  let v3698 : BitVec 1 := Scalar.cmpi .ne v3697 c0_i32_2261
  let v3699 : BitVec 1 := Scalar.andi v3696 v3698
  let v3685 : BitVec 32 := Scalar.divsi v3682 c4_i32_2256
  let c1_i32_2262 : BitVec 32 := 1#32
  let v3700 : BitVec 32 := Scalar.subi v3685 c1_i32_2262
  let v3701 : BitVec 32 := Scalar.select v3699 v3700 v3685
  let c2_i32_2269 : BitVec 32 := 2#32
  let c0_i32_2270 : BitVec 32 := 0#32
  let v3712 : BitVec 1 := Scalar.cmpi .eq c2_i32_2269 c0_i32_2270
  let c1_i32_2271 : BitVec 32 := 1#32
  let v3713 : BitVec 32 := Scalar.select v3712 c1_i32_2271 c2_i32_2269
  let v3714 : BitVec 32 := Scalar.remsi v3701 v3713
  let c0_i32_2273 : BitVec 32 := 0#32
  let v3716 : BitVec 1 := Scalar.cmpi .slt v3714 c0_i32_2273
  let c0_i32_2274 : BitVec 32 := 0#32
  let v3717 : BitVec 1 := Scalar.cmpi .slt v3713 c0_i32_2274
  let v3718 : BitVec 1 := Scalar.xori v3716 v3717
  let c0_i32_2272 : BitVec 32 := 0#32
  let v3715 : BitVec 1 := Scalar.cmpi .ne v3714 c0_i32_2272
  let v3719 : BitVec 1 := Scalar.andi v3718 v3715
  let v3720 : BitVec 32 := Scalar.addi v3714 v3713
  let v3721 : BitVec 32 := Scalar.select v3719 v3720 v3714
  let c0_i32_2275 : BitVec 32 := 0#32
  let v3722 : BitVec 1 := Scalar.cmpi .eq v3721 c0_i32_2275
  let c4_i32_2263 : BitVec 32 := 4#32
  let c0_i32_2264 : BitVec 32 := 0#32
  let v3702 : BitVec 1 := Scalar.cmpi .eq c4_i32_2263 c0_i32_2264
  let c1_i32_2265 : BitVec 32 := 1#32
  let v3703 : BitVec 32 := Scalar.select v3702 c1_i32_2265 c4_i32_2263
  let v3704 : BitVec 32 := Scalar.remsi v3682 v3703
  let c0_i32_2267 : BitVec 32 := 0#32
  let v3706 : BitVec 1 := Scalar.cmpi .slt v3704 c0_i32_2267
  let c0_i32_2268 : BitVec 32 := 0#32
  let v3707 : BitVec 1 := Scalar.cmpi .slt v3703 c0_i32_2268
  let v3708 : BitVec 1 := Scalar.xori v3706 v3707
  let c0_i32_2266 : BitVec 32 := 0#32
  let v3705 : BitVec 1 := Scalar.cmpi .ne v3704 c0_i32_2266
  let v3709 : BitVec 1 := Scalar.andi v3708 v3705
  let v3710 : BitVec 32 := Scalar.addi v3704 v3703
  let v3711 : BitVec 32 := Scalar.select v3709 v3710 v3704
  let c3_i32_2276 : BitVec 32 := 3#32
  let v3723 : BitVec 32 := Scalar.subi c3_i32_2276 v3711
  let v3724 : BitVec 32 := Scalar.select v3722 v3711 v3723
  let v3725 : BitVec 32 := Scalar.muli c8_i32_2277 v3724
  let c2_i32_2278 : BitVec 32 := 2#32
  let v3726 : BitVec 32 := Scalar.muli c2_i32_2278 v3701
  let v3727 : BitVec 32 := Scalar.addi v3725 v3726
  let c16_i32_2253 : BitVec 32 := 16#32
  let v3683 : BitVec 1 := Scalar.cmpi .slt v3679 c16_i32_2253
  let c0_i32_2254 : BitVec 32 := 0#32
  let c1_i32_2255 : BitVec 32 := 1#32
  let v3684 : BitVec 32 := Scalar.select v3683 c0_i32_2254 c1_i32_2255
  let c2_i32_2279 : BitVec 32 := 2#32
  let c0_i32_2280 : BitVec 32 := 0#32
  let v3728 : BitVec 1 := Scalar.cmpi .eq c2_i32_2279 c0_i32_2280
  let c1_i32_2281 : BitVec 32 := 1#32
  let v3729 : BitVec 32 := Scalar.select v3728 c1_i32_2281 c2_i32_2279
  let v3730 : BitVec 32 := Scalar.remsi v3701 v3729
  let c0_i32_2283 : BitVec 32 := 0#32
  let v3732 : BitVec 1 := Scalar.cmpi .slt v3730 c0_i32_2283
  let c0_i32_2284 : BitVec 32 := 0#32
  let v3733 : BitVec 1 := Scalar.cmpi .slt v3729 c0_i32_2284
  let v3734 : BitVec 1 := Scalar.xori v3732 v3733
  let c0_i32_2282 : BitVec 32 := 0#32
  let v3731 : BitVec 1 := Scalar.cmpi .ne v3730 c0_i32_2282
  let v3735 : BitVec 1 := Scalar.andi v3734 v3731
  let v3736 : BitVec 32 := Scalar.addi v3730 v3729
  let v3737 : BitVec 32 := Scalar.select v3735 v3736 v3730
  let v3738 : BitVec 32 := Scalar.xori v3684 v3737
  let v3739 : BitVec 32 := Scalar.addi v3727 v3738
  let c128_i32_2286 : BitVec 32 := 128#32
  let v3741 : BitVec 32 := Scalar.muli v3739 c128_i32_2286
  let c64_i32 : BitVec 32 := 64#32
  let v3742 : BitVec 32 := Scalar.addi v3741 c64_i32
  let c0_i32_2297 : BitVec 32 := 0#32
  ![v3742.toNat, 0]
def k0_dev63 (d0 : Dev nD) : Nat :=
  let c0_i32_2296 : BitVec 32 := 0#32
  let c8_i32_110 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_36 : BitVec 32 := 0#32
  let v83 : BitVec 1 := Scalar.cmpi .eq v67 c0_i32_36
  let c4_i32 : BitVec 32 := 4#32
  let v68 : BitVec 32 := Scalar.muli c4_i32 v46
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v46 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v80 : BitVec 32 := Scalar.subi c3_i32 v19
  let v81 : BitVec 32 := Scalar.select v79 v19 v80
  let v82 : BitVec 32 := Scalar.addi v68 v81
  let c31_i32 : BitVec 32 := 31#32
  let v84 : BitVec 32 := Scalar.subi c31_i32 v82
  let v85 : BitVec 32 := Scalar.select v83 v82 v84
  let c1_i32_77 : BitVec 32 := 1#32
  let v157 : BitVec 32 := Scalar.subi v85 c1_i32_77
  let c32_i32_78 : BitVec 32 := 32#32
  let c0_i32_79 : BitVec 32 := 0#32
  let v158 : BitVec 1 := Scalar.cmpi .eq c32_i32_78 c0_i32_79
  let c1_i32_80 : BitVec 32 := 1#32
  let v159 : BitVec 32 := Scalar.select v158 c1_i32_80 c32_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c16_i32_84 : BitVec 32 := 16#32
  let v168 : BitVec 1 := Scalar.cmpi .slt v167 c16_i32_84
  let c31_i32_85 : BitVec 32 := 31#32
  let v169 : BitVec 32 := Scalar.subi c31_i32_85 v167
  let v170 : BitVec 32 := Scalar.select v168 v167 v169
  let c0_i32_90 : BitVec 32 := 0#32
  let v174 : BitVec 1 := Scalar.cmpi .sgt v170 c0_i32_90
  let v175 : BitVec 32 := Scalar.extui v174
  let c0_i32_91 : BitVec 32 := 0#32
  let v176 : BitVec 1 := Scalar.cmpi .slt v170 c0_i32_91
  let v177 : BitVec 32 := Scalar.extui v176
  let v178 : BitVec 32 := Scalar.subi v175 v177
  let c4_i32_89 : BitVec 32 := 4#32
  let c0_i32_92 : BitVec 32 := 0#32
  let v179 : BitVec 1 := Scalar.cmpi .sgt c4_i32_89 c0_i32_92
  let v180 : BitVec 32 := Scalar.extui v179
  let c0_i32_93 : BitVec 32 := 0#32
  let v181 : BitVec 1 := Scalar.cmpi .slt c4_i32_89 c0_i32_93
  let v182 : BitVec 32 := Scalar.extui v181
  let v183 : BitVec 32 := Scalar.subi v180 v182
  let v184 : BitVec 1 := Scalar.cmpi .ne v178 v183
  let v185 : BitVec 32 := Scalar.remsi v170 c4_i32_89
  let c0_i32_94 : BitVec 32 := 0#32
  let v186 : BitVec 1 := Scalar.cmpi .ne v185 c0_i32_94
  let v187 : BitVec 1 := Scalar.andi v184 v186
  let v173 : BitVec 32 := Scalar.divsi v170 c4_i32_89
  let c1_i32_95 : BitVec 32 := 1#32
  let v188 : BitVec 32 := Scalar.subi v173 c1_i32_95
  let v189 : BitVec 32 := Scalar.select v187 v188 v173
  let c2_i32_102 : BitVec 32 := 2#32
  let c0_i32_103 : BitVec 32 := 0#32
  let v200 : BitVec 1 := Scalar.cmpi .eq c2_i32_102 c0_i32_103
  let c1_i32_104 : BitVec 32 := 1#32
  let v201 : BitVec 32 := Scalar.select v200 c1_i32_104 c2_i32_102
  let v202 : BitVec 32 := Scalar.remsi v189 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c0_i32_108 : BitVec 32 := 0#32
  let v210 : BitVec 1 := Scalar.cmpi .eq v209 c0_i32_108
  let c4_i32_96 : BitVec 32 := 4#32
  let c0_i32_97 : BitVec 32 := 0#32
  let v190 : BitVec 1 := Scalar.cmpi .eq c4_i32_96 c0_i32_97
  let c1_i32_98 : BitVec 32 := 1#32
  let v191 : BitVec 32 := Scalar.select v190 c1_i32_98 c4_i32_96
  let v192 : BitVec 32 := Scalar.remsi v170 v191
  let c0_i32_100 : BitVec 32 := 0#32
  let v194 : BitVec 1 := Scalar.cmpi .slt v192 c0_i32_100
  let c0_i32_101 : BitVec 32 := 0#32
  let v195 : BitVec 1 := Scalar.cmpi .slt v191 c0_i32_101
  let v196 : BitVec 1 := Scalar.xori v194 v195
  let c0_i32_99 : BitVec 32 := 0#32
  let v193 : BitVec 1 := Scalar.cmpi .ne v192 c0_i32_99
  let v197 : BitVec 1 := Scalar.andi v196 v193
  let v198 : BitVec 32 := Scalar.addi v192 v191
  let v199 : BitVec 32 := Scalar.select v197 v198 v192
  let c3_i32_109 : BitVec 32 := 3#32
  let v211 : BitVec 32 := Scalar.subi c3_i32_109 v199
  let v212 : BitVec 32 := Scalar.select v210 v199 v211
  let v213 : BitVec 32 := Scalar.muli c8_i32_110 v212
  let c2_i32_111 : BitVec 32 := 2#32
  let v214 : BitVec 32 := Scalar.muli c2_i32_111 v189
  let v215 : BitVec 32 := Scalar.addi v213 v214
  let c16_i32_86 : BitVec 32 := 16#32
  let v171 : BitVec 1 := Scalar.cmpi .slt v167 c16_i32_86
  let c0_i32_87 : BitVec 32 := 0#32
  let c1_i32_88 : BitVec 32 := 1#32
  let v172 : BitVec 32 := Scalar.select v171 c0_i32_87 c1_i32_88
  let c2_i32_112 : BitVec 32 := 2#32
  let c0_i32_113 : BitVec 32 := 0#32
  let v216 : BitVec 1 := Scalar.cmpi .eq c2_i32_112 c0_i32_113
  let c1_i32_114 : BitVec 32 := 1#32
  let v217 : BitVec 32 := Scalar.select v216 c1_i32_114 c2_i32_112
  let v218 : BitVec 32 := Scalar.remsi v189 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  let v226 : BitVec 32 := Scalar.xori v172 v225
  let v227 : BitVec 32 := Scalar.addi v215 v226
  let c1_i32_2295 : BitVec 32 := 1#32
  let v3751 : BitVec 32 := Scalar.muli v227 c1_i32_2295
  let v3752 : BitVec 32 := Scalar.addi c0_i32_2296 v3751
  v3752.toNat
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3882 : Index := Scalar.indexCast v2
  let c0_2370 : Index := 0#32
  let c0_2371 : Index := 0#32
  ![v3882.toNat, 0, 0]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2383 : BitVec 32 := 0#32
  let c0_i32_2384 : BitVec 32 := 0#32
  ![v2.toNat, 0, 0]
def k0_dev64 (d0 : Dev nD) : Nat :=
  let c0_i32_2382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2372 : BitVec 32 := 1#32
  let v3886 : BitVec 32 := Scalar.addi v2 c1_i32_2372
  let c32_i32_2373 : BitVec 32 := 32#32
  let c0_i32_2374 : BitVec 32 := 0#32
  let v3887 : BitVec 1 := Scalar.cmpi .eq c32_i32_2373 c0_i32_2374
  let c1_i32_2375 : BitVec 32 := 1#32
  let v3888 : BitVec 32 := Scalar.select v3887 c1_i32_2375 c32_i32_2373
  let v3889 : BitVec 32 := Scalar.remsi v3886 v3888
  let c0_i32_2377 : BitVec 32 := 0#32
  let v3891 : BitVec 1 := Scalar.cmpi .slt v3889 c0_i32_2377
  let c0_i32_2378 : BitVec 32 := 0#32
  let v3892 : BitVec 1 := Scalar.cmpi .slt v3888 c0_i32_2378
  let v3893 : BitVec 1 := Scalar.xori v3891 v3892
  let c0_i32_2376 : BitVec 32 := 0#32
  let v3890 : BitVec 1 := Scalar.cmpi .ne v3889 c0_i32_2376
  let v3894 : BitVec 1 := Scalar.andi v3893 v3890
  let v3895 : BitVec 32 := Scalar.addi v3889 v3888
  let v3896 : BitVec 32 := Scalar.select v3894 v3895 v3889
  let c1_i32_2381 : BitVec 32 := 1#32
  let v3897 : BitVec 32 := Scalar.muli v3896 c1_i32_2381
  let v3898 : BitVec 32 := Scalar.addi c0_i32_2382 v3897
  v3898.toNat
def k0_dev65 (d0 : Dev nD) : Nat :=
  let c0_i32_2397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2387 : BitVec 32 := 2#32
  let v3905 : BitVec 32 := Scalar.addi v2 c2_i32_2387
  let c32_i32_2388 : BitVec 32 := 32#32
  let c0_i32_2389 : BitVec 32 := 0#32
  let v3906 : BitVec 1 := Scalar.cmpi .eq c32_i32_2388 c0_i32_2389
  let c1_i32_2390 : BitVec 32 := 1#32
  let v3907 : BitVec 32 := Scalar.select v3906 c1_i32_2390 c32_i32_2388
  let v3908 : BitVec 32 := Scalar.remsi v3905 v3907
  let c0_i32_2392 : BitVec 32 := 0#32
  let v3910 : BitVec 1 := Scalar.cmpi .slt v3908 c0_i32_2392
  let c0_i32_2393 : BitVec 32 := 0#32
  let v3911 : BitVec 1 := Scalar.cmpi .slt v3907 c0_i32_2393
  let v3912 : BitVec 1 := Scalar.xori v3910 v3911
  let c0_i32_2391 : BitVec 32 := 0#32
  let v3909 : BitVec 1 := Scalar.cmpi .ne v3908 c0_i32_2391
  let v3913 : BitVec 1 := Scalar.andi v3912 v3909
  let v3914 : BitVec 32 := Scalar.addi v3908 v3907
  let v3915 : BitVec 32 := Scalar.select v3913 v3914 v3908
  let c1_i32_2396 : BitVec 32 := 1#32
  let v3916 : BitVec 32 := Scalar.muli v3915 c1_i32_2396
  let v3917 : BitVec 32 := Scalar.addi c0_i32_2397 v3916
  v3917.toNat
def k0_dev66 (d0 : Dev nD) : Nat :=
  let c0_i32_2412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2402 : BitVec 32 := 3#32
  let v3924 : BitVec 32 := Scalar.addi v2 c3_i32_2402
  let c32_i32_2403 : BitVec 32 := 32#32
  let c0_i32_2404 : BitVec 32 := 0#32
  let v3925 : BitVec 1 := Scalar.cmpi .eq c32_i32_2403 c0_i32_2404
  let c1_i32_2405 : BitVec 32 := 1#32
  let v3926 : BitVec 32 := Scalar.select v3925 c1_i32_2405 c32_i32_2403
  let v3927 : BitVec 32 := Scalar.remsi v3924 v3926
  let c0_i32_2407 : BitVec 32 := 0#32
  let v3929 : BitVec 1 := Scalar.cmpi .slt v3927 c0_i32_2407
  let c0_i32_2408 : BitVec 32 := 0#32
  let v3930 : BitVec 1 := Scalar.cmpi .slt v3926 c0_i32_2408
  let v3931 : BitVec 1 := Scalar.xori v3929 v3930
  let c0_i32_2406 : BitVec 32 := 0#32
  let v3928 : BitVec 1 := Scalar.cmpi .ne v3927 c0_i32_2406
  let v3932 : BitVec 1 := Scalar.andi v3931 v3928
  let v3933 : BitVec 32 := Scalar.addi v3927 v3926
  let v3934 : BitVec 32 := Scalar.select v3932 v3933 v3927
  let c1_i32_2411 : BitVec 32 := 1#32
  let v3935 : BitVec 32 := Scalar.muli v3934 c1_i32_2411
  let v3936 : BitVec 32 := Scalar.addi c0_i32_2412 v3935
  v3936.toNat
def k0_dev67 (d0 : Dev nD) : Nat :=
  let c0_i32_2427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2417 : BitVec 32 := 4#32
  let v3943 : BitVec 32 := Scalar.addi v2 c4_i32_2417
  let c32_i32_2418 : BitVec 32 := 32#32
  let c0_i32_2419 : BitVec 32 := 0#32
  let v3944 : BitVec 1 := Scalar.cmpi .eq c32_i32_2418 c0_i32_2419
  let c1_i32_2420 : BitVec 32 := 1#32
  let v3945 : BitVec 32 := Scalar.select v3944 c1_i32_2420 c32_i32_2418
  let v3946 : BitVec 32 := Scalar.remsi v3943 v3945
  let c0_i32_2422 : BitVec 32 := 0#32
  let v3948 : BitVec 1 := Scalar.cmpi .slt v3946 c0_i32_2422
  let c0_i32_2423 : BitVec 32 := 0#32
  let v3949 : BitVec 1 := Scalar.cmpi .slt v3945 c0_i32_2423
  let v3950 : BitVec 1 := Scalar.xori v3948 v3949
  let c0_i32_2421 : BitVec 32 := 0#32
  let v3947 : BitVec 1 := Scalar.cmpi .ne v3946 c0_i32_2421
  let v3951 : BitVec 1 := Scalar.andi v3950 v3947
  let v3952 : BitVec 32 := Scalar.addi v3946 v3945
  let v3953 : BitVec 32 := Scalar.select v3951 v3952 v3946
  let c1_i32_2426 : BitVec 32 := 1#32
  let v3954 : BitVec 32 := Scalar.muli v3953 c1_i32_2426
  let v3955 : BitVec 32 := Scalar.addi c0_i32_2427 v3954
  v3955.toNat
def k0_dev68 (d0 : Dev nD) : Nat :=
  let c0_i32_2442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2432 : BitVec 32 := 5#32
  let v3962 : BitVec 32 := Scalar.addi v2 c5_i32_2432
  let c32_i32_2433 : BitVec 32 := 32#32
  let c0_i32_2434 : BitVec 32 := 0#32
  let v3963 : BitVec 1 := Scalar.cmpi .eq c32_i32_2433 c0_i32_2434
  let c1_i32_2435 : BitVec 32 := 1#32
  let v3964 : BitVec 32 := Scalar.select v3963 c1_i32_2435 c32_i32_2433
  let v3965 : BitVec 32 := Scalar.remsi v3962 v3964
  let c0_i32_2437 : BitVec 32 := 0#32
  let v3967 : BitVec 1 := Scalar.cmpi .slt v3965 c0_i32_2437
  let c0_i32_2438 : BitVec 32 := 0#32
  let v3968 : BitVec 1 := Scalar.cmpi .slt v3964 c0_i32_2438
  let v3969 : BitVec 1 := Scalar.xori v3967 v3968
  let c0_i32_2436 : BitVec 32 := 0#32
  let v3966 : BitVec 1 := Scalar.cmpi .ne v3965 c0_i32_2436
  let v3970 : BitVec 1 := Scalar.andi v3969 v3966
  let v3971 : BitVec 32 := Scalar.addi v3965 v3964
  let v3972 : BitVec 32 := Scalar.select v3970 v3971 v3965
  let c1_i32_2441 : BitVec 32 := 1#32
  let v3973 : BitVec 32 := Scalar.muli v3972 c1_i32_2441
  let v3974 : BitVec 32 := Scalar.addi c0_i32_2442 v3973
  v3974.toNat
def k0_dev69 (d0 : Dev nD) : Nat :=
  let c0_i32_2457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2447 : BitVec 32 := 6#32
  let v3981 : BitVec 32 := Scalar.addi v2 c6_i32_2447
  let c32_i32_2448 : BitVec 32 := 32#32
  let c0_i32_2449 : BitVec 32 := 0#32
  let v3982 : BitVec 1 := Scalar.cmpi .eq c32_i32_2448 c0_i32_2449
  let c1_i32_2450 : BitVec 32 := 1#32
  let v3983 : BitVec 32 := Scalar.select v3982 c1_i32_2450 c32_i32_2448
  let v3984 : BitVec 32 := Scalar.remsi v3981 v3983
  let c0_i32_2452 : BitVec 32 := 0#32
  let v3986 : BitVec 1 := Scalar.cmpi .slt v3984 c0_i32_2452
  let c0_i32_2453 : BitVec 32 := 0#32
  let v3987 : BitVec 1 := Scalar.cmpi .slt v3983 c0_i32_2453
  let v3988 : BitVec 1 := Scalar.xori v3986 v3987
  let c0_i32_2451 : BitVec 32 := 0#32
  let v3985 : BitVec 1 := Scalar.cmpi .ne v3984 c0_i32_2451
  let v3989 : BitVec 1 := Scalar.andi v3988 v3985
  let v3990 : BitVec 32 := Scalar.addi v3984 v3983
  let v3991 : BitVec 32 := Scalar.select v3989 v3990 v3984
  let c1_i32_2456 : BitVec 32 := 1#32
  let v3992 : BitVec 32 := Scalar.muli v3991 c1_i32_2456
  let v3993 : BitVec 32 := Scalar.addi c0_i32_2457 v3992
  v3993.toNat
def k0_dev70 (d0 : Dev nD) : Nat :=
  let c0_i32_2472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2462 : BitVec 32 := 7#32
  let v4000 : BitVec 32 := Scalar.addi v2 c7_i32_2462
  let c32_i32_2463 : BitVec 32 := 32#32
  let c0_i32_2464 : BitVec 32 := 0#32
  let v4001 : BitVec 1 := Scalar.cmpi .eq c32_i32_2463 c0_i32_2464
  let c1_i32_2465 : BitVec 32 := 1#32
  let v4002 : BitVec 32 := Scalar.select v4001 c1_i32_2465 c32_i32_2463
  let v4003 : BitVec 32 := Scalar.remsi v4000 v4002
  let c0_i32_2467 : BitVec 32 := 0#32
  let v4005 : BitVec 1 := Scalar.cmpi .slt v4003 c0_i32_2467
  let c0_i32_2468 : BitVec 32 := 0#32
  let v4006 : BitVec 1 := Scalar.cmpi .slt v4002 c0_i32_2468
  let v4007 : BitVec 1 := Scalar.xori v4005 v4006
  let c0_i32_2466 : BitVec 32 := 0#32
  let v4004 : BitVec 1 := Scalar.cmpi .ne v4003 c0_i32_2466
  let v4008 : BitVec 1 := Scalar.andi v4007 v4004
  let v4009 : BitVec 32 := Scalar.addi v4003 v4002
  let v4010 : BitVec 32 := Scalar.select v4008 v4009 v4003
  let c1_i32_2471 : BitVec 32 := 1#32
  let v4011 : BitVec 32 := Scalar.muli v4010 c1_i32_2471
  let v4012 : BitVec 32 := Scalar.addi c0_i32_2472 v4011
  v4012.toNat
def k0_dev71 (d0 : Dev nD) : Nat :=
  let c0_i32_2487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2477 : BitVec 32 := 8#32
  let v4019 : BitVec 32 := Scalar.addi v2 c8_i32_2477
  let c32_i32_2478 : BitVec 32 := 32#32
  let c0_i32_2479 : BitVec 32 := 0#32
  let v4020 : BitVec 1 := Scalar.cmpi .eq c32_i32_2478 c0_i32_2479
  let c1_i32_2480 : BitVec 32 := 1#32
  let v4021 : BitVec 32 := Scalar.select v4020 c1_i32_2480 c32_i32_2478
  let v4022 : BitVec 32 := Scalar.remsi v4019 v4021
  let c0_i32_2482 : BitVec 32 := 0#32
  let v4024 : BitVec 1 := Scalar.cmpi .slt v4022 c0_i32_2482
  let c0_i32_2483 : BitVec 32 := 0#32
  let v4025 : BitVec 1 := Scalar.cmpi .slt v4021 c0_i32_2483
  let v4026 : BitVec 1 := Scalar.xori v4024 v4025
  let c0_i32_2481 : BitVec 32 := 0#32
  let v4023 : BitVec 1 := Scalar.cmpi .ne v4022 c0_i32_2481
  let v4027 : BitVec 1 := Scalar.andi v4026 v4023
  let v4028 : BitVec 32 := Scalar.addi v4022 v4021
  let v4029 : BitVec 32 := Scalar.select v4027 v4028 v4022
  let c1_i32_2486 : BitVec 32 := 1#32
  let v4030 : BitVec 32 := Scalar.muli v4029 c1_i32_2486
  let v4031 : BitVec 32 := Scalar.addi c0_i32_2487 v4030
  v4031.toNat
def k0_dev72 (d0 : Dev nD) : Nat :=
  let c0_i32_2502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2492 : BitVec 32 := 9#32
  let v4038 : BitVec 32 := Scalar.addi v2 c9_i32_2492
  let c32_i32_2493 : BitVec 32 := 32#32
  let c0_i32_2494 : BitVec 32 := 0#32
  let v4039 : BitVec 1 := Scalar.cmpi .eq c32_i32_2493 c0_i32_2494
  let c1_i32_2495 : BitVec 32 := 1#32
  let v4040 : BitVec 32 := Scalar.select v4039 c1_i32_2495 c32_i32_2493
  let v4041 : BitVec 32 := Scalar.remsi v4038 v4040
  let c0_i32_2497 : BitVec 32 := 0#32
  let v4043 : BitVec 1 := Scalar.cmpi .slt v4041 c0_i32_2497
  let c0_i32_2498 : BitVec 32 := 0#32
  let v4044 : BitVec 1 := Scalar.cmpi .slt v4040 c0_i32_2498
  let v4045 : BitVec 1 := Scalar.xori v4043 v4044
  let c0_i32_2496 : BitVec 32 := 0#32
  let v4042 : BitVec 1 := Scalar.cmpi .ne v4041 c0_i32_2496
  let v4046 : BitVec 1 := Scalar.andi v4045 v4042
  let v4047 : BitVec 32 := Scalar.addi v4041 v4040
  let v4048 : BitVec 32 := Scalar.select v4046 v4047 v4041
  let c1_i32_2501 : BitVec 32 := 1#32
  let v4049 : BitVec 32 := Scalar.muli v4048 c1_i32_2501
  let v4050 : BitVec 32 := Scalar.addi c0_i32_2502 v4049
  v4050.toNat
def k0_dev73 (d0 : Dev nD) : Nat :=
  let c0_i32_2517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2507 : BitVec 32 := 10#32
  let v4057 : BitVec 32 := Scalar.addi v2 c10_i32_2507
  let c32_i32_2508 : BitVec 32 := 32#32
  let c0_i32_2509 : BitVec 32 := 0#32
  let v4058 : BitVec 1 := Scalar.cmpi .eq c32_i32_2508 c0_i32_2509
  let c1_i32_2510 : BitVec 32 := 1#32
  let v4059 : BitVec 32 := Scalar.select v4058 c1_i32_2510 c32_i32_2508
  let v4060 : BitVec 32 := Scalar.remsi v4057 v4059
  let c0_i32_2512 : BitVec 32 := 0#32
  let v4062 : BitVec 1 := Scalar.cmpi .slt v4060 c0_i32_2512
  let c0_i32_2513 : BitVec 32 := 0#32
  let v4063 : BitVec 1 := Scalar.cmpi .slt v4059 c0_i32_2513
  let v4064 : BitVec 1 := Scalar.xori v4062 v4063
  let c0_i32_2511 : BitVec 32 := 0#32
  let v4061 : BitVec 1 := Scalar.cmpi .ne v4060 c0_i32_2511
  let v4065 : BitVec 1 := Scalar.andi v4064 v4061
  let v4066 : BitVec 32 := Scalar.addi v4060 v4059
  let v4067 : BitVec 32 := Scalar.select v4065 v4066 v4060
  let c1_i32_2516 : BitVec 32 := 1#32
  let v4068 : BitVec 32 := Scalar.muli v4067 c1_i32_2516
  let v4069 : BitVec 32 := Scalar.addi c0_i32_2517 v4068
  v4069.toNat
def k0_dev74 (d0 : Dev nD) : Nat :=
  let c0_i32_2532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2522 : BitVec 32 := 11#32
  let v4076 : BitVec 32 := Scalar.addi v2 c11_i32_2522
  let c32_i32_2523 : BitVec 32 := 32#32
  let c0_i32_2524 : BitVec 32 := 0#32
  let v4077 : BitVec 1 := Scalar.cmpi .eq c32_i32_2523 c0_i32_2524
  let c1_i32_2525 : BitVec 32 := 1#32
  let v4078 : BitVec 32 := Scalar.select v4077 c1_i32_2525 c32_i32_2523
  let v4079 : BitVec 32 := Scalar.remsi v4076 v4078
  let c0_i32_2527 : BitVec 32 := 0#32
  let v4081 : BitVec 1 := Scalar.cmpi .slt v4079 c0_i32_2527
  let c0_i32_2528 : BitVec 32 := 0#32
  let v4082 : BitVec 1 := Scalar.cmpi .slt v4078 c0_i32_2528
  let v4083 : BitVec 1 := Scalar.xori v4081 v4082
  let c0_i32_2526 : BitVec 32 := 0#32
  let v4080 : BitVec 1 := Scalar.cmpi .ne v4079 c0_i32_2526
  let v4084 : BitVec 1 := Scalar.andi v4083 v4080
  let v4085 : BitVec 32 := Scalar.addi v4079 v4078
  let v4086 : BitVec 32 := Scalar.select v4084 v4085 v4079
  let c1_i32_2531 : BitVec 32 := 1#32
  let v4087 : BitVec 32 := Scalar.muli v4086 c1_i32_2531
  let v4088 : BitVec 32 := Scalar.addi c0_i32_2532 v4087
  v4088.toNat
def k0_dev75 (d0 : Dev nD) : Nat :=
  let c0_i32_2547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2537 : BitVec 32 := 12#32
  let v4095 : BitVec 32 := Scalar.addi v2 c12_i32_2537
  let c32_i32_2538 : BitVec 32 := 32#32
  let c0_i32_2539 : BitVec 32 := 0#32
  let v4096 : BitVec 1 := Scalar.cmpi .eq c32_i32_2538 c0_i32_2539
  let c1_i32_2540 : BitVec 32 := 1#32
  let v4097 : BitVec 32 := Scalar.select v4096 c1_i32_2540 c32_i32_2538
  let v4098 : BitVec 32 := Scalar.remsi v4095 v4097
  let c0_i32_2542 : BitVec 32 := 0#32
  let v4100 : BitVec 1 := Scalar.cmpi .slt v4098 c0_i32_2542
  let c0_i32_2543 : BitVec 32 := 0#32
  let v4101 : BitVec 1 := Scalar.cmpi .slt v4097 c0_i32_2543
  let v4102 : BitVec 1 := Scalar.xori v4100 v4101
  let c0_i32_2541 : BitVec 32 := 0#32
  let v4099 : BitVec 1 := Scalar.cmpi .ne v4098 c0_i32_2541
  let v4103 : BitVec 1 := Scalar.andi v4102 v4099
  let v4104 : BitVec 32 := Scalar.addi v4098 v4097
  let v4105 : BitVec 32 := Scalar.select v4103 v4104 v4098
  let c1_i32_2546 : BitVec 32 := 1#32
  let v4106 : BitVec 32 := Scalar.muli v4105 c1_i32_2546
  let v4107 : BitVec 32 := Scalar.addi c0_i32_2547 v4106
  v4107.toNat
def k0_dev76 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2552 : BitVec 32 := 13#32
  let v4114 : BitVec 32 := Scalar.addi v2 c13_i32_2552
  let c32_i32_2553 : BitVec 32 := 32#32
  let c0_i32_2554 : BitVec 32 := 0#32
  let v4115 : BitVec 1 := Scalar.cmpi .eq c32_i32_2553 c0_i32_2554
  let c1_i32_2555 : BitVec 32 := 1#32
  let v4116 : BitVec 32 := Scalar.select v4115 c1_i32_2555 c32_i32_2553
  let v4117 : BitVec 32 := Scalar.remsi v4114 v4116
  let c0_i32_2557 : BitVec 32 := 0#32
  let v4119 : BitVec 1 := Scalar.cmpi .slt v4117 c0_i32_2557
  let c0_i32_2558 : BitVec 32 := 0#32
  let v4120 : BitVec 1 := Scalar.cmpi .slt v4116 c0_i32_2558
  let v4121 : BitVec 1 := Scalar.xori v4119 v4120
  let c0_i32_2556 : BitVec 32 := 0#32
  let v4118 : BitVec 1 := Scalar.cmpi .ne v4117 c0_i32_2556
  let v4122 : BitVec 1 := Scalar.andi v4121 v4118
  let v4123 : BitVec 32 := Scalar.addi v4117 v4116
  let v4124 : BitVec 32 := Scalar.select v4122 v4123 v4117
  let c1_i32_2561 : BitVec 32 := 1#32
  let v4125 : BitVec 32 := Scalar.muli v4124 c1_i32_2561
  let v4126 : BitVec 32 := Scalar.addi c0_i32_2562 v4125
  v4126.toNat
def k0_dev77 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2567 : BitVec 32 := 14#32
  let v4133 : BitVec 32 := Scalar.addi v2 c14_i32_2567
  let c32_i32_2568 : BitVec 32 := 32#32
  let c0_i32_2569 : BitVec 32 := 0#32
  let v4134 : BitVec 1 := Scalar.cmpi .eq c32_i32_2568 c0_i32_2569
  let c1_i32_2570 : BitVec 32 := 1#32
  let v4135 : BitVec 32 := Scalar.select v4134 c1_i32_2570 c32_i32_2568
  let v4136 : BitVec 32 := Scalar.remsi v4133 v4135
  let c0_i32_2572 : BitVec 32 := 0#32
  let v4138 : BitVec 1 := Scalar.cmpi .slt v4136 c0_i32_2572
  let c0_i32_2573 : BitVec 32 := 0#32
  let v4139 : BitVec 1 := Scalar.cmpi .slt v4135 c0_i32_2573
  let v4140 : BitVec 1 := Scalar.xori v4138 v4139
  let c0_i32_2571 : BitVec 32 := 0#32
  let v4137 : BitVec 1 := Scalar.cmpi .ne v4136 c0_i32_2571
  let v4141 : BitVec 1 := Scalar.andi v4140 v4137
  let v4142 : BitVec 32 := Scalar.addi v4136 v4135
  let v4143 : BitVec 32 := Scalar.select v4141 v4142 v4136
  let c1_i32_2576 : BitVec 32 := 1#32
  let v4144 : BitVec 32 := Scalar.muli v4143 c1_i32_2576
  let v4145 : BitVec 32 := Scalar.addi c0_i32_2577 v4144
  v4145.toNat
def k0_dev78 (d0 : Dev nD) : Nat :=
  let c0_i32_2592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2582 : BitVec 32 := 15#32
  let v4152 : BitVec 32 := Scalar.addi v2 c15_i32_2582
  let c32_i32_2583 : BitVec 32 := 32#32
  let c0_i32_2584 : BitVec 32 := 0#32
  let v4153 : BitVec 1 := Scalar.cmpi .eq c32_i32_2583 c0_i32_2584
  let c1_i32_2585 : BitVec 32 := 1#32
  let v4154 : BitVec 32 := Scalar.select v4153 c1_i32_2585 c32_i32_2583
  let v4155 : BitVec 32 := Scalar.remsi v4152 v4154
  let c0_i32_2587 : BitVec 32 := 0#32
  let v4157 : BitVec 1 := Scalar.cmpi .slt v4155 c0_i32_2587
  let c0_i32_2588 : BitVec 32 := 0#32
  let v4158 : BitVec 1 := Scalar.cmpi .slt v4154 c0_i32_2588
  let v4159 : BitVec 1 := Scalar.xori v4157 v4158
  let c0_i32_2586 : BitVec 32 := 0#32
  let v4156 : BitVec 1 := Scalar.cmpi .ne v4155 c0_i32_2586
  let v4160 : BitVec 1 := Scalar.andi v4159 v4156
  let v4161 : BitVec 32 := Scalar.addi v4155 v4154
  let v4162 : BitVec 32 := Scalar.select v4160 v4161 v4155
  let c1_i32_2591 : BitVec 32 := 1#32
  let v4163 : BitVec 32 := Scalar.muli v4162 c1_i32_2591
  let v4164 : BitVec 32 := Scalar.addi c0_i32_2592 v4163
  v4164.toNat
def k0_dev79 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2597 : BitVec 32 := 16#32
  let v4171 : BitVec 32 := Scalar.addi v2 c16_i32_2597
  let c32_i32_2598 : BitVec 32 := 32#32
  let c0_i32_2599 : BitVec 32 := 0#32
  let v4172 : BitVec 1 := Scalar.cmpi .eq c32_i32_2598 c0_i32_2599
  let c1_i32_2600 : BitVec 32 := 1#32
  let v4173 : BitVec 32 := Scalar.select v4172 c1_i32_2600 c32_i32_2598
  let v4174 : BitVec 32 := Scalar.remsi v4171 v4173
  let c0_i32_2602 : BitVec 32 := 0#32
  let v4176 : BitVec 1 := Scalar.cmpi .slt v4174 c0_i32_2602
  let c0_i32_2603 : BitVec 32 := 0#32
  let v4177 : BitVec 1 := Scalar.cmpi .slt v4173 c0_i32_2603
  let v4178 : BitVec 1 := Scalar.xori v4176 v4177
  let c0_i32_2601 : BitVec 32 := 0#32
  let v4175 : BitVec 1 := Scalar.cmpi .ne v4174 c0_i32_2601
  let v4179 : BitVec 1 := Scalar.andi v4178 v4175
  let v4180 : BitVec 32 := Scalar.addi v4174 v4173
  let v4181 : BitVec 32 := Scalar.select v4179 v4180 v4174
  let c1_i32_2606 : BitVec 32 := 1#32
  let v4182 : BitVec 32 := Scalar.muli v4181 c1_i32_2606
  let v4183 : BitVec 32 := Scalar.addi c0_i32_2607 v4182
  v4183.toNat
def k0_dev80 (d0 : Dev nD) : Nat :=
  let c0_i32_2622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2612 : BitVec 32 := 17#32
  let v4190 : BitVec 32 := Scalar.addi v2 c17_i32_2612
  let c32_i32_2613 : BitVec 32 := 32#32
  let c0_i32_2614 : BitVec 32 := 0#32
  let v4191 : BitVec 1 := Scalar.cmpi .eq c32_i32_2613 c0_i32_2614
  let c1_i32_2615 : BitVec 32 := 1#32
  let v4192 : BitVec 32 := Scalar.select v4191 c1_i32_2615 c32_i32_2613
  let v4193 : BitVec 32 := Scalar.remsi v4190 v4192
  let c0_i32_2617 : BitVec 32 := 0#32
  let v4195 : BitVec 1 := Scalar.cmpi .slt v4193 c0_i32_2617
  let c0_i32_2618 : BitVec 32 := 0#32
  let v4196 : BitVec 1 := Scalar.cmpi .slt v4192 c0_i32_2618
  let v4197 : BitVec 1 := Scalar.xori v4195 v4196
  let c0_i32_2616 : BitVec 32 := 0#32
  let v4194 : BitVec 1 := Scalar.cmpi .ne v4193 c0_i32_2616
  let v4198 : BitVec 1 := Scalar.andi v4197 v4194
  let v4199 : BitVec 32 := Scalar.addi v4193 v4192
  let v4200 : BitVec 32 := Scalar.select v4198 v4199 v4193
  let c1_i32_2621 : BitVec 32 := 1#32
  let v4201 : BitVec 32 := Scalar.muli v4200 c1_i32_2621
  let v4202 : BitVec 32 := Scalar.addi c0_i32_2622 v4201
  v4202.toNat
def k0_dev81 (d0 : Dev nD) : Nat :=
  let c0_i32_2637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2627 : BitVec 32 := 18#32
  let v4209 : BitVec 32 := Scalar.addi v2 c18_i32_2627
  let c32_i32_2628 : BitVec 32 := 32#32
  let c0_i32_2629 : BitVec 32 := 0#32
  let v4210 : BitVec 1 := Scalar.cmpi .eq c32_i32_2628 c0_i32_2629
  let c1_i32_2630 : BitVec 32 := 1#32
  let v4211 : BitVec 32 := Scalar.select v4210 c1_i32_2630 c32_i32_2628
  let v4212 : BitVec 32 := Scalar.remsi v4209 v4211
  let c0_i32_2632 : BitVec 32 := 0#32
  let v4214 : BitVec 1 := Scalar.cmpi .slt v4212 c0_i32_2632
  let c0_i32_2633 : BitVec 32 := 0#32
  let v4215 : BitVec 1 := Scalar.cmpi .slt v4211 c0_i32_2633
  let v4216 : BitVec 1 := Scalar.xori v4214 v4215
  let c0_i32_2631 : BitVec 32 := 0#32
  let v4213 : BitVec 1 := Scalar.cmpi .ne v4212 c0_i32_2631
  let v4217 : BitVec 1 := Scalar.andi v4216 v4213
  let v4218 : BitVec 32 := Scalar.addi v4212 v4211
  let v4219 : BitVec 32 := Scalar.select v4217 v4218 v4212
  let c1_i32_2636 : BitVec 32 := 1#32
  let v4220 : BitVec 32 := Scalar.muli v4219 c1_i32_2636
  let v4221 : BitVec 32 := Scalar.addi c0_i32_2637 v4220
  v4221.toNat
def k0_dev82 (d0 : Dev nD) : Nat :=
  let c0_i32_2652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2642 : BitVec 32 := 19#32
  let v4228 : BitVec 32 := Scalar.addi v2 c19_i32_2642
  let c32_i32_2643 : BitVec 32 := 32#32
  let c0_i32_2644 : BitVec 32 := 0#32
  let v4229 : BitVec 1 := Scalar.cmpi .eq c32_i32_2643 c0_i32_2644
  let c1_i32_2645 : BitVec 32 := 1#32
  let v4230 : BitVec 32 := Scalar.select v4229 c1_i32_2645 c32_i32_2643
  let v4231 : BitVec 32 := Scalar.remsi v4228 v4230
  let c0_i32_2647 : BitVec 32 := 0#32
  let v4233 : BitVec 1 := Scalar.cmpi .slt v4231 c0_i32_2647
  let c0_i32_2648 : BitVec 32 := 0#32
  let v4234 : BitVec 1 := Scalar.cmpi .slt v4230 c0_i32_2648
  let v4235 : BitVec 1 := Scalar.xori v4233 v4234
  let c0_i32_2646 : BitVec 32 := 0#32
  let v4232 : BitVec 1 := Scalar.cmpi .ne v4231 c0_i32_2646
  let v4236 : BitVec 1 := Scalar.andi v4235 v4232
  let v4237 : BitVec 32 := Scalar.addi v4231 v4230
  let v4238 : BitVec 32 := Scalar.select v4236 v4237 v4231
  let c1_i32_2651 : BitVec 32 := 1#32
  let v4239 : BitVec 32 := Scalar.muli v4238 c1_i32_2651
  let v4240 : BitVec 32 := Scalar.addi c0_i32_2652 v4239
  v4240.toNat
def k0_dev83 (d0 : Dev nD) : Nat :=
  let c0_i32_2667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2657 : BitVec 32 := 20#32
  let v4247 : BitVec 32 := Scalar.addi v2 c20_i32_2657
  let c32_i32_2658 : BitVec 32 := 32#32
  let c0_i32_2659 : BitVec 32 := 0#32
  let v4248 : BitVec 1 := Scalar.cmpi .eq c32_i32_2658 c0_i32_2659
  let c1_i32_2660 : BitVec 32 := 1#32
  let v4249 : BitVec 32 := Scalar.select v4248 c1_i32_2660 c32_i32_2658
  let v4250 : BitVec 32 := Scalar.remsi v4247 v4249
  let c0_i32_2662 : BitVec 32 := 0#32
  let v4252 : BitVec 1 := Scalar.cmpi .slt v4250 c0_i32_2662
  let c0_i32_2663 : BitVec 32 := 0#32
  let v4253 : BitVec 1 := Scalar.cmpi .slt v4249 c0_i32_2663
  let v4254 : BitVec 1 := Scalar.xori v4252 v4253
  let c0_i32_2661 : BitVec 32 := 0#32
  let v4251 : BitVec 1 := Scalar.cmpi .ne v4250 c0_i32_2661
  let v4255 : BitVec 1 := Scalar.andi v4254 v4251
  let v4256 : BitVec 32 := Scalar.addi v4250 v4249
  let v4257 : BitVec 32 := Scalar.select v4255 v4256 v4250
  let c1_i32_2666 : BitVec 32 := 1#32
  let v4258 : BitVec 32 := Scalar.muli v4257 c1_i32_2666
  let v4259 : BitVec 32 := Scalar.addi c0_i32_2667 v4258
  v4259.toNat
def k0_dev84 (d0 : Dev nD) : Nat :=
  let c0_i32_2682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2672 : BitVec 32 := 21#32
  let v4266 : BitVec 32 := Scalar.addi v2 c21_i32_2672
  let c32_i32_2673 : BitVec 32 := 32#32
  let c0_i32_2674 : BitVec 32 := 0#32
  let v4267 : BitVec 1 := Scalar.cmpi .eq c32_i32_2673 c0_i32_2674
  let c1_i32_2675 : BitVec 32 := 1#32
  let v4268 : BitVec 32 := Scalar.select v4267 c1_i32_2675 c32_i32_2673
  let v4269 : BitVec 32 := Scalar.remsi v4266 v4268
  let c0_i32_2677 : BitVec 32 := 0#32
  let v4271 : BitVec 1 := Scalar.cmpi .slt v4269 c0_i32_2677
  let c0_i32_2678 : BitVec 32 := 0#32
  let v4272 : BitVec 1 := Scalar.cmpi .slt v4268 c0_i32_2678
  let v4273 : BitVec 1 := Scalar.xori v4271 v4272
  let c0_i32_2676 : BitVec 32 := 0#32
  let v4270 : BitVec 1 := Scalar.cmpi .ne v4269 c0_i32_2676
  let v4274 : BitVec 1 := Scalar.andi v4273 v4270
  let v4275 : BitVec 32 := Scalar.addi v4269 v4268
  let v4276 : BitVec 32 := Scalar.select v4274 v4275 v4269
  let c1_i32_2681 : BitVec 32 := 1#32
  let v4277 : BitVec 32 := Scalar.muli v4276 c1_i32_2681
  let v4278 : BitVec 32 := Scalar.addi c0_i32_2682 v4277
  v4278.toNat
def k0_dev85 (d0 : Dev nD) : Nat :=
  let c0_i32_2697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2687 : BitVec 32 := 22#32
  let v4285 : BitVec 32 := Scalar.addi v2 c22_i32_2687
  let c32_i32_2688 : BitVec 32 := 32#32
  let c0_i32_2689 : BitVec 32 := 0#32
  let v4286 : BitVec 1 := Scalar.cmpi .eq c32_i32_2688 c0_i32_2689
  let c1_i32_2690 : BitVec 32 := 1#32
  let v4287 : BitVec 32 := Scalar.select v4286 c1_i32_2690 c32_i32_2688
  let v4288 : BitVec 32 := Scalar.remsi v4285 v4287
  let c0_i32_2692 : BitVec 32 := 0#32
  let v4290 : BitVec 1 := Scalar.cmpi .slt v4288 c0_i32_2692
  let c0_i32_2693 : BitVec 32 := 0#32
  let v4291 : BitVec 1 := Scalar.cmpi .slt v4287 c0_i32_2693
  let v4292 : BitVec 1 := Scalar.xori v4290 v4291
  let c0_i32_2691 : BitVec 32 := 0#32
  let v4289 : BitVec 1 := Scalar.cmpi .ne v4288 c0_i32_2691
  let v4293 : BitVec 1 := Scalar.andi v4292 v4289
  let v4294 : BitVec 32 := Scalar.addi v4288 v4287
  let v4295 : BitVec 32 := Scalar.select v4293 v4294 v4288
  let c1_i32_2696 : BitVec 32 := 1#32
  let v4296 : BitVec 32 := Scalar.muli v4295 c1_i32_2696
  let v4297 : BitVec 32 := Scalar.addi c0_i32_2697 v4296
  v4297.toNat
def k0_dev86 (d0 : Dev nD) : Nat :=
  let c0_i32_2712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2702 : BitVec 32 := 23#32
  let v4304 : BitVec 32 := Scalar.addi v2 c23_i32_2702
  let c32_i32_2703 : BitVec 32 := 32#32
  let c0_i32_2704 : BitVec 32 := 0#32
  let v4305 : BitVec 1 := Scalar.cmpi .eq c32_i32_2703 c0_i32_2704
  let c1_i32_2705 : BitVec 32 := 1#32
  let v4306 : BitVec 32 := Scalar.select v4305 c1_i32_2705 c32_i32_2703
  let v4307 : BitVec 32 := Scalar.remsi v4304 v4306
  let c0_i32_2707 : BitVec 32 := 0#32
  let v4309 : BitVec 1 := Scalar.cmpi .slt v4307 c0_i32_2707
  let c0_i32_2708 : BitVec 32 := 0#32
  let v4310 : BitVec 1 := Scalar.cmpi .slt v4306 c0_i32_2708
  let v4311 : BitVec 1 := Scalar.xori v4309 v4310
  let c0_i32_2706 : BitVec 32 := 0#32
  let v4308 : BitVec 1 := Scalar.cmpi .ne v4307 c0_i32_2706
  let v4312 : BitVec 1 := Scalar.andi v4311 v4308
  let v4313 : BitVec 32 := Scalar.addi v4307 v4306
  let v4314 : BitVec 32 := Scalar.select v4312 v4313 v4307
  let c1_i32_2711 : BitVec 32 := 1#32
  let v4315 : BitVec 32 := Scalar.muli v4314 c1_i32_2711
  let v4316 : BitVec 32 := Scalar.addi c0_i32_2712 v4315
  v4316.toNat
def k0_dev87 (d0 : Dev nD) : Nat :=
  let c0_i32_2727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2717 : BitVec 32 := 24#32
  let v4323 : BitVec 32 := Scalar.addi v2 c24_i32_2717
  let c32_i32_2718 : BitVec 32 := 32#32
  let c0_i32_2719 : BitVec 32 := 0#32
  let v4324 : BitVec 1 := Scalar.cmpi .eq c32_i32_2718 c0_i32_2719
  let c1_i32_2720 : BitVec 32 := 1#32
  let v4325 : BitVec 32 := Scalar.select v4324 c1_i32_2720 c32_i32_2718
  let v4326 : BitVec 32 := Scalar.remsi v4323 v4325
  let c0_i32_2722 : BitVec 32 := 0#32
  let v4328 : BitVec 1 := Scalar.cmpi .slt v4326 c0_i32_2722
  let c0_i32_2723 : BitVec 32 := 0#32
  let v4329 : BitVec 1 := Scalar.cmpi .slt v4325 c0_i32_2723
  let v4330 : BitVec 1 := Scalar.xori v4328 v4329
  let c0_i32_2721 : BitVec 32 := 0#32
  let v4327 : BitVec 1 := Scalar.cmpi .ne v4326 c0_i32_2721
  let v4331 : BitVec 1 := Scalar.andi v4330 v4327
  let v4332 : BitVec 32 := Scalar.addi v4326 v4325
  let v4333 : BitVec 32 := Scalar.select v4331 v4332 v4326
  let c1_i32_2726 : BitVec 32 := 1#32
  let v4334 : BitVec 32 := Scalar.muli v4333 c1_i32_2726
  let v4335 : BitVec 32 := Scalar.addi c0_i32_2727 v4334
  v4335.toNat
def k0_dev88 (d0 : Dev nD) : Nat :=
  let c0_i32_2742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2732 : BitVec 32 := 25#32
  let v4342 : BitVec 32 := Scalar.addi v2 c25_i32_2732
  let c32_i32_2733 : BitVec 32 := 32#32
  let c0_i32_2734 : BitVec 32 := 0#32
  let v4343 : BitVec 1 := Scalar.cmpi .eq c32_i32_2733 c0_i32_2734
  let c1_i32_2735 : BitVec 32 := 1#32
  let v4344 : BitVec 32 := Scalar.select v4343 c1_i32_2735 c32_i32_2733
  let v4345 : BitVec 32 := Scalar.remsi v4342 v4344
  let c0_i32_2737 : BitVec 32 := 0#32
  let v4347 : BitVec 1 := Scalar.cmpi .slt v4345 c0_i32_2737
  let c0_i32_2738 : BitVec 32 := 0#32
  let v4348 : BitVec 1 := Scalar.cmpi .slt v4344 c0_i32_2738
  let v4349 : BitVec 1 := Scalar.xori v4347 v4348
  let c0_i32_2736 : BitVec 32 := 0#32
  let v4346 : BitVec 1 := Scalar.cmpi .ne v4345 c0_i32_2736
  let v4350 : BitVec 1 := Scalar.andi v4349 v4346
  let v4351 : BitVec 32 := Scalar.addi v4345 v4344
  let v4352 : BitVec 32 := Scalar.select v4350 v4351 v4345
  let c1_i32_2741 : BitVec 32 := 1#32
  let v4353 : BitVec 32 := Scalar.muli v4352 c1_i32_2741
  let v4354 : BitVec 32 := Scalar.addi c0_i32_2742 v4353
  v4354.toNat
def k0_dev89 (d0 : Dev nD) : Nat :=
  let c0_i32_2757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2747 : BitVec 32 := 26#32
  let v4361 : BitVec 32 := Scalar.addi v2 c26_i32_2747
  let c32_i32_2748 : BitVec 32 := 32#32
  let c0_i32_2749 : BitVec 32 := 0#32
  let v4362 : BitVec 1 := Scalar.cmpi .eq c32_i32_2748 c0_i32_2749
  let c1_i32_2750 : BitVec 32 := 1#32
  let v4363 : BitVec 32 := Scalar.select v4362 c1_i32_2750 c32_i32_2748
  let v4364 : BitVec 32 := Scalar.remsi v4361 v4363
  let c0_i32_2752 : BitVec 32 := 0#32
  let v4366 : BitVec 1 := Scalar.cmpi .slt v4364 c0_i32_2752
  let c0_i32_2753 : BitVec 32 := 0#32
  let v4367 : BitVec 1 := Scalar.cmpi .slt v4363 c0_i32_2753
  let v4368 : BitVec 1 := Scalar.xori v4366 v4367
  let c0_i32_2751 : BitVec 32 := 0#32
  let v4365 : BitVec 1 := Scalar.cmpi .ne v4364 c0_i32_2751
  let v4369 : BitVec 1 := Scalar.andi v4368 v4365
  let v4370 : BitVec 32 := Scalar.addi v4364 v4363
  let v4371 : BitVec 32 := Scalar.select v4369 v4370 v4364
  let c1_i32_2756 : BitVec 32 := 1#32
  let v4372 : BitVec 32 := Scalar.muli v4371 c1_i32_2756
  let v4373 : BitVec 32 := Scalar.addi c0_i32_2757 v4372
  v4373.toNat
def k0_dev90 (d0 : Dev nD) : Nat :=
  let c0_i32_2772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2762 : BitVec 32 := 27#32
  let v4380 : BitVec 32 := Scalar.addi v2 c27_i32_2762
  let c32_i32_2763 : BitVec 32 := 32#32
  let c0_i32_2764 : BitVec 32 := 0#32
  let v4381 : BitVec 1 := Scalar.cmpi .eq c32_i32_2763 c0_i32_2764
  let c1_i32_2765 : BitVec 32 := 1#32
  let v4382 : BitVec 32 := Scalar.select v4381 c1_i32_2765 c32_i32_2763
  let v4383 : BitVec 32 := Scalar.remsi v4380 v4382
  let c0_i32_2767 : BitVec 32 := 0#32
  let v4385 : BitVec 1 := Scalar.cmpi .slt v4383 c0_i32_2767
  let c0_i32_2768 : BitVec 32 := 0#32
  let v4386 : BitVec 1 := Scalar.cmpi .slt v4382 c0_i32_2768
  let v4387 : BitVec 1 := Scalar.xori v4385 v4386
  let c0_i32_2766 : BitVec 32 := 0#32
  let v4384 : BitVec 1 := Scalar.cmpi .ne v4383 c0_i32_2766
  let v4388 : BitVec 1 := Scalar.andi v4387 v4384
  let v4389 : BitVec 32 := Scalar.addi v4383 v4382
  let v4390 : BitVec 32 := Scalar.select v4388 v4389 v4383
  let c1_i32_2771 : BitVec 32 := 1#32
  let v4391 : BitVec 32 := Scalar.muli v4390 c1_i32_2771
  let v4392 : BitVec 32 := Scalar.addi c0_i32_2772 v4391
  v4392.toNat
def k0_dev91 (d0 : Dev nD) : Nat :=
  let c0_i32_2787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2777 : BitVec 32 := 28#32
  let v4399 : BitVec 32 := Scalar.addi v2 c28_i32_2777
  let c32_i32_2778 : BitVec 32 := 32#32
  let c0_i32_2779 : BitVec 32 := 0#32
  let v4400 : BitVec 1 := Scalar.cmpi .eq c32_i32_2778 c0_i32_2779
  let c1_i32_2780 : BitVec 32 := 1#32
  let v4401 : BitVec 32 := Scalar.select v4400 c1_i32_2780 c32_i32_2778
  let v4402 : BitVec 32 := Scalar.remsi v4399 v4401
  let c0_i32_2782 : BitVec 32 := 0#32
  let v4404 : BitVec 1 := Scalar.cmpi .slt v4402 c0_i32_2782
  let c0_i32_2783 : BitVec 32 := 0#32
  let v4405 : BitVec 1 := Scalar.cmpi .slt v4401 c0_i32_2783
  let v4406 : BitVec 1 := Scalar.xori v4404 v4405
  let c0_i32_2781 : BitVec 32 := 0#32
  let v4403 : BitVec 1 := Scalar.cmpi .ne v4402 c0_i32_2781
  let v4407 : BitVec 1 := Scalar.andi v4406 v4403
  let v4408 : BitVec 32 := Scalar.addi v4402 v4401
  let v4409 : BitVec 32 := Scalar.select v4407 v4408 v4402
  let c1_i32_2786 : BitVec 32 := 1#32
  let v4410 : BitVec 32 := Scalar.muli v4409 c1_i32_2786
  let v4411 : BitVec 32 := Scalar.addi c0_i32_2787 v4410
  v4411.toNat
def k0_dev92 (d0 : Dev nD) : Nat :=
  let c0_i32_2802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2792 : BitVec 32 := 29#32
  let v4418 : BitVec 32 := Scalar.addi v2 c29_i32_2792
  let c32_i32_2793 : BitVec 32 := 32#32
  let c0_i32_2794 : BitVec 32 := 0#32
  let v4419 : BitVec 1 := Scalar.cmpi .eq c32_i32_2793 c0_i32_2794
  let c1_i32_2795 : BitVec 32 := 1#32
  let v4420 : BitVec 32 := Scalar.select v4419 c1_i32_2795 c32_i32_2793
  let v4421 : BitVec 32 := Scalar.remsi v4418 v4420
  let c0_i32_2797 : BitVec 32 := 0#32
  let v4423 : BitVec 1 := Scalar.cmpi .slt v4421 c0_i32_2797
  let c0_i32_2798 : BitVec 32 := 0#32
  let v4424 : BitVec 1 := Scalar.cmpi .slt v4420 c0_i32_2798
  let v4425 : BitVec 1 := Scalar.xori v4423 v4424
  let c0_i32_2796 : BitVec 32 := 0#32
  let v4422 : BitVec 1 := Scalar.cmpi .ne v4421 c0_i32_2796
  let v4426 : BitVec 1 := Scalar.andi v4425 v4422
  let v4427 : BitVec 32 := Scalar.addi v4421 v4420
  let v4428 : BitVec 32 := Scalar.select v4426 v4427 v4421
  let c1_i32_2801 : BitVec 32 := 1#32
  let v4429 : BitVec 32 := Scalar.muli v4428 c1_i32_2801
  let v4430 : BitVec 32 := Scalar.addi c0_i32_2802 v4429
  v4430.toNat
def k0_dev93 (d0 : Dev nD) : Nat :=
  let c0_i32_2817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2807 : BitVec 32 := 30#32
  let v4437 : BitVec 32 := Scalar.addi v2 c30_i32_2807
  let c32_i32_2808 : BitVec 32 := 32#32
  let c0_i32_2809 : BitVec 32 := 0#32
  let v4438 : BitVec 1 := Scalar.cmpi .eq c32_i32_2808 c0_i32_2809
  let c1_i32_2810 : BitVec 32 := 1#32
  let v4439 : BitVec 32 := Scalar.select v4438 c1_i32_2810 c32_i32_2808
  let v4440 : BitVec 32 := Scalar.remsi v4437 v4439
  let c0_i32_2812 : BitVec 32 := 0#32
  let v4442 : BitVec 1 := Scalar.cmpi .slt v4440 c0_i32_2812
  let c0_i32_2813 : BitVec 32 := 0#32
  let v4443 : BitVec 1 := Scalar.cmpi .slt v4439 c0_i32_2813
  let v4444 : BitVec 1 := Scalar.xori v4442 v4443
  let c0_i32_2811 : BitVec 32 := 0#32
  let v4441 : BitVec 1 := Scalar.cmpi .ne v4440 c0_i32_2811
  let v4445 : BitVec 1 := Scalar.andi v4444 v4441
  let v4446 : BitVec 32 := Scalar.addi v4440 v4439
  let v4447 : BitVec 32 := Scalar.select v4445 v4446 v4440
  let c1_i32_2816 : BitVec 32 := 1#32
  let v4448 : BitVec 32 := Scalar.muli v4447 c1_i32_2816
  let v4449 : BitVec 32 := Scalar.addi c0_i32_2817 v4448
  v4449.toNat
def k0_dev94 (d0 : Dev nD) : Nat :=
  let c0_i32_2832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2822 : BitVec 32 := 31#32
  let v4456 : BitVec 32 := Scalar.addi v2 c31_i32_2822
  let c32_i32_2823 : BitVec 32 := 32#32
  let c0_i32_2824 : BitVec 32 := 0#32
  let v4457 : BitVec 1 := Scalar.cmpi .eq c32_i32_2823 c0_i32_2824
  let c1_i32_2825 : BitVec 32 := 1#32
  let v4458 : BitVec 32 := Scalar.select v4457 c1_i32_2825 c32_i32_2823
  let v4459 : BitVec 32 := Scalar.remsi v4456 v4458
  let c0_i32_2827 : BitVec 32 := 0#32
  let v4461 : BitVec 1 := Scalar.cmpi .slt v4459 c0_i32_2827
  let c0_i32_2828 : BitVec 32 := 0#32
  let v4462 : BitVec 1 := Scalar.cmpi .slt v4458 c0_i32_2828
  let v4463 : BitVec 1 := Scalar.xori v4461 v4462
  let c0_i32_2826 : BitVec 32 := 0#32
  let v4460 : BitVec 1 := Scalar.cmpi .ne v4459 c0_i32_2826
  let v4464 : BitVec 1 := Scalar.andi v4463 v4460
  let v4465 : BitVec 32 := Scalar.addi v4459 v4458
  let v4466 : BitVec 32 := Scalar.select v4464 v4465 v4459
  let c1_i32_2831 : BitVec 32 := 1#32
  let v4467 : BitVec 32 := Scalar.muli v4466 c1_i32_2831
  let v4468 : BitVec 32 := Scalar.addi c0_i32_2832 v4467
  v4468.toNat
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.IdealLoops.lean ====
module

public import proofs.«01_k».proof.Proof.Gen.KernelIdeal.Skeleton
public import proofs.«01_k».proof.Proof.Gen.KernelIdeal.Launch

/-! The kernel function as a program with loops: thirty-one signals, a barrier wait, sixteen ring hops, the exchange
of the local maxima, the quantisation, and the waits for the sends. -/

@[expose] public section

noncomputable section

namespace Cert.KernelIdeal.Own

open Idealize.ShloMosaic Idealize.ShloMosaic.TcCoe Idealize.SL.Sem
open Cert.KernelIdeal.Gen

variable {F : FTy → Type} [FloatOps F]

/-! ## The devices that the kernel addresses -/

/-- The device that the `j`-th barrier signal goes to. -/
def sigDev (d : Dev nD) : ℕ → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | 7 => ⟨k0_dev8 d, k0_dev8_lt d⟩
  | 8 => ⟨k0_dev9 d, k0_dev9_lt d⟩
  | 9 => ⟨k0_dev10 d, k0_dev10_lt d⟩
  | 10 => ⟨k0_dev11 d, k0_dev11_lt d⟩
  | 11 => ⟨k0_dev12 d, k0_dev12_lt d⟩
  | 12 => ⟨k0_dev13 d, k0_dev13_lt d⟩
  | 13 => ⟨k0_dev14 d, k0_dev14_lt d⟩
  | 14 => ⟨k0_dev15 d, k0_dev15_lt d⟩
  | 15 => ⟨k0_dev16 d, k0_dev16_lt d⟩
  | 16 => ⟨k0_dev17 d, k0_dev17_lt d⟩
  | 17 => ⟨k0_dev18 d, k0_dev18_lt d⟩
  | 18 => ⟨k0_dev19 d, k0_dev19_lt d⟩
  | 19 => ⟨k0_dev20 d, k0_dev20_lt d⟩
  | 20 => ⟨k0_dev21 d, k0_dev21_lt d⟩
  | 21 => ⟨k0_dev22 d, k0_dev22_lt d⟩
  | 22 => ⟨k0_dev23 d, k0_dev23_lt d⟩
  | 23 => ⟨k0_dev24 d, k0_dev24_lt d⟩
  | 24 => ⟨k0_dev25 d, k0_dev25_lt d⟩
  | 25 => ⟨k0_dev26 d, k0_dev26_lt d⟩
  | 26 => ⟨k0_dev27 d, k0_dev27_lt d⟩
  | 27 => ⟨k0_dev28 d, k0_dev28_lt d⟩
  | 28 => ⟨k0_dev29 d, k0_dev29_lt d⟩
  | 29 => ⟨k0_dev30 d, k0_dev30_lt d⟩
  | _ => ⟨k0_dev31 d, k0_dev31_lt d⟩

/-- The device that the clockwise copy of a hop goes to. -/
def rDev (d : Dev nD) : ℕ → Dev nD
  | 0 => ⟨k0_dev32 d, k0_dev32_lt d⟩
  | 1 => ⟨k0_dev34 d, k0_dev34_lt d⟩
  | 2 => ⟨k0_dev36 d, k0_dev36_lt d⟩
  | 3 => ⟨k0_dev38 d, k0_dev38_lt d⟩
  | 4 => ⟨k0_dev40 d, k0_dev40_lt d⟩
  | 5 => ⟨k0_dev42 d, k0_dev42_lt d⟩
  | 6 => ⟨k0_dev44 d, k0_dev44_lt d⟩
  | 7 => ⟨k0_dev46 d, k0_dev46_lt d⟩
  | 8 => ⟨k0_dev48 d, k0_dev48_lt d⟩
  | 9 => ⟨k0_dev50 d, k0_dev50_lt d⟩
  | 10 => ⟨k0_dev52 d, k0_dev52_lt d⟩
  | 11 => ⟨k0_dev54 d, k0_dev54_lt d⟩
  | 12 => ⟨k0_dev56 d, k0_dev56_lt d⟩
  | 13 => ⟨k0_dev58 d, k0_dev58_lt d⟩
  | 14 => ⟨k0_dev60 d, k0_dev60_lt d⟩
  | _ => ⟨k0_dev62 d, k0_dev62_lt d⟩

/-- The device that the counter-clockwise copy of a hop goes to. -/
def lDev (d : Dev nD) : ℕ → Dev nD
  | 0 => ⟨k0_dev33 d, k0_dev33_lt d⟩
  | 1 => ⟨k0_dev35 d, k0_dev35_lt d⟩
  | 2 => ⟨k0_dev37 d, k0_dev37_lt d⟩
  | 3 => ⟨k0_dev39 d, k0_dev39_lt d⟩
  | 4 => ⟨k0_dev41 d, k0_dev41_lt d⟩
  | 5 => ⟨k0_dev43 d, k0_dev43_lt d⟩
  | 6 => ⟨k0_dev45 d, k0_dev45_lt d⟩
  | 7 => ⟨k0_dev47 d, k0_dev47_lt d⟩
  | 8 => ⟨k0_dev49 d, k0_dev49_lt d⟩
  | 9 => ⟨k0_dev51 d, k0_dev51_lt d⟩
  | 10 => ⟨k0_dev53 d, k0_dev53_lt d⟩
  | 11 => ⟨k0_dev55 d, k0_dev55_lt d⟩
  | 12 => ⟨k0_dev57 d, k0_dev57_lt d⟩
  | 13 => ⟨k0_dev59 d, k0_dev59_lt d⟩
  | 14 => ⟨k0_dev61 d, k0_dev61_lt d⟩
  | _ => ⟨k0_dev63 d, k0_dev63_lt d⟩

/-- The device that the `j`-th copy of the local maximum goes to. -/
def amDev (d : Dev nD) : ℕ → Dev nD
  | 0 => ⟨k0_dev64 d, k0_dev64_lt d⟩
  | 1 => ⟨k0_dev65 d, k0_dev65_lt d⟩
  | 2 => ⟨k0_dev66 d, k0_dev66_lt d⟩
  | 3 => ⟨k0_dev67 d, k0_dev67_lt d⟩
  | 4 => ⟨k0_dev68 d, k0_dev68_lt d⟩
  | 5 => ⟨k0_dev69 d, k0_dev69_lt d⟩
  | 6 => ⟨k0_dev70 d, k0_dev70_lt d⟩
  | 7 => ⟨k0_dev71 d, k0_dev71_lt d⟩
  | 8 => ⟨k0_dev72 d, k0_dev72_lt d⟩
  | 9 => ⟨k0_dev73 d, k0_dev73_lt d⟩
  | 10 => ⟨k0_dev74 d, k0_dev74_lt d⟩
  | 11 => ⟨k0_dev75 d, k0_dev75_lt d⟩
  | 12 => ⟨k0_dev76 d, k0_dev76_lt d⟩
  | 13 => ⟨k0_dev77 d, k0_dev77_lt d⟩
  | 14 => ⟨k0_dev78 d, k0_dev78_lt d⟩
  | 15 => ⟨k0_dev79 d, k0_dev79_lt d⟩
  | 16 => ⟨k0_dev80 d, k0_dev80_lt d⟩
  | 17 => ⟨k0_dev81 d, k0_dev81_lt d⟩
  | 18 => ⟨k0_dev82 d, k0_dev82_lt d⟩
  | 19 => ⟨k0_dev83 d, k0_dev83_lt d⟩
  | 20 => ⟨k0_dev84 d, k0_dev84_lt d⟩
  | 21 => ⟨k0_dev85 d, k0_dev85_lt d⟩
  | 22 => ⟨k0_dev86 d, k0_dev86_lt d⟩
  | 23 => ⟨k0_dev87 d, k0_dev87_lt d⟩
  | 24 => ⟨k0_dev88 d, k0_dev88_lt d⟩
  | 25 => ⟨k0_dev89 d, k0_dev89_lt d⟩
  | 26 => ⟨k0_dev90 d, k0_dev90_lt d⟩
  | 27 => ⟨k0_dev91 d, k0_dev91_lt d⟩
  | 28 => ⟨k0_dev92 d, k0_dev92_lt d⟩
  | 29 => ⟨k0_dev93 d, k0_dev93_lt d⟩
  | _ => ⟨k0_dev94 d, k0_dev94_lt d⟩

/-! ## Pieces of the program -/

/-- The programs of the kernel's body. -/
abbrev PG (F : FTy → Type) [FloatOps F] (α : Type) := Prog (TpuEff nD τ sig (Elt F) Λ₀ .tc) α

/-- `f k`, `f (k+1)`, … `n` times, each passing its result on to the next. -/
def forUp {α : Type} (f : ℕ → α → PG F α) : ℕ → ℕ → α → PG F α
  | _, 0, a => pure a
  | k, n + 1, a => f k a >>= forUp f (k + 1) n

/-- An index below 15, 16 and 31. -/
def f15 (h : ℕ) : Fin 15 := ⟨h % 15, Nat.mod_lt _ (by decide)⟩
def f16 (h : ℕ) : Fin 16 := ⟨h % 16, Nat.mod_lt _ (by decide)⟩
def f31 (h : ℕ) : Fin 31 := ⟨h % 31, Nat.mod_lt _ (by decide)⟩

theorem inb16 : ∀ r : Fin 16, ∀ a, (![r.val] : Fin 1 → ℕ) a + S1.size a ≤ S16.size a := by decide
theorem inb31 : ∀ r : Fin 31, ∀ a, (![r.val] : Fin 1 → ℕ) a + S1.size a ≤ S31.size a := by decide

/-- The `h`-th semaphore of an array of sixteen. -/
def sem16 (a : DmaSems sig S16) (h : ℕ) : DmaSem sig :=
  ((a.slice (Rect.unit (s := S16) ![(f16 h).val] S1.size (inb16 (f16 h)))).squeeze S_ squeezes_S1_S_).sem
/-- The `j`-th semaphore of an array of thirty-one. -/
def sem31 (a : DmaSems sig S31) (j : ℕ) : DmaSem sig :=
  ((a.slice (Rect.unit (s := S31) ![(f31 j).val] S1.size (inb31 (f31 j)))).squeeze S_ squeezes_S1_S_).sem

/-- The rows of `x` that hop `h` sends clockwise and counter-clockwise; the half blocks of the last hop; the row of
    the maxima that the device sends. -/
def rSl (arg3 : Memref sig .tc .vmem S4096x4096 .bf16) (d0 : Dev nD) (h : ℕ) : Memref sig .tc .vmem S128x4096 .bf16 :=
  arg3.slice (Rect.unit (s := S4096x4096) (k0_off2 d0 (BitVec.ofNat 32 (f15 h).val)) S128x4096.size (k0_off2_inb d0 (f15 h))) (fun _ => rfl)
def lSl (arg3 : Memref sig .tc .vmem S4096x4096 .bf16) (d0 : Dev nD) (h : ℕ) : Memref sig .tc .vmem S128x4096 .bf16 :=
  arg3.slice (Rect.unit (s := S4096x4096) (k0_off3 d0 (BitVec.ofNat 32 (f15 h).val)) S128x4096.size (k0_off3_inb d0 (f15 h))) (fun _ => rfl)
def rHalf (arg3 : Memref sig .tc .vmem S4096x4096 .bf16) (d0 : Dev nD) : Memref sig .tc .vmem S64x4096 .bf16 :=
  arg3.slice (Rect.unit (s := S4096x4096) (k0_off9 d0) S64x4096.size (k0_off9_inb d0)) (fun _ => rfl)
def lHalf (arg3 : Memref sig .tc .vmem S4096x4096 .bf16) (d0 : Dev nD) : Memref sig .tc .vmem S64x4096 .bf16 :=
  arg3.slice (Rect.unit (s := S4096x4096) (k0_off10 d0) S64x4096.size (k0_off10_inb d0)) (fun _ => rfl)
def amSl (arg4 : Memref sig .tc .vmem S32x8x128 .f32) (d0 : Dev nD) : Memref sig .tc .vmem S1x8x128 .f32 :=
  arg4.slice (Rect.unit (s := S32x8x128) (k0_off12 d0) S1x8x128.size (k0_off12_inb d0)) (fun _ => rfl)

/-- The largest element of a block. -/
def blkMax (y : FVec F S128x64 .f32) : F .f32 :=
  extractAt ![0, 0, 0] (shapeCast S1x1x1 (multiReduction .maximumf [1, 2] S1 (shapeCast S1x128x64 y shapeCasts_S128x64_S1x128x64) 0xFF800000#32 reduces_S1x128x64_S1 (.inl rfl) rfl) shapeCasts_S1_S1x1x1) inpos_S1x1x1_p0_0_0

/-- One block: read its rows of `x`, multiply, keep the positive part, store, and update the running maximum. -/
def dotStep (arg2 : Memref sig .tc .vmem S4096x64 .f32) (arg3 : Memref sig .tc .vmem S4096x4096 .bf16) (w : FVec F S4096x64 .bf16)
    (o3 o2 : Fin 2 → ℕ) (h3 : ∀ a, o3 a + S128x4096.size a ≤ S4096x4096.size a) (h2 : ∀ a, o2 a + S128x64.size a ≤ S4096x64.size a)
    (run : F .f32) : PG F (F .f32) := do
  let x : Vec F S128x4096 .bf16 ← Prog.lift (.load arg3 (Rect.unit (s := S4096x4096) o3 S128x4096.size h3).toLoadRect (View.loadsAt_vmem h_S128x4096))
  let _ : Vec F S128x64 .f32 ← Prog.lift (.load arg2 (Rect.unit (s := S4096x64) o2 S128x64.size h2).toLoadRect (View.loadsAt_vmem h_S128x64))
  Prog.lift (.store arg2 (Rect.unit (s := S4096x64) o2 S128x64.size h2) (k0_pay5 w x) Finset.univ (View.stores_vmem_bits_univ h_S128x64 rfl) (.inl rfl))
  pure (Scalar.maximumf run (blkMax (k0_pay5 w x)))

section
variable (arg0 : Memref sig .tc .vmem S128x4096 .bf16) (harg0 : arg0.IsWhole) (arg1 : Memref sig .tc .vmem S4096x64 .bf16) (harg1 : arg1.IsWhole) (arg2 : Memref sig .tc .vmem S4096x64 .f32) (harg2 : arg2.IsWhole) (arg3 : Memref sig .tc .vmem S4096x4096 .bf16) (harg3 : arg3.IsWhole) (arg4 : Memref sig .tc .vmem S32x8x128 .f32) (harg4 : arg4.IsWhole) (arg5 : DmaSems sig S16) (arg6 : DmaSems sig S16) (arg7 : DmaSems sig S16) (arg8 : DmaSems sig S16) (arg9 : DmaSems sig S31) (arg10 : DmaSems sig S31)

/-- The sends of a hop. -/
def sendR (d0 : Dev nD) (h : ℕ) : PG F PUnit :=
  Prog.lift (.enqueueDma (rSl arg3 d0 h) (.remote (Dev.tc (rDev d0 h)) (rSl arg3 d0 h) (.dma (sem16 arg5 h))) (.dma (sem16 arg6 h)) (harg3.wordExact_slice rfl _ (k0_off2_wordsbf16 d0 (f15 h))) (harg3.wordExact_slice rfl _ (k0_off2_wordsbf16 d0 (f15 h))) ⟨⟨rfl, Or.inl rfl⟩, trivial⟩)
def sendL (d0 : Dev nD) (h : ℕ) : PG F PUnit :=
  Prog.lift (.enqueueDma (lSl arg3 d0 h) (.remote (Dev.tc (lDev d0 h)) (lSl arg3 d0 h) (.dma (sem16 arg7 h))) (.dma (sem16 arg8 h)) (harg3.wordExact_slice rfl _ (k0_off3_wordsbf16 d0 (f15 h))) (harg3.wordExact_slice rfl _ (k0_off3_wordsbf16 d0 (f15 h))) ⟨⟨rfl, Or.inl rfl⟩, trivial⟩)
def sendRH (d0 : Dev nD) : PG F PUnit :=
  Prog.lift (.enqueueDma (rHalf arg3 d0) (.remote (Dev.tc (rDev d0 15)) (rHalf arg3 d0) (.dma (sem16 arg5 15))) (.dma (sem16 arg6 15)) (harg3.wordExact_slice rfl _ (k0_off9_wordsbf16 d0)) (harg3.wordExact_slice rfl _ (k0_off9_wordsbf16 d0)) ⟨⟨rfl, Or.inl rfl⟩, trivial⟩)
def sendLH (d0 : Dev nD) : PG F PUnit :=
  Prog.lift (.enqueueDma (lHalf arg3 d0) (.remote (Dev.tc (lDev d0 15)) (lHalf arg3 d0) (.dma (sem16 arg7 15))) (.dma (sem16 arg8 15)) (harg3.wordExact_slice rfl _ (k0_off10_wordsbf16 d0)) (harg3.wordExact_slice rfl _ (k0_off10_wordsbf16 d0)) ⟨⟨rfl, Or.inl rfl⟩, trivial⟩)
def sendA (d0 : Dev nD) (j : ℕ) : PG F PUnit :=
  Prog.lift (.enqueueDma (amSl arg4 d0) (.remote (Dev.tc (amDev d0 j)) (amSl arg4 d0) (.dma (sem31 arg9 j))) (.dma (sem31 arg10 j)) (View.wordExact_bits rfl) (View.wordExact_bits rfl) ⟨⟨rfl, Or.inl rfl⟩, trivial⟩)

/-- The waits, on the semaphore of a hop. -/
def waitR (d0 : Dev nD) (s : DmaSems sig S16) (h : ℕ) : PG F PUnit :=
  Prog.lift (.waitDma2 (sem16 s h) (rSl arg3 d0 h) (rSl arg3 d0 h) (harg3.wordExact_slice rfl _ (k0_off2_wordsbf16 d0 (f15 h))) (harg3.wordExact_slice rfl _ (k0_off2_wordsbf16 d0 (f15 h))))
def waitL (d0 : Dev nD) (s : DmaSems sig S16) (h : ℕ) : PG F PUnit :=
  Prog.lift (.waitDma2 (sem16 s h) (lSl arg3 d0 h) (lSl arg3 d0 h) (harg3.wordExact_slice rfl _ (k0_off3_wordsbf16 d0 (f15 h))) (harg3.wordExact_slice rfl _ (k0_off3_wordsbf16 d0 (f15 h))))
def waitRH (d0 : Dev nD) (s : DmaSems sig S16) : PG F PUnit :=
  Prog.lift (.waitDma2 (sem16 s 15) (rHalf arg3 d0) (rHalf arg3 d0) (harg3.wordExact_slice rfl _ (k0_off9_wordsbf16 d0)) (harg3.wordExact_slice rfl _ (k0_off9_wordsbf16 d0)))
def waitLH (d0 : Dev nD) (s : DmaSems sig S16) : PG F PUnit :=
  Prog.lift (.waitDma2 (sem16 s 15) (lHalf arg3 d0) (lHalf arg3 d0) (harg3.wordExact_slice rfl _ (k0_off10_wordsbf16 d0)) (harg3.wordExact_slice rfl _ (k0_off10_wordsbf16 d0)))
def waitA (d0 : Dev nD) (s : DmaSems sig S31) (j : ℕ) : PG F PUnit :=
  Prog.lift (.waitDma2 (sem31 s j) (amSl arg4 d0) (amSl arg4 d0) (View.wordExact_bits rfl) (View.wordExact_bits rfl))

/-- Hop `h` of the ring, for `h` from 1 to 14. -/
def hop (d0 : Dev nD) (w : FVec F S4096x64 .bf16) (h : ℕ) (run : F .f32) : PG F (F .f32) := do
  sendR arg3 harg3 arg5 arg6 d0 h
  sendL arg3 harg3 arg7 arg8 d0 h
  let r₁ ← dotStep arg2 arg3 w (k0_off5 d0 (BitVec.ofNat 32 (1 + (f15 (h - 1)).val))) (k0_off6 d0 (BitVec.ofNat 32 (1 + (f15 (h - 1)).val))) (k0_off5_inb d0 (f15 (h - 1))) (k0_off6_inb d0 (f15 (h - 1))) run
  let r₂ ← dotStep arg2 arg3 w (k0_off7 d0 (BitVec.ofNat 32 (1 + (f16 (h - 1)).val))) (k0_off8 d0 (BitVec.ofNat 32 (1 + (f16 (h - 1)).val))) (k0_off7_inb d0 (f16 (h - 1))) (k0_off8_inb d0 (f16 (h - 1))) r₁
  waitR arg3 harg3 d0 arg6 h
  waitL arg3 harg3 d0 arg8 h
  pure r₂

/-- The first hop. -/
def hop0 (d0 : Dev nD) (w : FVec F S4096x64 .bf16) : PG F (F .f32) := do
  sendR arg3 harg3 arg5 arg6 d0 0
  sendL arg3 harg3 arg7 arg8 d0 0
  let r₁ ← dotStep arg2 arg3 w (k0_off1 d0) (k0_off4 d0) (k0_off1_inb d0) (k0_off4_inb d0) (Scalar.ofBits .f32 0x00000000#32)
  waitR arg3 harg3 d0 arg6 0
  waitL arg3 harg3 d0 arg8 0
  pure r₁

/-- The last hop and the block that it brings. -/
def hop15 (d0 : Dev nD) (w : FVec F S4096x64 .bf16) (run : F .f32) : PG F (F .f32) := do
  sendRH arg3 harg3 arg5 arg6 d0
  sendLH arg3 harg3 arg7 arg8 d0
  let r₁ ← dotStep arg2 arg3 w (k0_off5 d0 (BitVec.ofNat 32 (1 + (f15 14).val))) (k0_off6 d0 (BitVec.ofNat 32 (1 + (f15 14).val))) (k0_off5_inb d0 (f15 14)) (k0_off6_inb d0 (f15 14)) run
  let r₂ ← dotStep arg2 arg3 w (k0_off7 d0 (BitVec.ofNat 32 (1 + (f16 14).val))) (k0_off8 d0 (BitVec.ofNat 32 (1 + (f16 14).val))) (k0_off7_inb d0 (f16 14)) (k0_off8_inb d0 (f16 14)) r₁
  waitRH arg3 harg3 d0 arg6
  waitLH arg3 harg3 d0 arg8
  dotStep arg2 arg3 w (k0_off7 d0 (BitVec.ofNat 32 (1 + (f16 15).val))) (k0_off8 d0 (BitVec.ofNat 32 (1 + (f16 15).val))) (k0_off7_inb d0 (f16 15)) (k0_off8_inb d0 (f16 15)) r₂

/-- A signal of the barrier. -/
def signalB (d0 : Dev nD) (j : ℕ) (_ : PUnit) : PG F PUnit :=
  semSignalWord (sigDev d0 j) (sig.barrier 0 rfl) 1#32

/-- Copying the device's rows of `x` into the gathered array. -/
def fillOwn (d0 : Dev nD) : PG F PUnit := do
  let x : Vec F S128x4096 .bf16 ← Prog.lift (.load arg0 (Rect.unit (s := S128x4096) ![0, 0] S128x4096.size inb_S128x4096_S128x4096_0_0).toLoadRect (View.loadsAt_vmem h_S128x4096))
  let _ : Vec F S128x4096 .bf16 ← Prog.lift (.load arg3 (Rect.unit (s := S4096x4096) (k0_off1 d0) S128x4096.size (k0_off1_inb d0)).toLoadRect (View.loadsAt_vmem h_S128x4096))
  Prog.lift (.store arg3 (Rect.unit (s := S4096x4096) (k0_off1 d0) S128x4096.size (k0_off1_inb d0)) (k0_pay2 x) Finset.univ (View.stores_vmem h_S128x4096 (harg3.storeExact_slice rfl _ (k0_off1_packedbf16 d0)) (fun _ => rfl)) (.inl rfl))

/-- Storing the local maximum in the device's row of the maxima. -/
def fillMax (d0 : Dev nD) (run : F .f32) : PG F PUnit := do
  let _ : Vec F S1x8x128 .f32 ← Prog.lift (.load arg4 (Rect.unit (s := S32x8x128) (k0_off11 d0) S1x8x128.size (k0_off11_inb d0)).toLoadRect (View.loadsAt_vmem h_S1x8x128))
  Prog.lift (.store arg4 (Rect.unit (s := S32x8x128) (k0_off11 d0) S1x8x128.size (k0_off11_inb d0)) (k0_pay64 (broadcast S1x8x128 run)) Finset.univ (View.stores_vmem_bits_univ h_S1x8x128 rfl) (.inl rfl))

/-- Reading all maxima and quantising the whole result. -/
def quant : PG F PUnit := do
  let m : Vec F S32x1x1 .f32 ← Prog.lift (.load arg4 (Rect.unit (s := S32x8x128) ![0, 0, 0] S32x1x1.size inb_S32x8x128_S32x1x1_0_0_0).toLoadRect (View.loadsAt_vmem h_S32x1x1))
  let y : Vec F S4096x64 .f32 ← Prog.lift (.load arg2 (Rect.unit (s := S4096x64) ![0, 0] S4096x64.size inb_S4096x64_S4096x64_0_0).toLoadRect (View.loadsAt_vmem h_S4096x64))
  let _ : Vec F S4096x64 .f32 ← Prog.lift (.load arg2 (Rect.unit (s := S4096x64) ![0, 0] S4096x64.size inb_S4096x64_S4096x64_0_0).toLoadRect (View.loadsAt_vmem h_S4096x64))
  Prog.lift (.store arg2 (Rect.unit (s := S4096x64) ![0, 0] S4096x64.size inb_S4096x64_S4096x64_0_0) (k0_pay65 m y) Finset.univ (View.stores_vmem_bits_univ h_S4096x64 rfl) (.inl rfl))

/-- The waits for both sends of hop `h`. -/
def drain (d0 : Dev nD) (h : ℕ) (_ : PUnit) : PG F PUnit := do
  waitR arg3 harg3 d0 arg5 h
  waitL arg3 harg3 d0 arg7 h

/-- The kernel function with its loops. -/
def looped : PG F PUnit := do
  let d0 : Dev nD ← Prog.lift .deviceId
  let w : Vec F S4096x64 .bf16 ← Prog.lift (.load arg1 (Rect.unit (s := S4096x64) ![0, 0] S4096x64.size inb_S4096x64_S4096x64_0_0).toLoadRect (View.loadsAt_vmem h_S4096x64))
  forUp (signalB d0) 0 31 ⟨⟩
  semWaitWord (sig.barrier 0 rfl) 31#32
  fillOwn arg0 arg3 harg3 d0
  let r₀ ← hop0 arg2 arg3 harg3 arg5 arg6 arg7 arg8 d0 (k0_pay1 w)
  let r₁ ← forUp (hop arg2 arg3 harg3 arg5 arg6 arg7 arg8 d0 (k0_pay1 w)) 1 14 r₀
  let r₂ ← hop15 arg2 arg3 harg3 arg5 arg6 arg7 arg8 d0 (k0_pay1 w) r₁
  fillMax arg4 d0 r₂
  forUp (fun j _ => sendA arg4 arg9 arg10 d0 j) 0 31 ⟨⟩
  forUp (fun j _ => waitA arg4 d0 arg10 j) 0 31 ⟨⟩
  quant arg2 arg4
  forUp (drain arg3 harg3 arg5 arg7 d0) 0 15 ⟨⟩
  waitRH arg3 harg3 d0 arg5
  waitLH arg3 harg3 d0 arg7
  forUp (fun j _ => waitA arg4 d0 arg9 j) 0 31 ⟨⟩

set_option maxRecDepth 1000000 in
/-- The kernel function is that program. -/
theorem body_looped : cc0_body_skel (F := F) arg0 harg0 arg1 harg1 arg2 harg2 arg3 harg3 arg4 harg4 arg5 arg6 arg7 arg8 arg9 arg10
    = looped arg0 arg1 arg2 arg3 harg3 arg4 arg5 arg6 arg7 arg8 arg9 arg10 := by
  chain_rfl

end

end Cert.KernelIdeal.Own

end
-- ==== Proof.IdealMesh.lean ====
module

public import proofs.«01_k».proof.Proof.IdealLoops

/-! The ring of devices, the devices and the row offsets of the program in closed form, and the regions of the
gathered array that the hops move. -/

@[expose] public section

set_option Elab.async false

noncomputable section

namespace Cert.KernelIdeal.Own

open Idealize.ShloMosaic Idealize.ShloMosaic.TcCoe Idealize.SL.Sem
open Cert.KernelIdeal.Gen

variable {F : FTy → Type} [FloatOps F]

/-! ## The ring -/

/-- The device at a place of the ring. -/
def ringAt (p : ℕ) : Dev nD :=
  let p := p % 32
  let q := if p < 16 then p else 31 - p
  let x := if p < 16 then 0 else 1
  let y := q / 4
  let r := q % 4
  let z := if y % 2 = 0 then r else 3 - r
  ⟨(8 * z + 2 * y + (x + y) % 2) % 32, Nat.mod_lt _ (by decide)⟩

/-- The place of a device in the ring. -/
def posAt (c : Dev nD) : ℕ :=
  let z := c.val / 8
  let y := c.val % 8 / 2
  let x := (c.val % 2 + y) % 2
  let q := 4 * y + (if y % 2 = 0 then z else 3 - z)
  if x = 0 then q else 31 - q

theorem posAt_lt : ∀ c : Dev nD, posAt c < 32 := by decide +kernel
theorem ringAt_posAt : ∀ c : Dev nD, ringAt (posAt c) = c := by decide +kernel
theorem posAt_ringAt' : ∀ p : Fin 32, posAt (ringAt p.val) = p.val := by decide +kernel
theorem ringAt_mod (p : ℕ) : ringAt (p % 32) = ringAt p := by unfold ringAt; simp only [Nat.mod_mod]
theorem posAt_ringAt (p : ℕ) : posAt (ringAt p) = p % 32 := by
  rw [← ringAt_mod]; exact posAt_ringAt' ⟨p % 32, Nat.mod_lt _ (by decide)⟩

theorem ringAt_eq_iff (p : ℕ) (b : Dev nD) : ringAt p = b ↔ p % 32 = posAt b :=
  ⟨fun h => by rw [← h, posAt_ringAt], fun h => by rw [← ringAt_mod, h, ringAt_posAt]⟩

/-- The next device of the ring and the one before. -/
def right (c : Dev nD) : Dev nD := ringAt (posAt c + 1)
def left (c : Dev nD) : Dev nD := ringAt (posAt c + 31)

theorem left_right (c : Dev nD) : left (right c) = c := by
  unfold left right; rw [ringAt_eq_iff, posAt_ringAt]; have := posAt_lt c; omega
theorem right_left (c : Dev nD) : right (left c) = c := by
  unfold left right; rw [ringAt_eq_iff, posAt_ringAt]; have := posAt_lt c; omega

/-- The block that a device sends clockwise, and counter-clockwise, at hop `h`. -/
def blkR (c : Dev nD) (h : ℕ) : Dev nD := ringAt (posAt c + (32 - h))
def blkL (c : Dev nD) (h : ℕ) : Dev nD := ringAt (posAt c + h)

theorem blkR_zero (c : Dev nD) : blkR c 0 = c := by
  unfold blkR; rw [ringAt_eq_iff]; have := posAt_lt c; omega
theorem blkL_zero (c : Dev nD) : blkL c 0 = c := by
  unfold blkL; rw [ringAt_eq_iff]; have := posAt_lt c; omega
theorem blkR_left (c : Dev nD) (h : ℕ) (hh : h < 32) : blkR (left c) h = blkR c (h + 1) := by
  unfold blkR left; rw [ringAt_eq_iff]; rw [posAt_ringAt, posAt_ringAt]; have := posAt_lt c; omega
theorem blkL_right (c : Dev nD) (h : ℕ) : blkL (right c) h = blkL c (h + 1) := by
  unfold blkL right; rw [ringAt_eq_iff]; rw [posAt_ringAt, posAt_ringAt]; have := posAt_lt c; omega
theorem blkL_16 (c : Dev nD) : blkL c 16 = blkR c 16 := rfl

theorem rDev_eq : ∀ (c : Dev nD) (h : Fin 16), rDev c h.val = right c := by decide +kernel
theorem lDev_eq : ∀ (c : Dev nD) (h : Fin 16), lDev c h.val = left c := by decide +kernel

/-! ## The other devices in turn -/

/-- The device `j + 1` places further in the numbering, and the one `j + 1` places back. -/
def peer (c : Dev nD) (j : ℕ) : Dev nD := ⟨(c.val + j + 1) % 32, Nat.mod_lt _ (by decide)⟩
def back (c : Dev nD) (j : ℕ) : Dev nD := ⟨(c.val + (31 - j)) % 32, Nat.mod_lt _ (by decide)⟩

theorem dev_lt (c : Dev nD) : c.val < 32 := c.isLt
theorem back_peer (c : Dev nD) (j : ℕ) (hj : j < 31) : back (peer c j) j = c := by
  have := dev_lt c; refine Fin.ext ?_; simp only [back, peer]; omega
theorem peer_back (c : Dev nD) (j : ℕ) (hj : j < 31) : peer (back c j) j = c := by
  have := dev_lt c; refine Fin.ext ?_; simp only [back, peer]; omega
theorem back_ne (c : Dev nD) (j : ℕ) (hj : j < 31) : back c j ≠ c := by
  have := dev_lt c; intro h; have := congrArg Fin.val h; simp only [back] at this; omega

theorem sigDev_eq : ∀ (c : Dev nD) (j : Fin 31), sigDev c j.val = peer c j.val := by decide +kernel
theorem amDev_eq : ∀ (c : Dev nD) (j : Fin 31), amDev c j.val = peer c j.val := by decide +kernel

/-- The number of the signal by which `d` reaches `c`. -/
def sigNo (d c : Dev nD) : ℕ := (c.val + 31 - d.val) % 32
theorem sigNo_lt : ∀ d c : Dev nD, d ≠ c → sigNo d c < 31 := by decide +kernel
theorem peer_sigNo : ∀ d c : Dev nD, peer d (sigNo d c) = c := by decide +kernel
theorem right_ne : ∀ c : Dev nD, right c ≠ c := by decide +kernel
theorem left_ne : ∀ c : Dev nD, left c ≠ c := by decide +kernel

/-! ## The offsets -/

theorem off2_eq : ∀ (c : Dev nD) (h : Fin 15), k0_off2 c (BitVec.ofNat 32 h.val) = ![128 * (blkR c h.val).val, 0] := by decide +kernel
theorem off3_eq : ∀ (c : Dev nD) (h : Fin 15), k0_off3 c (BitVec.ofNat 32 h.val) = ![128 * (blkL c h.val).val, 0] := by decide +kernel
theorem off5_eq : ∀ (c : Dev nD) (h : Fin 15), k0_off5 c (BitVec.ofNat 32 (1 + h.val)) = ![128 * (blkR c (1 + h.val)).val, 0] := by decide +kernel
theorem off6_eq : ∀ (c : Dev nD) (h : Fin 15), k0_off6 c (BitVec.ofNat 32 (1 + h.val)) = ![128 * (blkR c (1 + h.val)).val, 0] := by decide +kernel
theorem off7_eq : ∀ (c : Dev nD) (h : Fin 16), k0_off7 c (BitVec.ofNat 32 (1 + h.val)) = ![128 * (blkL c (1 + h.val)).val, 0] := by decide +kernel
theorem off8_eq : ∀ (c : Dev nD) (h : Fin 16), k0_off8 c (BitVec.ofNat 32 (1 + h.val)) = ![128 * (blkL c (1 + h.val)).val, 0] := by decide +kernel
theorem off9_eq : ∀ (c : Dev nD), k0_off9 c = ![128 * (blkR c 15).val, 0] := by decide +kernel
theorem off10_eq : ∀ (c : Dev nD), k0_off10 c = ![128 * (blkL c 15).val + 64, 0] := by decide +kernel

/-! ## The semaphores by number -/

/-- A DMA semaphore by number. -/
def dsem (n : ℕ) : DmaSem sig := ⟨n % 129, Nat.mod_lt _ (by decide)⟩

theorem sem_rs : ∀ h : Fin 16, sem16 cc0_scratch2 h.val = dsem (3 + h.val) := by decide +kernel
theorem sem_rr : ∀ h : Fin 16, sem16 cc0_scratch3 h.val = dsem (19 + h.val) := by decide +kernel
theorem sem_ls : ∀ h : Fin 16, sem16 cc0_scratch4 h.val = dsem (35 + h.val) := by decide +kernel
theorem sem_lr : ∀ h : Fin 16, sem16 cc0_scratch5 h.val = dsem (51 + h.val) := by decide +kernel
theorem sem_as : ∀ j : Fin 31, sem31 cc0_scratch6 j.val = dsem (67 + j.val) := by decide +kernel
theorem sem_ar : ∀ j : Fin 31, sem31 cc0_scratch7 j.val = dsem (98 + j.val) := by decide +kernel

end Cert.KernelIdeal.Own

end
-- ==== Proof.IdealRegions.lean ====
module

public import proofs.«01_k».proof.Proof.IdealMesh

/-! The parts of the gathered array, of the maxima and of the result that the program reads, writes and sends, and
what they hold. -/

@[expose] public section

noncomputable section

namespace Cert.KernelIdeal.Own

open Idealize.ShloMosaic Idealize.ShloMosaic.TcCoe Idealize.SL.Sem
open Cert.KernelIdeal.Gen

variable {F : FTy → Type} [FloatOps F]

/-! ## The buffers -/

abbrev xM : Memref sig .tc .vmem S128x4096 .bf16 := Memref.whole cc0_stg0_0
abbrev wM : Memref sig .tc .vmem S4096x64 .bf16 := Memref.whole cc0_stg1_0
abbrev oM : Memref sig .tc .vmem S4096x64 .f32 := Memref.whole cc0_stg2_0
abbrev gM : Memref sig .tc .vmem S4096x4096 .bf16 := Memref.whole cc0_scratch0
abbrev aM : Memref sig .tc .vmem S32x8x128 .f32 := Memref.whole cc0_scratch1

/-! ## Parts of the gathered array -/

/-- The rows of block `b`; the `n`-th run of 64 rows. -/
def bSet (b : Dev nD) : Finset S4096x4096.Idx := Finset.univ.filter fun y => (y (0 : Fin 2)).val / 128 = b.val
def hSet (n : ℕ) : Finset S4096x4096.Idx := Finset.univ.filter fun y => (y (0 : Fin 2)).val / 64 = n
/-- What device `c` sends clockwise, and counter-clockwise, at hop `h`. -/
def rSet (c : Dev nD) (h : ℕ) : Finset S4096x4096.Idx := if h < 15 then bSet (blkR c h) else hSet (2 * (blkR c h).val)
def lSet (c : Dev nD) (h : ℕ) : Finset S4096x4096.Idx := if h < 15 then bSet (blkL c h) else hSet (2 * (blkL c h).val + 1)

theorem mem_bSet {b : Dev nD} {y : S4096x4096.Idx} : y ∈ bSet b ↔ (y (0 : Fin 2)).val / 128 = b.val := by
  unfold bSet; rw [Finset.mem_filter]; exact ⟨fun h => h.2, fun h => ⟨Finset.mem_univ _, h⟩⟩
theorem mem_hSet {n : ℕ} {y : S4096x4096.Idx} : y ∈ hSet n ↔ (y (0 : Fin 2)).val / 64 = n := by
  unfold hSet; rw [Finset.mem_filter]; exact ⟨fun h => h.2, fun h => ⟨Finset.mem_univ _, h⟩⟩

theorem rSet_lt {c : Dev nD} {h : ℕ} (hh : h < 15) : rSet c h = bSet (blkR c h) := if_pos hh
theorem lSet_lt {c : Dev nD} {h : ℕ} (hh : h < 15) : lSet c h = bSet (blkL c h) := if_pos hh
theorem rSet_15 (c : Dev nD) : rSet c 15 = hSet (2 * (blkR c 15).val) := if_neg (by decide)
theorem lSet_15 (c : Dev nD) : lSet c 15 = hSet (2 * (blkL c 15).val + 1) := if_neg (by decide)

theorem row_lt (y : S4096x4096.Idx) : (y (0 : Fin 2)).val < 4096 := (y (0 : Fin 2)).isLt
theorem col_lt (y : S4096x4096.Idx) : (y (1 : Fin 2)).val < 4096 := (y (1 : Fin 2)).isLt

theorem hSet_even_subset (b : Dev nD) : hSet (2 * b.val) ⊆ bSet b := fun y hy => by
  rw [mem_hSet] at hy; rw [mem_bSet]; omega
theorem hSet_odd_subset (b : Dev nD) : hSet (2 * b.val + 1) ⊆ bSet b := fun y hy => by
  rw [mem_hSet] at hy; rw [mem_bSet]; omega
theorem bSet_halves (b : Dev nD) : bSet b = hSet (2 * b.val) ∪ hSet (2 * b.val + 1) := by
  ext y; rw [Finset.mem_union, mem_hSet, mem_hSet, mem_bSet]; omega
theorem halves_disjoint (b : Dev nD) : Disjoint (hSet (2 * b.val)) (hSet (2 * b.val + 1)) :=
  Finset.disjoint_left.mpr fun y h h' => by rw [mem_hSet] at h h'; omega

/-- A slice of whole rows of the gathered array, by its offset. -/
theorem rows_set128 (o : Fin 2 → ℕ) (b : Dev nD) (ho : o = ![128 * b.val, 0]) (hi : ∀ a, o a + S128x4096.size a ≤ S4096x4096.size a) :
    (Rect.unit (s := S4096x4096) o S128x4096.size hi).set = bSet b := by
  subst ho
  ext y
  rw [mem_bSet, Rect.mem_set_unit]
  constructor
  · intro h; have h0 := h (0 : Fin 2); simp only [Matrix.cons_val_zero] at h0
    have : S128x4096.size (0 : Fin 2) = 128 := rfl
    omega
  · intro h a
    have h0 := row_lt y; have h1 := col_lt y
    fin_cases a
    · show 128 * b.val ≤ (y (0 : Fin 2)).val ∧ (y (0 : Fin 2)).val < 128 * b.val + 128; omega
    · show 0 ≤ (y (1 : Fin 2)).val ∧ (y (1 : Fin 2)).val < 0 + 4096; omega
theorem rows_set64 (o : Fin 2 → ℕ) (n : ℕ) (ho : o = ![64 * n, 0]) (hi : ∀ a, o a + S64x4096.size a ≤ S4096x4096.size a) :
    (Rect.unit (s := S4096x4096) o S64x4096.size hi).set = hSet n := by
  subst ho
  ext y
  rw [mem_hSet, Rect.mem_set_unit]
  constructor
  · intro h; have h0 := h (0 : Fin 2); simp only [Matrix.cons_val_zero] at h0
    have : S64x4096.size (0 : Fin 2) = 64 := rfl
    omega
  · intro h a
    have h0 := row_lt y; have h1 := col_lt y
    fin_cases a
    · show 64 * n ≤ (y (0 : Fin 2)).val ∧ (y (0 : Fin 2)).val < 64 * n + 64; omega
    · show 0 ≤ (y (1 : Fin 2)).val ∧ (y (1 : Fin 2)).val < 0 + 4096; omega

theorem f15_of {h : ℕ} (hh : h < 15) : f15 h = ⟨h, hh⟩ := Fin.ext (Nat.mod_eq_of_lt hh)
theorem f16_of {h : ℕ} (hh : h < 16) : f16 h = ⟨h, hh⟩ := Fin.ext (Nat.mod_eq_of_lt hh)

theorem rSl_set (c : Dev nD) (h : ℕ) (hh : h < 15) : (rSl gM c h).view.set = rSet c h := by
  rw [rSet_lt hh]; unfold rSl
  show ((View.whole cc0_scratch0).slice _).set = _
  rw [View.set_slice_whole]
  exact (rows_set128 _ _ (off2_eq c (f15 h)) _).trans (by rw [show (f15 h).val = h from Nat.mod_eq_of_lt hh])
theorem lSl_set (c : Dev nD) (h : ℕ) (hh : h < 15) : (lSl gM c h).view.set = lSet c h := by
  rw [lSet_lt hh]; unfold lSl
  show ((View.whole cc0_scratch0).slice _).set = _
  rw [View.set_slice_whole]
  exact (rows_set128 _ _ (off3_eq c (f15 h)) _).trans (by rw [show (f15 h).val = h from Nat.mod_eq_of_lt hh])
theorem rHalf_set (c : Dev nD) : (rHalf gM c).view.set = rSet c 15 := by
  rw [rSet_15]; unfold rHalf
  show ((View.whole cc0_scratch0).slice _).set = _
  rw [View.set_slice_whole]
  exact rows_set64 _ _ ((off9_eq c).trans (congrArg (fun n : ℕ => (![n, 0] : Fin 2 → ℕ)) (by omega))) _
theorem lHalf_set (c : Dev nD) : (lHalf gM c).view.set = lSet c 15 := by
  rw [lSet_15]; unfold lHalf
  show ((View.whole cc0_scratch0).slice _).set = _
  rw [View.set_slice_whole]
  exact rows_set64 _ _ ((off10_eq c).trans (congrArg (fun n : ℕ => (![n, 0] : Fin 2 → ℕ)) (by omega))) _

/-- The parts of the gathered array on device `c`: its own block and what each hop brings from the two sides. -/
def piece (c : Dev nD) : Unit ⊕ (Fin 16 ⊕ Fin 16) → Finset S4096x4096.Idx
  | .inl _ => bSet c
  | .inr (.inl h) => rSet (left c) h.val
  | .inr (.inr h) => lSet (right c) h.val

/-- The place of a row's block, counted from the device. -/
def rel (c : Dev nD) (y : S4096x4096.Idx) : ℕ :=
  (posAt ⟨(y (0 : Fin 2)).val / 128, by have := row_lt y; show _ < 32; omega⟩ + 32 - posAt c) % 32

/-- The part that an element is in. -/
def ownerOf (c : Dev nD) (y : S4096x4096.Idx) : Unit ⊕ (Fin 16 ⊕ Fin 16) :=
  if rel c y = 0 then .inl () else if rel c y < 16 then .inr (.inr ⟨(rel c y - 1) % 16, Nat.mod_lt _ (by decide)⟩)
  else if 16 < rel c y then .inr (.inl ⟨(31 - rel c y) % 16, Nat.mod_lt _ (by decide)⟩)
  else if (y (0 : Fin 2)).val / 64 % 2 = 0 then .inr (.inl 15) else .inr (.inr 15)

theorem mem_blk (c : Dev nD) (y : S4096x4096.Idx) (p : ℕ) :
    (y (0 : Fin 2)).val / 128 = (ringAt (posAt c + p)).val ↔ rel c y = p % 32 := by
  unfold rel
  have hb : (y (0 : Fin 2)).val / 128 < 32 := by have := row_lt y; omega
  have e : (y (0 : Fin 2)).val / 128 = (ringAt (posAt c + p)).val ↔ ringAt (posAt c + p) = ⟨(y (0 : Fin 2)).val / 128, hb⟩ :=
    ⟨fun h => Fin.ext h.symm, fun h => (congrArg Fin.val h).symm⟩
  rw [e, ringAt_eq_iff]
  have := posAt_lt c; have := posAt_lt ⟨(y (0 : Fin 2)).val / 128, hb⟩
  omega

theorem rel_lt (c : Dev nD) (y : S4096x4096.Idx) : rel c y < 32 := Nat.mod_lt _ (by decide)

theorem mem_piece (c : Dev nD) (t : Unit ⊕ (Fin 16 ⊕ Fin 16)) (y : S4096x4096.Idx) : y ∈ piece c t ↔ ownerOf c y = t := by
  have hrel := rel_lt c y
  have k0 := mem_blk c y 0
  have k16 := mem_blk c y 16
  rcases t with ⟨⟩ | h | h
  · show y ∈ bSet c ↔ _
    rw [mem_bSet, ← show ringAt (posAt c + 0) = c from ringAt_posAt c, k0, show ringAt (posAt c + 0) = c from ringAt_posAt c]
    unfold ownerOf
    split_ifs <;> simp_all
  · show y ∈ rSet (left c) h.val ↔ _
    have hh := h.isLt
    have kh := mem_blk c y (32 - (h.val + 1))
    unfold rSet
    rw [blkR_left c h.val (by omega)]
    unfold blkR ownerOf
    split_ifs with h1 h2 h3 h4 h5 <;>
      simp only [mem_bSet, mem_hSet, reduceCtorEq, Sum.inr.injEq, Sum.inl.injEq, Fin.ext_iff, iff_false, show ((15 : Fin 16).val = 15) from rfl] <;> omega
  · show y ∈ lSet (right c) h.val ↔ _
    have hh := h.isLt
    have kh := mem_blk c y (h.val + 1)
    unfold lSet
    rw [blkL_right c h.val]
    unfold blkL ownerOf
    split_ifs with h1 h2 h3 h4 h5 <;>
      simp only [mem_bSet, mem_hSet, reduceCtorEq, Sum.inr.injEq, Sum.inl.injEq, Fin.ext_iff, iff_false, show ((15 : Fin 16).val = 15) from rfl] <;> omega

theorem piece_disjoint (c : Dev nD) : ∀ t t', t ≠ t' → Disjoint (piece c t) (piece c t') := fun t t' h =>
  Finset.disjoint_left.mpr fun y hy hy' => h (((mem_piece c t y).mp hy).symm.trans ((mem_piece c t' y).mp hy'))
theorem piece_cover (c : Dev nD) : Finset.univ.biUnion (piece c) = Finset.univ :=
  Finset.eq_univ_of_forall fun y => Finset.mem_biUnion.mpr ⟨ownerOf c y, Finset.mem_univ _, (mem_piece c _ y).mpr rfl⟩

/-! ## Rows of the maxima -/

/-- Row `d` of the maxima. -/
def aSet (d : Dev nD) : Finset S32x8x128.Idx := Finset.univ.filter fun y => (y (0 : Fin 3)).val = d.val
theorem mem_aSet {d : Dev nD} {y : S32x8x128.Idx} : y ∈ aSet d ↔ (y (0 : Fin 3)).val = d.val := by
  unfold aSet; rw [Finset.mem_filter]; exact ⟨fun h => h.2, fun h => ⟨Finset.mem_univ _, h⟩⟩

theorem row_set (o : Fin 3 → ℕ) (d : Dev nD) (ho : o = ![d.val, 0, 0]) (hi : ∀ a, o a + S1x8x128.size a ≤ S32x8x128.size a) :
    (Rect.unit (s := S32x8x128) o S1x8x128.size hi).set = aSet d := by
  subst ho
  ext y
  rw [mem_aSet, Rect.mem_set_unit]
  constructor
  · intro h; have h0 := h (0 : Fin 3); simp only [Matrix.cons_val_zero] at h0
    have : S1x8x128.size (0 : Fin 3) = 1 := rfl
    omega
  · intro h a
    have h0 : (y (0 : Fin 3)).val < 32 := (y (0 : Fin 3)).isLt
    have h1 : (y (1 : Fin 3)).val < 8 := (y (1 : Fin 3)).isLt
    have h2 : (y (2 : Fin 3)).val < 128 := (y (2 : Fin 3)).isLt
    fin_cases a
    · show d.val ≤ (y (0 : Fin 3)).val ∧ (y (0 : Fin 3)).val < d.val + 1; omega
    · show 0 ≤ (y (1 : Fin 3)).val ∧ (y (1 : Fin 3)).val < 0 + 8; omega
    · show 0 ≤ (y (2 : Fin 3)).val ∧ (y (2 : Fin 3)).val < 0 + 128; omega

theorem amSl_set (c : Dev nD) : (amSl aM c).view.set = aSet c := by
  unfold amSl
  show ((View.whole cc0_scratch1).slice _).set = _
  rw [View.set_slice_whole]
  exact row_set _ _ (k0_off12_eq c) _

theorem aSet_disjoint : ∀ d d', d ≠ d' → Disjoint (aSet d) (aSet d') := fun d d' h =>
  Finset.disjoint_left.mpr fun y hy hy' => h (Fin.ext ((mem_aSet.mp hy).symm.trans (mem_aSet.mp hy')))
theorem aSet_cover : Finset.univ.biUnion aSet = Finset.univ :=
  Finset.eq_univ_of_forall fun y => Finset.mem_biUnion.mpr ⟨⟨(y (0 : Fin 3)).val, (y (0 : Fin 3)).isLt⟩, Finset.mem_univ _, mem_aSet.mpr rfl⟩

/-! ## Rows of the result -/

/-- The rows of block `b` of the result. -/
def ySet (b : Dev nD) : Finset S4096x64.Idx := Finset.univ.filter fun y => (y (0 : Fin 2)).val / 128 = b.val
theorem mem_ySet {b : Dev nD} {y : S4096x64.Idx} : y ∈ ySet b ↔ (y (0 : Fin 2)).val / 128 = b.val := by
  unfold ySet; rw [Finset.mem_filter]; exact ⟨fun h => h.2, fun h => ⟨Finset.mem_univ _, h⟩⟩
theorem yrows_set (o : Fin 2 → ℕ) (b : Dev nD) (ho : o = ![128 * b.val, 0]) (hi : ∀ a, o a + S128x64.size a ≤ S4096x64.size a) :
    (Rect.unit (s := S4096x64) o S128x64.size hi).set = ySet b := by
  subst ho
  ext y
  rw [mem_ySet, Rect.mem_set_unit]
  constructor
  · intro h; have h0 := h (0 : Fin 2); simp only [Matrix.cons_val_zero] at h0
    have : S128x64.size (0 : Fin 2) = 128 := rfl
    omega
  · intro h a
    have h0 : (y (0 : Fin 2)).val < 4096 := (y (0 : Fin 2)).isLt
    have h1 : (y (1 : Fin 2)).val < 64 := (y (1 : Fin 2)).isLt
    fin_cases a
    · show 128 * b.val ≤ (y (0 : Fin 2)).val ∧ (y (0 : Fin 2)).val < 128 * b.val + 128; omega
    · show 0 ≤ (y (1 : Fin 2)).val ∧ (y (1 : Fin 2)).val < 0 + 64; omega

/-! ## What they hold -/

section Contents
variable (X : Dev nD → Vec F S128x4096 .bf16) (W : Dev nD → Vec F S4096x64 .bf16)

/-- The gathered array, from the devices' blocks of `x`. -/
def gAll : S4096x4096.Idx → Elt F .bf16 := fun y =>
  k0_pay2 (X ⟨(y (0 : Fin 2)).val / 128, by have := row_lt y; show _ < 32; omega⟩)
    (fun | ⟨0, _⟩ => ⟨(y (0 : Fin 2)).val % 128, Nat.mod_lt _ (by decide)⟩ | ⟨1, _⟩ => ⟨(y (1 : Fin 2)).val, (y (1 : Fin 2)).isLt⟩)

/-- One block of the result on device `c` before quantising; all of it. -/
def yBlk (c b : Dev nD) : FVec F S128x64 .f32 := k0_pay5 (k0_pay1 (W c)) (k0_pay2 (X b))
def yAll (c : Dev nD) : S4096x64.Idx → Elt F .f32 := fun y =>
  yBlk X W c ⟨(y (0 : Fin 2)).val / 128, by have : (y (0 : Fin 2)).val < 4096 := (y (0 : Fin 2)).isLt; show _ < 32; omega⟩
    (fun | ⟨0, _⟩ => ⟨(y (0 : Fin 2)).val % 128, Nat.mod_lt _ (by decide)⟩ | ⟨1, _⟩ => ⟨(y (1 : Fin 2)).val, (y (1 : Fin 2)).isLt⟩)

/-- The running maximum on device `c` after hop `h`, and after the last block. -/
def runAt (c : Dev nD) : ℕ → F .f32
  | 0 => Scalar.maximumf (Scalar.ofBits .f32 0x00000000#32) (blkMax (yBlk X W c c))
  | h + 1 => Scalar.maximumf (Scalar.maximumf (runAt c h) (blkMax (yBlk X W c (blkR c (h + 1))))) (blkMax (yBlk X W c (blkL c (h + 1))))
def runEnd (c : Dev nD) : F .f32 := Scalar.maximumf (runAt X W c 15) (blkMax (yBlk X W c (blkL c 16)))

/-- The maxima of all devices. -/
def aRow (d : Dev nD) : Vec F S1x8x128 .f32 := k0_pay64 (broadcast S1x8x128 (runEnd X W d))
def aAll : S32x8x128.Idx → Elt F .f32 := fun y =>
  aRow X W ⟨(y (0 : Fin 3)).val, (y (0 : Fin 3)).isLt⟩
    (fun | ⟨0, _⟩ => ⟨0, Nat.one_pos⟩ | ⟨1, _⟩ => ⟨(y (1 : Fin 3)).val, (y (1 : Fin 3)).isLt⟩ | ⟨2, _⟩ => ⟨(y (2 : Fin 3)).val, (y (2 : Fin 3)).isLt⟩)

/-- The part of the maxima that the quantiser reads; the result. -/
def aRead : Vec F S32x1x1 .f32 :=
  aM.view.readAt (Elt F) (Rect.unit (s := S32x8x128) ![0, 0, 0] S32x1x1.size inb_S32x8x128_S32x1x1_0_0_0).toLoadRect (aAll X W)
def outAll (c : Dev nD) : Vec F S4096x64 .f32 := k0_pay65 (aRead X W) (yAll X W c)

/-- Reading block `b` of the gathered array gives device `b`'s rows. -/
theorem read_gAll (o : Fin 2 → ℕ) (b : Dev nD) (ho : o = ![128 * b.val, 0]) (hi : ∀ a, o a + S128x4096.size a ≤ S4096x4096.size a) :
    gM.view.readAt (Elt F) (Rect.unit (s := S4096x4096) o S128x4096.size hi).toLoadRect (gAll X) = k0_pay2 (X b) := by
  subst ho
  funext z
  have hz : (z (0 : Fin 2)).val < 128 := (z (0 : Fin 2)).isLt
  have e0 : ((gM.view.emb ((Rect.unit (s := S4096x4096) ![128 * b.val, 0] S128x4096.size hi).toLoadRect.idx z)) (0 : Fin 2)).val = 128 * b.val + (z (0 : Fin 2)).val := by
    show 128 * b.val + 1 * (z (0 : Fin 2)).val = _; omega
  have e1 : ((gM.view.emb ((Rect.unit (s := S4096x4096) ![128 * b.val, 0] S128x4096.size hi).toLoadRect.idx z)) (1 : Fin 2)).val = (z (1 : Fin 2)).val := by
    show 0 + 1 * (z (1 : Fin 2)).val = _; omega
  rw [View.readAt_apply, View.read_apply]
  show gAll X (gM.view.emb _) = _
  refine congrArg₂ (fun b a => k0_pay2 (X b) a) (?_ : (⟨_, _⟩ : Dev nD) = b) (?_ : _ = z)
  · refine Fin.ext ?_
    show ((gM.view.emb _) (0 : Fin 2)).val / 128 = b.val
    rw [e0]; omega
  · funext a
    fin_cases a
    · refine Fin.ext ?_; show ((gM.view.emb _) (0 : Fin 2)).val % 128 = _; rw [e0]
      show (128 * b.val + (z (0 : Fin 2)).val) % 128 = (z (0 : Fin 2)).val; omega
    · refine Fin.ext ?_; show ((gM.view.emb _) (1 : Fin 2)).val = _; rw [e1]; rfl

/-- Storing device `b`'s rows at block `b` makes the block that of the gathered array. -/
theorem write_gAll (o : Fin 2 → ℕ) (b : Dev nD) (ho : o = ![128 * b.val, 0]) (hi : ∀ a, o a + S128x4096.size a ≤ S4096x4096.size a)
    (f : S4096x4096.Idx → Elt F .bf16) (y : S4096x4096.Idx) (hy : y ∈ bSet b) :
    (gM.access (Rect.unit (s := S4096x4096) o S128x4096.size hi)).write (Elt F) f (k0_pay2 (X b)) Finset.univ y = gAll X y := by
  rw [← read_gAll X o b ho hi, View.readAt_rect]
  show View.write (Elt F) (gM.view.slice (Rect.unit (s := S4096x4096) o S128x4096.size hi)) f (View.read (Elt F) (gM.view.slice (Rect.unit (s := S4096x4096) o S128x4096.size hi)) (gAll X)) Finset.univ y = _
  rw [View.write_read_eq_piecewise]
  refine Finset.piecewise_eq_of_mem _ _ _ ?_
  rw [View.setOn_univ, View.set_slice_whole, rows_set128 o b ho hi]; exact hy

/-- Storing a block of the result. -/
theorem read_yAll (c : Dev nD) (o : Fin 2 → ℕ) (b : Dev nD) (ho : o = ![128 * b.val, 0]) (hi : ∀ a, o a + S128x64.size a ≤ S4096x64.size a) :
    oM.view.readAt (Elt F) (Rect.unit (s := S4096x64) o S128x64.size hi).toLoadRect (yAll X W c) = yBlk X W c b := by
  subst ho
  funext z
  have hz : (z (0 : Fin 2)).val < 128 := (z (0 : Fin 2)).isLt
  have e0 : ((oM.view.emb ((Rect.unit (s := S4096x64) ![128 * b.val, 0] S128x64.size hi).toLoadRect.idx z)) (0 : Fin 2)).val = 128 * b.val + (z (0 : Fin 2)).val := by
    show 128 * b.val + 1 * (z (0 : Fin 2)).val = _; omega
  have e1 : ((oM.view.emb ((Rect.unit (s := S4096x64) ![128 * b.val, 0] S128x64.size hi).toLoadRect.idx z)) (1 : Fin 2)).val = (z (1 : Fin 2)).val := by
    show 0 + 1 * (z (1 : Fin 2)).val = _; omega
  rw [View.readAt_apply, View.read_apply]
  show yAll X W c (oM.view.emb _) = _
  refine congrArg₂ (fun b a => yBlk X W c b a) (?_ : (⟨_, _⟩ : Dev nD) = b) (?_ : _ = z)
  · refine Fin.ext ?_
    show ((oM.view.emb _) (0 : Fin 2)).val / 128 = b.val
    rw [e0]; omega
  · funext a
    fin_cases a
    · refine Fin.ext ?_; show ((oM.view.emb _) (0 : Fin 2)).val % 128 = _; rw [e0]
      show (128 * b.val + (z (0 : Fin 2)).val) % 128 = (z (0 : Fin 2)).val; omega
    · refine Fin.ext ?_; show ((oM.view.emb _) (1 : Fin 2)).val = _; rw [e1]; rfl

theorem write_yAll (c : Dev nD) (o : Fin 2 → ℕ) (b : Dev nD) (ho : o = ![128 * b.val, 0]) (hi : ∀ a, o a + S128x64.size a ≤ S4096x64.size a)
    (f : S4096x64.Idx → Elt F .f32) :
    (oM.access (Rect.unit (s := S4096x64) o S128x64.size hi)).write (Elt F) f (yBlk X W c b) Finset.univ = (ySet b).piecewise (yAll X W c) f := by
  rw [← read_yAll X W c o b ho hi, View.readAt_rect]
  show View.write (Elt F) (oM.view.slice (Rect.unit (s := S4096x64) o S128x64.size hi)) f (View.read (Elt F) (oM.view.slice (Rect.unit (s := S4096x64) o S128x64.size hi)) (yAll X W c)) Finset.univ = _
  rw [View.write_read_eq_piecewise, View.setOn_univ, View.set_slice_whole, yrows_set o b ho hi]

/-- Storing the local maximum in the device's row. -/
theorem read_aAll (o : Fin 3 → ℕ) (d : Dev nD) (ho : o = ![d.val, 0, 0]) (hi : ∀ a, o a + S1x8x128.size a ≤ S32x8x128.size a) :
    aM.view.readAt (Elt F) (Rect.unit (s := S32x8x128) o S1x8x128.size hi).toLoadRect (aAll X W) = aRow X W d := by
  subst ho
  funext z
  have hz : (z (0 : Fin 3)).val < 1 := (z (0 : Fin 3)).isLt
  have e0 : ((aM.view.emb ((Rect.unit (s := S32x8x128) ![d.val, 0, 0] S1x8x128.size hi).toLoadRect.idx z)) (0 : Fin 3)).val = d.val := by
    show d.val + 1 * (z (0 : Fin 3)).val = _; omega
  have e1 : ((aM.view.emb ((Rect.unit (s := S32x8x128) ![d.val, 0, 0] S1x8x128.size hi).toLoadRect.idx z)) (1 : Fin 3)).val = (z (1 : Fin 3)).val := by
    show 0 + 1 * (z (1 : Fin 3)).val = _; omega
  have e2 : ((aM.view.emb ((Rect.unit (s := S32x8x128) ![d.val, 0, 0] S1x8x128.size hi).toLoadRect.idx z)) (2 : Fin 3)).val = (z (2 : Fin 3)).val := by
    show 0 + 1 * (z (2 : Fin 3)).val = _; omega
  rw [View.readAt_apply, View.read_apply]
  show aAll X W (aM.view.emb _) = _
  refine congrArg₂ (fun d a => aRow X W d a) (?_ : (⟨_, _⟩ : Dev nD) = d) (?_ : _ = z)
  · exact Fin.ext e0
  · funext a
    fin_cases a
    · refine Fin.ext ?_; show 0 = (z (0 : Fin 3)).val; omega
    · exact Fin.ext e1
    · exact Fin.ext e2

theorem write_aAll (o : Fin 3 → ℕ) (d : Dev nD) (ho : o = ![d.val, 0, 0]) (hi : ∀ a, o a + S1x8x128.size a ≤ S32x8x128.size a)
    (f : S32x8x128.Idx → Elt F .f32) (y : S32x8x128.Idx) (hy : y ∈ aSet d) :
    (aM.access (Rect.unit (s := S32x8x128) o S1x8x128.size hi)).write (Elt F) f (aRow X W d) Finset.univ y = aAll X W y := by
  rw [← read_aAll X W o d ho hi, View.readAt_rect]
  show View.write (Elt F) (aM.view.slice (Rect.unit (s := S32x8x128) o S1x8x128.size hi)) f (View.read (Elt F) (aM.view.slice (Rect.unit (s := S32x8x128) o S1x8x128.size hi)) (aAll X W)) Finset.univ y = _
  rw [View.write_read_eq_piecewise]
  refine Finset.piecewise_eq_of_mem _ _ _ ?_
  rw [View.setOn_univ, View.set_slice_whole, row_set o d ho hi]; exact hy

end Contents

end Cert.KernelIdeal.Own

end
-- ==== Proof.IdealSched.lean ====
module

public import proofs.«01_k».proof.Proof.IdealRegions
public import Idealize.ShloMosaic.Lib.Pipeline.Kit
public import Idealize.ShloMosaic.Lib.Rounds.Family

/-! The schedule of the semaphores: which units each semaphore receives, what they hand to its owner, what each device
owes at launch, and in which order the semaphores are waited for. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

/-! ## The resource algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores of a device, in slots

Slots 0–15 and 32–47: the sends clockwise and counter-clockwise; 16–31 and 48–63: their arrivals; 64–94 and 95–125:
the sends and arrivals of the maxima; 126: the barrier. -/

abbrev barS : Sem sig := sig.barrier 0 rfl

def cs (n : ℕ) : SemLoc sig := if n < 126 then .dma (dsem (3 + n)) else .reg barS
/-- The slot of a semaphore; 200 for those of the staging buffers. -/
def slot : SemLoc sig → ℕ
  | .dma q => if 3 ≤ q.val then q.val - 3 else 200
  | .reg _ => 126
abbrev gc (c : Dev nD) (n : ℕ) : GSem nD τ sig := ((c : Thread nD τ), cs n)

theorem cs_lt {n : ℕ} (h : n < 126) : cs n = .dma (dsem (3 + n)) := if_pos h
theorem cs_bar : cs 126 = .reg barS := rfl
theorem dsem_val {n : ℕ} (h : n < 129) : (dsem n).val = n := Nat.mod_eq_of_lt h
theorem slot_cs {n : ℕ} (h : n ≤ 126) : slot (cs n) = n := by
  by_cases hn : n < 126
  · rw [cs_lt hn]; show (if 3 ≤ (dsem (3 + n)).val then (dsem (3 + n)).val - 3 else 200) = n
    rw [dsem_val (by omega), if_pos (by omega)]; omega
  · obtain rfl : n = 126 := by omega
    rfl
theorem gc_inj {c c' : Dev nD} {n n' : ℕ} (hn : n ≤ 126) (hn' : n' ≤ 126) (h : gc c n = gc c' n') : c = c' ∧ n = n' := by
  refine ⟨congrArg (fun g : GSem nD τ sig => g.1.1) h, ?_⟩
  have := congrArg (fun g : GSem nD τ sig => slot g.2) h
  rwa [show slot (gc c n).2 = n from slot_cs hn, show slot (gc c' n').2 = n' from slot_cs hn'] at this

/-! ## Amounts and levels -/

abbrev N128 : ℕ := (rSl gM 0 0).view.dmaCredit
abbrev N64 : ℕ := (rHalf gM 0).view.dmaCredit
abbrev NA : ℕ := (amSl aM 0).view.dmaCredit

def amt (n : ℕ) : ℕ := if 126 ≤ n then 1 else if n < 64 then (if n % 16 < 15 then N128 else N64) else NA
def dut (n : ℕ) : Finset (Fin 31) := if n < 126 then {0} else if n = 126 then Finset.univ else ∅
def lev (n : ℕ) : ℕ :=
  if n = 126 then 1 else if 16 ≤ n ∧ n < 32 then n - 14 else if 48 ≤ n ∧ n < 64 then n - 46 else if 95 ≤ n ∧ n < 126 then 100 else 0

theorem amt_pos (n : ℕ) : 0 < amt n := by
  unfold amt
  split_ifs
  · exact Nat.one_pos
  · exact View.dmaCredit_pos _ (by decide)
  · exact View.dmaCredit_pos _ (by decide)
  · exact View.dmaCredit_pos _ (by decide)

/-! ## What the semaphores hand over -/

section Payloads
variable (X : Dev nD → Vec F S128x4096 .bf16) (W : Dev nD → Vec F S4096x64 .bf16)

abbrev gLoc (c : Dev nD) : Loc nD τ sig := (c : Thread nD τ).loc cc0_scratch0
abbrev aLoc (c : Dev nD) : Loc nD τ sig := (c : Thread nD τ).loc cc0_scratch1

/-- A part of the gathered array on device `c`, filled; the same with any contents. -/
def gPts (c : Dev nD) (S : Finset S4096x4096.Idx) (q : PosShare TreeShare) : sProp 𝕄 := gLoc c ↦[S]{q} (gAll X : Buf (Elt F) (gLoc c))
def gAny (c : Dev nD) (S : Finset S4096x4096.Idx) : sProp 𝕄 := iprop(∃ f : Buf (Elt F) (gLoc c), gLoc c ↦[S]{fullShare} f)
def aPts (c : Dev nD) (S : Finset S32x8x128.Idx) (q : PosShare TreeShare) : sProp 𝕄 := aLoc c ↦[S]{q} (aAll X W : Buf (Elt F) (aLoc c))
def aAny (c : Dev nD) (S : Finset S32x8x128.Idx) : sProp 𝕄 := iprop(∃ f : Buf (Elt F) (aLoc c), aLoc c ↦[S]{fullShare} f)

/-- The shares lent to the sends of a hop. -/
def shR (h : ℕ) : PosShare TreeShare := if h = 0 then fullShare.left.left else fullShare.left
def shL (h : ℕ) : PosShare TreeShare := if h = 0 then fullShare.left.right else fullShare.left

/-- The places on device `s` that the clockwise, and the counter-clockwise, copies of `c` fill. -/
def landR (c s : Dev nD) : sProp 𝕄 := bigSep (Finset.Ico 0 16) fun h => gAny s (rSet c h)
def landL (c s : Dev nD) : sProp 𝕄 := bigSep (Finset.Ico 0 16) fun h => gAny s (lSet c h)

/-- `P`, if `p` holds. -/
def given (p : Prop) [Decidable p] (P : sProp 𝕄) : sProp 𝕄 := if p then P else iprop(emp)
theorem given_pos {p : Prop} [Decidable p] (h : p) (P : sProp 𝕄) : given p P = P := if_pos h
theorem given_neg {p : Prop} [Decidable p] (h : ¬ p) (P : sProp 𝕄) : given p P = iprop(emp) := if_neg h

/-- What device `s`'s signal hands device `c`. -/
def barPay (c s : Dev nD) : sProp 𝕄 :=
  iprop(aAny s (aSet c) ∗ given (s = right c) (landR c s) ∗ given (s = left c) (landL c s))

/-- What a unit of slot `n` of device `c` hands it. -/
def pay (c : Dev nD) (n : ℕ) (j : Fin 31) : sProp 𝕄 :=
  if n = 126 then barPay c (back c j.val)
  else if n < 16 then gPts X c (rSet c n) (shR n)
  else if n < 32 then gPts X c (rSet (left c) (n - 16)) fullShare
  else if n < 48 then gPts X c (lSet c (n - 32)) (shL (n - 32))
  else if n < 64 then gPts X c (lSet (right c) (n - 48)) fullShare
  else if n < 95 then aPts X W c (aSet c) (shareTokN fullShare.right (n - 64))
  else if n < 126 then aPts X W c (aSet (back c (n - 95))) fullShare
  else iprop(emp)

instance gPts_storable (c : Dev nD) (S) (q) : BI.Storable (upEmb : UEmb _ 𝕄) (gPts X c S q) := by unfold gPts; infer_instance
instance aPts_storable (c : Dev nD) (S) (q) : BI.Storable (upEmb : UEmb _ 𝕄) (aPts X W c S q) := by unfold aPts; infer_instance
instance gAny_storable (c : Dev nD) (S) : BI.Storable (upEmb : UEmb _ 𝕄) (gAny (F := F) c S) := by unfold gAny; infer_instance
instance aAny_storable (c : Dev nD) (S) : BI.Storable (upEmb : UEmb _ 𝕄) (aAny (F := F) c S) := by unfold aAny; infer_instance
instance landR_storable (c s : Dev nD) : BI.Storable (upEmb : UEmb _ 𝕄) (landR (F := F) c s) := by unfold landR; infer_instance
instance landL_storable (c s : Dev nD) : BI.Storable (upEmb : UEmb _ 𝕄) (landL (F := F) c s) := by unfold landL; infer_instance
instance ite_storable (p : Prop) [Decidable p] (P Q : sProp 𝕄) [BI.Storable (upEmb : UEmb _ 𝕄) P] [BI.Storable (upEmb : UEmb _ 𝕄) Q] :
    BI.Storable (upEmb : UEmb _ 𝕄) (if p then P else Q) := by split <;> infer_instance
instance given_storable (p : Prop) [Decidable p] (P : sProp 𝕄) [BI.Storable (upEmb : UEmb _ 𝕄) P] :
    BI.Storable (upEmb : UEmb _ 𝕄) (given p P) := by unfold given; infer_instance
instance barPay_storable (c s : Dev nD) : BI.Storable (upEmb : UEmb _ 𝕄) (barPay (F := F) c s) := by unfold barPay; infer_instance
instance pay_storable (c : Dev nD) (n : ℕ) (j : Fin 31) : BI.Storable (upEmb : UEmb _ 𝕄) (pay X W c n j) := by unfold pay; infer_instance

/-- The schedule: one round. -/
def Rd : Rounds.Schedule (GSem nD τ sig) (Fin 31) 𝕄 where
  duties g r := if r = 0 ∧ g.1.2 = .tc then dut (slot g.2) else ∅
  unitless _ := False
  amount g _ _ := amt (slot g.2)
  payload g _ j := pay X W g.1.1 (slot g.2) j
  amount_pos g _ _ _ := amt_pos _

instance Rd_payload_storable (g : GSem nD τ sig) (r : ℕ) (j : Fin 31) :
    BI.Storable (upEmb : UEmb _ 𝕄) ((Rd X W).payload g r j) := by
  show BI.Storable upEmb (pay X W g.1.1 (slot g.2) j); infer_instance

theorem duties_gc (c : Dev nD) {n : ℕ} (h : n ≤ 126) : (Rd X W).duties (gc c n) 0 = dut n := by
  show (if 0 = 0 ∧ (gc c n).1.2 = .tc then dut (slot (cs n)) else ∅) = _
  rw [slot_cs h]; exact if_pos ⟨rfl, rfl⟩
theorem duties_lt (c : Dev nD) {n : ℕ} (h : n < 126) : (Rd X W).duties (gc c n) 0 = {0} := by
  rw [duties_gc X W c (by omega)]; exact if_pos h
theorem duties_bar (c : Dev nD) : (Rd X W).duties (gc c 126) 0 = Finset.univ := by
  rw [duties_gc X W c (by omega)]; rfl
theorem duties_later (g : GSem nD τ sig) : ∀ r, 1 ≤ r → (Rd X W).duties g r = ∅ :=
  fun r hr => if_neg fun h => by omega
theorem amount_gc (c : Dev nD) {n : ℕ} (h : n ≤ 126) (j : Fin 31) : (Rd X W).amount (gc c n) 0 j = amt n := by
  show amt (slot (cs n)) = _; rw [slot_cs h]
theorem payload_gc (c : Dev nD) {n : ℕ} (h : n ≤ 126) (j : Fin 31) : (Rd X W).payload (gc c n) 0 j = pay X W c n j := by
  show pay X W c (slot (cs n)) j = _; rw [slot_cs h]
theorem expect_lt (c : Dev nD) {n : ℕ} (h : n < 126) : (Rd X W).expect (gc c n) 0 = amt n := by
  unfold Schedule.expect Schedule.amountOf; rw [duties_lt X W c h, Finset.sum_singleton, amount_gc X W c (by omega)]
theorem expect_bar (c : Dev nD) : (Rd X W).expect (gc c 126) 0 = 31 := by
  unfold Schedule.expect Schedule.amountOf
  rw [duties_bar, Finset.sum_congr rfl fun d _ => amount_gc X W c (le_refl 126) d, Finset.sum_const, Finset.card_univ, Fintype.card_fin]; rfl
theorem rest_lt (c : Dev nD) {n : ℕ} (h : n < 126) :
    bigSep ((Rd X W).duties (gc c n) 0 \ ∅) (fun j => (Rd X W).payload (gc c n) 0 j) = pay X W c n 0 := by
  rw [Finset.sdiff_empty, duties_lt X W c h, bigSep_singleton, payload_gc X W c (by omega)]
theorem rest_bar (c : Dev nD) :
    bigSep ((Rd X W).duties (gc c 126) 0 \ ∅) (fun j => (Rd X W).payload (gc c 126) 0 j) = bigSep Finset.univ fun j : Fin 31 => barPay c (back c j.val) := by
  rw [Finset.sdiff_empty, duties_bar]
  exact bigSep_congr fun j _ => (payload_gc X W c (le_refl 126) j).trans (if_pos rfl)

theorem pay_rs (c : Dev nD) {h : ℕ} (hh : h < 16) (j : Fin 31) : pay X W c h j = gPts X c (rSet c h) (shR h) := by
  unfold pay; rw [if_neg (by omega), if_pos hh]
theorem pay_rr (c : Dev nD) {h : ℕ} (hh : h < 16) (j : Fin 31) : pay X W c (16 + h) j = gPts X c (rSet (left c) h) fullShare := by
  unfold pay; rw [if_neg (by omega), if_neg (by omega), if_pos (by omega), Nat.add_sub_cancel_left]
theorem pay_ls (c : Dev nD) {h : ℕ} (hh : h < 16) (j : Fin 31) : pay X W c (32 + h) j = gPts X c (lSet c h) (shL h) := by
  unfold pay; rw [if_neg (by omega), if_neg (by omega), if_neg (by omega), if_pos (by omega), Nat.add_sub_cancel_left]
theorem pay_lr (c : Dev nD) {h : ℕ} (hh : h < 16) (j : Fin 31) : pay X W c (48 + h) j = gPts X c (lSet (right c) h) fullShare := by
  unfold pay; rw [if_neg (by omega), if_neg (by omega), if_neg (by omega), if_neg (by omega), if_pos (by omega), Nat.add_sub_cancel_left]
theorem pay_as (c : Dev nD) {k : ℕ} (hk : k < 31) (j : Fin 31) : pay X W c (64 + k) j = aPts X W c (aSet c) (shareTokN fullShare.right k) := by
  unfold pay
  rw [if_neg (by omega), if_neg (by omega), if_neg (by omega), if_neg (by omega), if_neg (by omega), if_pos (by omega), Nat.add_sub_cancel_left]
theorem pay_ar (c : Dev nD) {k : ℕ} (hk : k < 31) (j : Fin 31) : pay X W c (95 + k) j = aPts X W c (aSet (back c k)) fullShare := by
  unfold pay
  rw [if_neg (by omega), if_neg (by omega), if_neg (by omega), if_neg (by omega), if_neg (by omega), if_neg (by omega), if_pos (by omega), Nat.add_sub_cancel_left]

end Payloads

/-! ## What each device owes -/

abbrev Tl : Type := CellTallies nD τ sig Unit

/-- The barrier signals still to make from the `k`-th on; the copies of hop `h`; those of the hops from `k` on; the
    copies of the maxima from the `k`-th on. -/
def oweB (c : Dev nD) (k : ℕ) : Tl := ∑ j ∈ Finset.Ico k 31, tallyAt (gc (peer c j) 126) () 1
def oweR (c : Dev nD) (h : ℕ) : Tl := tallyAt (gc (right c) (16 + h)) () (amt (16 + h))
def oweL (c : Dev nD) (h : ℕ) : Tl := tallyAt (gc (left c) (48 + h)) () (amt (48 + h))
def oweH (c : Dev nD) (k : ℕ) : Tl := ∑ h ∈ Finset.Ico k 16, (oweR c h + oweL c h)
def oweA (c : Dev nD) (k : ℕ) : Tl := ∑ j ∈ Finset.Ico k 31, tallyAt (gc (peer c j) (95 + j)) () (amt (95 + j))
def owe₀ (c : Dev nD) : Tl := oweA c 0 + oweH c 0 + oweB c 0

theorem sum_Ico_bot {a b : ℕ} (h : a < b) (f : ℕ → Tl) : ∑ j ∈ Finset.Ico a b, f j = f a + ∑ j ∈ Finset.Ico (a + 1) b, f j := by
  rw [show Finset.Ico a b = insert a (Finset.Ico (a + 1) b) by ext x; simp only [Finset.mem_Ico, Finset.mem_insert]; omega,
    Finset.sum_insert (by rw [Finset.mem_Ico]; omega)]

theorem oweB_succ (c : Dev nD) {k : ℕ} (h : k < 31) : oweB c k = oweB c (k + 1) + tallyAt (gc (peer c k) 126) () 1 := by
  unfold oweB; rw [sum_Ico_bot h, add_comm]
theorem oweH_succ (c : Dev nD) {k : ℕ} (h : k < 16) : oweH c k = oweH c (k + 1) + oweL c k + oweR c k := by
  unfold oweH; rw [sum_Ico_bot h, add_comm, add_assoc, add_comm (oweL c k)]
theorem oweA_succ (c : Dev nD) {k : ℕ} (h : k < 31) : oweA c k = oweA c (k + 1) + tallyAt (gc (peer c k) (95 + k)) () (amt (95 + k)) := by
  unfold oweA; rw [sum_Ico_bot h, add_comm]
theorem oweB_end (c : Dev nD) : oweB c 31 = 0 := Finset.sum_eq_zero fun j hj => by rw [Finset.mem_Ico] at hj; omega
theorem oweH_end (c : Dev nD) : oweH c 16 = 0 := Finset.sum_eq_zero fun j hj => by rw [Finset.mem_Ico] at hj; omega
theorem oweA_end (c : Dev nD) : oweA c 31 = 0 := Finset.sum_eq_zero fun j hj => by rw [Finset.mem_Ico] at hj; omega

/-! ## Levels -/

def L (g : GSem nD τ sig) : Finset Unit := if g.1.2 = .tc then {()} else ∅
def lv (g : GSem nD τ sig) (_ : Unit) : ℕ := lev (slot g.2)
theorem L_of_ne (g : GSem nD τ sig) (h : g.1.2 ≠ .tc) : L g = ∅ := if_neg h
theorem L_tc (c : Dev nD) (sm : SemLoc sig) : L ((c : Thread nD τ), sm) = {()} := if_pos rfl

/-- Everything owed is on cells of levels above `b`. -/
def Above (b : ℕ) (O : Tl) : Prop := ∀ (g : GSem nD τ sig) (u : Unit), 0 < O g u → g.1.2 = .tc ∧ b < lev (slot g.2)

theorem above_zero (b : ℕ) : Above b 0 := fun g u h => absurd h (Nat.lt_irrefl 0)
theorem above_add {b : ℕ} {O O' : Tl} (h : Above b O) (h' : Above b O') : Above b (O + O') := fun g u hg => by
  rw [Pi.add_apply, Finsupp.add_apply] at hg
  rcases Nat.eq_zero_or_pos (O g u) with h0 | h0
  · exact h' g u (by omega)
  · exact h g u h0
theorem above_tally {b : ℕ} (c : Dev nD) {n : ℕ} (hn : n ≤ 126) (k : ℕ) (h : b < lev n) : Above b (tallyAt (gc c n) () k) := fun g u hg => by
  obtain ⟨rfl, -⟩ := Pipeline.tallyAt_pos hg
  exact ⟨rfl, by show b < lev (slot (cs n)); rw [slot_cs hn]; exact h⟩
theorem above_sum {b : ℕ} (s : Finset ℕ) (f : ℕ → Tl) (h : ∀ j ∈ s, Above b (f j)) : Above b (∑ j ∈ s, f j) := by
  induction s using Finset.induction_on with
  | empty => exact above_zero b
  | insert a s ha ih =>
    rw [Finset.sum_insert ha]
    exact above_add (h a (Finset.mem_insert_self _ _)) (ih fun j hj => h j (Finset.mem_insert_of_mem hj))

theorem above_oweB (c : Dev nD) (k : ℕ) : Above 0 (oweB c k) :=
  above_sum _ _ fun j _ => above_tally _ (le_refl 126) _ Nat.one_pos
theorem above_oweH (c : Dev nD) {b k : ℕ} (h : b < k + 2) : Above b (oweH c k) :=
  above_sum _ _ fun j hj => by
    rw [Finset.mem_Ico] at hj
    refine above_add (above_tally _ (by omega) _ ?_) (above_tally _ (by omega) _ ?_)
    · unfold lev; rw [if_neg (by omega), if_pos (by omega)]; omega
    · unfold lev; rw [if_neg (by omega), if_neg (by omega), if_pos (by omega)]; omega
theorem above_oweA (c : Dev nD) {b : ℕ} (k : ℕ) (h : b < 100) : Above b (oweA c k) :=
  above_sum _ _ fun j hj => by
    rw [Finset.mem_Ico] at hj
    refine above_tally _ (by omega) _ ?_
    unfold lev; rw [if_neg (by omega), if_neg (by omega), if_neg (by omega), if_pos (by omega)]; exact h

/-- The levels, as a resource. -/
def levs : sProp 𝕄 := levAts L lv
instance levs_persistent : BI.Persistent (levs (F := F)) := by unfold levs; infer_instance

/-- A device may wait for a semaphore whose level is below everything that it owes. -/
theorem mayWait_of (c : Dev nD) (sm : SemLoc sig) (O : Tl) (h : Above (lev (slot sm)) O) :
    levs (F := F) ⊢ MayWait (c : Thread nD τ) sm () O :=
  MayOwe.of_cut (L := L) (lev := lv) (lev (slot sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.KernelIdeal.Own

end
-- ==== Proof.IdealSteps.lean ====
module

public import proofs.«01_k».proof.Proof.IdealSched

/-! The effects of the program one at a time: what a signal, a copy, a wait and the computation of a block need, and what
they leave. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

abbrev 𝒱₀ : Variants := Variants.none
abbrev hgM : (gM : Memref sig .tc .vmem S4096x4096 .bf16).IsWhole := Memref.isWhole_whole _

/-- Running `p` on device `c` ends in a state that `Q` describes. -/
abbrev WP {α : Type} (c : Dev nD) (p : PG F α) (Q : α → sProp 𝕄) : sProp 𝕄 :=
  wp frame (wpE (defs₀ (F := F)) 𝒱₀ (c : Thread nD τ) none) Set.univ p Q

/-- One program after another. -/
theorem wp_seq {α β : Type} {c : Dev nD} {p : PG F α} {k : α → PG F β} {P : sProp 𝕄} {Q : α → sProp 𝕄} {R : β → sProp 𝕄}
    (h : P ⊢ WP c p Q) : P ⊢ iprop((∀ a, Q a -∗ WP c (k a) R) -∗ WP c (p >>= k) R) := by
  unfold WP; rw [wp_bind]
  exact h.trans (wp_wand _ _ _)
theorem wp_last {α : Type} {c : Dev nD} {p : PG F α} {P : sProp 𝕄} {Q R : α → sProp 𝕄}
    (h : P ⊢ WP c p Q) : P ⊢ iprop((∀ a, Q a -∗ R a) -∗ WP c p R) := h.trans (wp_wand _ _ _)

theorem wp_done {α : Type} {c : Dev nD} (a : α) (Q : α → sProp 𝕄) : Q a ⊢ WP c (pure a) Q := by
  show _ ⊢ wp _ _ _ (.ret a) _
  rw [wp_ret]; iintro H; imodintro; iexact H

/-- A loop keeps what each of its rounds keeps. -/
theorem wp_forUp {α : Type} {c : Dev nD} (f : ℕ → α → PG F α) (I : ℕ → α → sProp 𝕄) (b e : ℕ)
    (h : ∀ j a, b ≤ j → j < e → I j a ⊢ WP c (f j a) (I (j + 1))) :
    ∀ (n k : ℕ) (a : α), b ≤ k → k + n = e → I k a ⊢ WP c (forUp f k n a) (I e)
  | 0, k, a, hb, hk => by
    obtain rfl : k = e := by omega
    exact wp_done a (I k)
  | n + 1, k, a, hb, hk => by
    show _ ⊢ WP c (f k a >>= forUp f (k + 1) n) _
    unfold WP; rw [wp_bind]
    exact (h k a hb (by omega)).trans (wp_mono _ _ _ fun a' => wp_forUp f I b e h n (k + 1) a' (by omega) (by omega))

/-- What is owed, whatever was waited for. -/
def owesE (c : Dev nD) (O : Tl) : sProp 𝕄 := iprop(∃ W, owes (c : Thread nD τ) O W)

section
variable (X : Dev nD → Vec F S128x4096 .bf16) (W : Dev nD → Vec F S4096x64 .bf16)
variable (K : Dev nD × Fin 127 → ℕ)

/-- The semaphores' shared state and the levels. -/
def ctx : sProp 𝕄 :=
  iprop((∀ x : Dev nD × Fin 127, cellInv ER (Rd X W) (K x) (gc x.1 x.2.val) ∗ reached ER (gc x.1 x.2.val) 0) ∗ levs)
instance ctx_persistent : BI.Persistent (ctx X W K) := by unfold ctx; infer_instance

/-- The name of a slot. -/
def nm (c : Dev nD) (n : ℕ) : ℕ := K (c, ⟨n % 127, Nat.mod_lt _ (by decide)⟩)
theorem ctx_inv (c : Dev nD) {n : ℕ} (h : n ≤ 126) : ctx X W K ⊢ cellInv ER (Rd X W) (nm K c n) (gc c n) := by
  unfold ctx nm
  iintro ⟨H, -⟩
  ihave H := H $$ %(c, ⟨n % 127, Nat.mod_lt _ (by decide)⟩)
  icases H with ⟨H, -⟩
  rw [show ((c, (⟨n % 127, Nat.mod_lt _ (by decide)⟩ : Fin 127)) : Dev nD × Fin 127).2.val = n from Nat.mod_eq_of_lt (by omega)]
  iexact H
theorem ctx_reached (c : Dev nD) {n : ℕ} (h : n ≤ 126) : ctx X W K ⊢ reached ER (gc c n) 0 := by
  unfold ctx
  iintro ⟨H, -⟩
  ihave H := H $$ %(c, ⟨n % 127, Nat.mod_lt _ (by decide)⟩)
  icases H with ⟨-, H⟩
  rw [show ((c, (⟨n % 127, Nat.mod_lt _ (by decide)⟩ : Fin 127)) : Dev nD × Fin 127).2.val = n from Nat.mod_eq_of_lt (by omega)]
  iexact H
theorem ctx_lev : ctx X W K ⊢ levs := by
  unfold ctx
  iintro ⟨-, H⟩; iexact H

abbrev tok (c : Dev nD) (n : ℕ) (j : Fin 31) : sProp 𝕄 := dutyTok ER (gc c n) 0 j
abbrev at0 (c : Dev nD) (n : ℕ) : sProp 𝕄 := atPos ER (gc c n) 0 ∅ 0
abbrev at1 (c : Dev nD) (n : ℕ) : sProp 𝕄 := atPos ER (gc c n) 1 ∅ 0
abbrev crd (c : Dev nD) (n : ℕ) : sProp 𝕄 := cred (tallyAt (gc c n) () (amt n))

/-! ## Copies -/

/-- A copy of a piece of a device's memory into the same place on another device. -/
theorem send_gen {s : Shape} {e : EltTy} (m : Memref sig .tc .vmem s e) (c t n : Dev nD) (hn : n = t) {a b : ℕ} (ha : a < 126) (hb : b < 126)
    {qS qR : DmaSem sig} (hS : qS = dsem (3 + a)) (hR : qR = dsem (3 + b)) (hNa : amt a = m.view.dmaCredit) (hNb : amt b = m.view.dmaCredit)
    {hsc : (m : Memref sig (Dev.tc n : Thread nD τ).2.kind .vmem s e).view.ref.isScScratch = false}
    {h₁ : m.view.WordExact} {h₂ : m.view.WordExact}
    {h₃ : DmaTarget.Typed .vmem (.dma qR) (.remote (Dev.tc n : Thread nD τ) (m : Memref sig .tc .vmem s e) (.dma qS) hsc)}
    {q : PosShare TreeShare} {fs : Buf (Elt F) (m.view.loc (c : Thread nD τ))} (fd : Buf (Elt F) (m.view.loc (t : Thread nD τ)))
    (O : Tl)
    (hp : (m.view.loc (c : Thread nD τ) ↦[m.view.set]{q} fs) ⊢ pay X W c a 0)
    (hp' : (m.view.loc (t : Thread nD τ) ↦[m.view.set]{fullShare} m.view.write (Elt F) fd (m.view.read (Elt F) fs) Finset.univ) ⊢ pay X W t b 0) :
    iprop(ctx X W K ∗ (m.view.loc (c : Thread nD τ) ↦[m.view.set]{q} fs) ∗ (m.view.loc (t : Thread nD τ) ↦[m.view.set]{fullShare} fd)
        ∗ owesE c (O + tallyAt (gc t b) () (amt b)) ∗ tok c a 0 ∗ tok t b 0)
      ⊢ WP c (Prog.lift (.enqueueDma m (.remote (Dev.tc n) m (.dma qS) hsc) (.dma qR) h₁ h₂ h₃)) (fun _ => iprop(crd c a ∗ owesE c O)) := by
  subst hn hS hR
  have ea : gc c a = ((c : Thread nD τ), SemLoc.dma (dsem (3 + a))) := by rw [gc, cs_lt ha]
  have eb : gc n b = ((n : Thread nD τ), SemLoc.dma (dsem (3 + b))) := by rw [gc, cs_lt hb]
  have d1 := duties_lt X W c ha
  have d2 := duties_lt X W n hb
  have a1 := amount_gc X W c (by omega : a ≤ 126) 0
  have a2 := amount_gc X W n (by omega : b ≤ 126) 0
  have p1 := payload_gc X W c (by omega : a ≤ 126) 0
  have p2 := payload_gc X W n (by omega : b ≤ 126) 0
  unfold owesE
  iintro ⟨#Hc, Hs, Hd, ⟨%W', HO⟩, Ht, Ht'⟩
  ihave #I1 := (ctx_inv X W K c (by omega : a ≤ 126)) $$ Hc
  ihave #R1 := (ctx_reached X W K c (by omega : a ≤ 126)) $$ Hc
  ihave #I2 := (ctx_inv X W K n (by omega : b ≤ 126)) $$ Hc
  ihave #R2 := (ctx_reached X W K n (by omega : b ≤ 126)) $$ Hc
  have hN : m.view.amount (SemLoc.dma (dsem (3 + b))) = amt a := hNa.symm
  have hO : O + tallyAt (gc n b) () (amt b) = O + tallyAt (gc n b) () (amt a) := by rw [hNa, hNb]
  unfold tok crd
  rw [ea] at *
  rw [eb] at *
  unfold WP
  rw [Prog.lift]
  iapply (Rounds.wp_send_pointsTo 𝒱₀ ER (Rd X W) (c : Thread nD τ) none (κ₁ := nm K c a) (κ₂ := nm K n b)
    (r₁ := 0) (r₂ := 0) (d₁ := 0) (d₂ := 0) (fd := fd) (by rw [d1]; exact Finset.mem_singleton_self _) (by rw [d2]; exact Finset.mem_singleton_self _)
    () () (amt a) hN a1 (a2.trans (hNb.trans hNa.symm)) O hO (W := W')
    (by rw [p1]; exact hp) (by rw [p2]; exact hp')) $$ [Hs Hd HO Ht Ht']
  · isplitr; · iexact I1
    isplitr; · iexact I2
    isplitl [Hs]; · iexact Hs
    isplitl [Hd]; · iexact Hd
    isplitl [HO]; · iexact HO
    isplitl [Ht]; · iexact Ht
    isplitr; · iexact R1
    isplitl [Ht']; · iexact Ht'
    iexact R2
  iintro ⟨Hcr, HO⟩
  rw [wp_ret]; imodintro
  isplitl [Hcr]; · iexact Hcr
  iexists W'; iexact HO

/-- A wait for the whole of a copy's semaphore. -/
theorem wait_gen {s : Shape} {e : EltTy} (m : Memref sig .tc .vmem s e) (c : Dev nD) {n : ℕ} (hn : n < 126)
    {q : DmaSem sig} (hq : q = dsem (3 + n)) (hN : amt n = m.view.dmaCredit) {h₁ h₂ : m.view.WordExact} (O : Tl) (hO : Above (lev n) O) :
    iprop(ctx X W K ∗ crd c n ∗ owesE c O ∗ at0 c n)
      ⊢ WP c (Prog.lift (.waitDma2 q m m h₁ h₂)) (fun _ => iprop(owesE c O ∗ at1 c n ∗ pay X W c n 0)) := by
  subst hq
  have ea : gc c n = ((c : Thread nD τ), SemLoc.dma (dsem (3 + n))) := by rw [gc, cs_lt hn]
  have ex := expect_lt X W c hn
  have rs := rest_lt X W c hn
  have hm : ctx X W K ⊢ MayWait (c : Thread nD τ) (cs n) () O := (ctx_lev (F := F) X W K).trans <| mayWait_of (F := F) c (cs n) O (by rw [slot_cs (by omega)]; exact hO)
  unfold owesE
  iintro ⟨#Hc, Hcr, ⟨%W', HO⟩, Hat⟩
  ihave #I1 := (ctx_inv X W K c (by omega : n ≤ 126)) $$ Hc
  unfold crd at0 at1
  rw [cs_lt hn] at hm
  rw [ea] at *
  unfold WP
  rw [Prog.lift]
  iapply (Rounds.wp_wait_rest_token 𝒱₀ ER (Rd X W) (c : Thread nD τ) none (κ := nm K c n)
      (wpE_waitDma2_eq 𝒱₀ (c : Thread nD τ) none Set.univ) (Set.mem_univ _) () (O := O) (W := W') (R := 0) (m := 0) (T := ∅)
      (by rw [Nat.zero_add, ex, hN])) $$ [Hcr HO Hat]
  · isplitr; · iexact I1
    isplitl [Hcr]; · rw [← hN]; iexact Hcr
    isplitl [HO]; · iexact HO
    isplitr; · iapply hm; iexact Hc
    iexact Hat
  iintro ⟨HO, Hat, -, Hp⟩
  rw [wp_ret]; imodintro
  isplitl [HO]; · iexists _; iexact HO
  isplitl [Hat]; · iexact Hat
  iapply (Entails.of_eq rs); iexact Hp

/-! ## The barrier -/

theorem barSignal (c t : Dev nD) (n : Dev nD) (hn : n = t) (j : Fin 31) (O : Tl) (a : PUnit) :
    iprop(ctx X W K ∗ owesE c (O + tallyAt (gc t 126) () 1) ∗ tok t 126 j ∗ barPay t (back t j.val))
      ⊢ WP c (semSignalWord n (sig.barrier 0 rfl) 1#32) (fun _ => owesE c O) := by
  subst hn
  have pj : (Rd X W).payload (gc n 126) 0 j = barPay n (back n j.val) := (payload_gc X W n (le_refl 126) j).trans (if_pos rfl)
  unfold owesE
  iintro ⟨#Hc, ⟨%W', HO⟩, Ht, Hp⟩
  ihave #I1 := (ctx_inv X W K n (le_refl 126)) $$ Hc
  ihave #R1 := (ctx_reached X W K n (le_refl 126)) $$ Hc
  unfold WP
  rw [semSignalWord]
  iapply (Rounds.wp_signal 𝒱₀ ER (Rd X W) (c : Thread nD τ) none (dst := (n : Thread nD τ)) (κ := nm K n 126)
      (d := j) (by show j ∈ (Rd X W).duties (gc n 126) 0; rw [duties_bar]; exact Finset.mem_univ _) ((amount_gc X W n (le_refl 126) j).trans (by decide)) () O rfl)
    $$ [HO Ht Hp]
  · isplitr; · iexact I1
    isplitl [HO]; · iexact HO
    isplitl [Ht]; · iexact Ht
    isplitl [Hp]; · iapply (Entails.of_eq pj.symm : barPay n (back n j.val) ⊢ (Rd X W).payload ((n : Thread nD τ), SemLoc.reg barS) 0 j); iexact Hp
    iexact R1
  iintro HO
  rw [wp_ret]; imodintro
  iexists W'; iexact HO

theorem barWait (c : Dev nD) (O : Tl) (hO : Above 1 O) :
    iprop(ctx X W K ∗ cred (tallyAt (gc c 126) () 31) ∗ owesE c O ∗ at0 c 126)
      ⊢ WP c (semWaitWord (sig.barrier 0 rfl) 31#32)
          (fun _ => iprop(owesE c O ∗ at1 c 126 ∗ bigSep Finset.univ fun j : Fin 31 => barPay c (back c j.val))) := by
  have hm : ctx X W K ⊢ MayWait (c : Thread nD τ) (.reg barS) () O := (ctx_lev (F := F) X W K).trans (mayWait_of (F := F) c (.reg barS) O hO)
  unfold owesE
  iintro ⟨#Hc, Hcr, ⟨%W', HO⟩, Hat⟩
  ihave #I1 := (ctx_inv X W K c (le_refl 126)) $$ Hc
  unfold WP
  rw [semWaitWord]
  iapply (Rounds.wp_wait_rest_token 𝒱₀ ER (Rd X W) (c : Thread nD τ) none (κ := nm K c 126)
      (wpE_semWait_eq 𝒱₀ (c : Thread nD τ) none Set.univ) (Set.mem_univ _) () (O := O) (W := W') (R := 0) (m := 0) (T := ∅)
      (by rw [show (Rd X W).expect ((c : Thread nD τ), SemLoc.reg (sig.barrier 0 rfl)) 0 = 31 from expect_bar X W c]; decide)) $$ [Hcr HO Hat]
  · isplitr; · iexact I1
    isplitl [Hcr]; · iexact Hcr
    isplitl [HO]; · iexact HO
    isplitr; · iapply hm; iexact Hc
    iexact Hat
  iintro ⟨HO, Hat, -, Hp⟩
  rw [wp_ret]; imodintro
  isplitl [HO]; · iexists _; iexact HO
  isplitl [Hat]; · iexact Hat
  iapply (Entails.of_eq (rest_bar X W c)); iexact Hp

end

end Cert.KernelIdeal.Own

end
-- ==== Proof.IdealBlocks.lean ====
module

public import proofs.«01_k».proof.Proof.IdealSteps

/-! The copies and waits of the ring and of the maxima, and the computation of one block, each with what it needs and what
it leaves. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

/-! ## Amounts -/

theorem amt_r {h : ℕ} (c : Dev nD) (hh : h < 15) (k : ℕ) (hk : k = 0 ∨ k = 16 ∨ k = 32 ∨ k = 48) : amt (k + h) = (rSl gM c h).view.dmaCredit := by
  unfold amt; rw [if_neg (by omega), if_pos (by omega), if_pos (by omega)]
theorem amt_l {h : ℕ} (c : Dev nD) (hh : h < 15) (k : ℕ) (hk : k = 0 ∨ k = 16 ∨ k = 32 ∨ k = 48) : amt (k + h) = (lSl gM c h).view.dmaCredit := by
  unfold amt; rw [if_neg (by omega), if_pos (by omega), if_pos (by omega)]
theorem amt_rH (c : Dev nD) (k : ℕ) (hk : k = 0 ∨ k = 16 ∨ k = 32 ∨ k = 48) : amt (k + 15) = (rHalf gM c).view.dmaCredit := by
  unfold amt; rw [if_neg (by omega), if_pos (by omega), if_neg (by omega)]
theorem amt_lH (c : Dev nD) (k : ℕ) (hk : k = 0 ∨ k = 16 ∨ k = 32 ∨ k = 48) : amt (k + 15) = (lHalf gM c).view.dmaCredit := by
  unfold amt; rw [if_neg (by omega), if_pos (by omega), if_neg (by omega)]
theorem amt_a {n : ℕ} (c : Dev nD) (hn : 64 ≤ n) (hn' : n < 126) : amt n = (amSl aM c).view.dmaCredit := by
  unfold amt; rw [if_neg (by omega), if_neg (by omega)]

/-! ## The semaphores' slots -/

theorem slot_rs {h : ℕ} (hh : h < 16) : sem16 cc0_scratch2 h = dsem (3 + (0 + h)) := by rw [Nat.zero_add]; exact sem_rs ⟨h, hh⟩
theorem slot_rr {h : ℕ} (hh : h < 16) : sem16 cc0_scratch3 h = dsem (3 + (16 + h)) := (sem_rr ⟨h, hh⟩).trans (congrArg dsem (by show 19 + h = _; omega))
theorem slot_ls {h : ℕ} (hh : h < 16) : sem16 cc0_scratch4 h = dsem (3 + (32 + h)) := (sem_ls ⟨h, hh⟩).trans (congrArg dsem (by show 35 + h = _; omega))
theorem slot_lr {h : ℕ} (hh : h < 16) : sem16 cc0_scratch5 h = dsem (3 + (48 + h)) := (sem_lr ⟨h, hh⟩).trans (congrArg dsem (by show 51 + h = _; omega))
theorem slot_as {j : ℕ} (hj : j < 31) : sem31 cc0_scratch6 j = dsem (3 + (64 + j)) := (sem_as ⟨j, hj⟩).trans (congrArg dsem (by show 67 + j = _; omega))
theorem slot_ar {j : ℕ} (hj : j < 31) : sem31 cc0_scratch7 j = dsem (3 + (95 + j)) := (sem_ar ⟨j, hj⟩).trans (congrArg dsem (by show 98 + j = _; omega))

section
variable (X : Dev nD → Vec F S128x4096 .bf16) (W : Dev nD → Vec F S4096x64 .bf16)
variable (K : Dev nD × Fin 127 → ℕ)

/-! ## Copies of rows of the gathered array -/

/-- A copy of rows of the gathered array to the same rows on another device. -/
theorem sendG (r : Rect S4096x4096) (hr : ∀ a, r.stride a = 1) (S : Finset S4096x4096.Idx)
    (hS : ((gM : Memref sig .tc .vmem S4096x4096 .bf16).slice r hr).view.set = S) (c t n : Dev nD) (hn : n = t) {a b : ℕ} (ha : a < 126) (hb : b < 126)
    {qS qR : DmaSem sig} (eS : qS = dsem (3 + a)) (eR : qR = dsem (3 + b))
    (hNa : amt a = ((gM : Memref sig .tc .vmem S4096x4096 .bf16).slice r hr).view.dmaCredit)
    (hNb : amt b = ((gM : Memref sig .tc .vmem S4096x4096 .bf16).slice r hr).view.dmaCredit)
    {hsc : (((gM : Memref sig .tc .vmem S4096x4096 .bf16).slice r hr : Memref sig (Dev.tc n : Thread nD τ).2.kind .vmem r.shape .bf16)).view.ref.isScScratch = false}
    {h₁ h₂ : ((gM : Memref sig .tc .vmem S4096x4096 .bf16).slice r hr).view.WordExact}
    {h₃ : DmaTarget.Typed .vmem (.dma qR) (.remote (Dev.tc n : Thread nD τ) ((gM : Memref sig .tc .vmem S4096x4096 .bf16).slice r hr) (.dma qS) hsc)}
    (q : PosShare TreeShare) (O : Tl)
    (hp : pay X W c a 0 = gPts X c S q) (hp' : pay X W t b 0 = gPts X t S fullShare) :
    iprop(ctx X W K ∗ gPts X c S q ∗ gAny t S ∗ owesE c (O + tallyAt (gc t b) () (amt b)) ∗ tok c a 0 ∗ tok t b 0)
      ⊢ WP c (Prog.lift (.enqueueDma ((gM : Memref sig .tc .vmem S4096x4096 .bf16).slice r hr) (.remote (Dev.tc n) ((gM : Memref sig .tc .vmem S4096x4096 .bf16).slice r hr) (.dma qS) hsc) (.dma qR) h₁ h₂ h₃))
          (fun _ => iprop(crd c a ∗ owesE c O)) := by
  subst hS
  unfold gAny
  iintro ⟨#Hc, Hs, ⟨%fd, Hd⟩, HO, Ht, Ht'⟩
  iapply (send_gen X W K ((gM : Memref sig .tc .vmem S4096x4096 .bf16).slice r hr) c t n hn ha hb eS eR hNa hNb
    (fs := (gAll X : Buf (Elt F) (gLoc c))) (q := q) fd O (by rw [hp]; exact Entails.refl _)
    (by
      rw [hp', View.write_read_eq_piecewise, View.setOn_univ]
      unfold gPts
      exact (Entails.of_eq (pointsTo_congr fun y hy => Finset.piecewise_eq_of_mem _ _ _ hy))))
  isplitr; · iexact Hc
  isplitl [Hs]; · unfold gPts; iexact Hs
  isplitl [Hd]; · iexact Hd
  isplitl [HO]; · iexact HO
  isplitl [Ht]; · iexact Ht
  iexact Ht'

theorem sendR_spec (c : Dev nD) {h : ℕ} (hh : h < 15) (O : Tl) :
    iprop(ctx X W K ∗ gPts X c (rSet c h) (shR h) ∗ gAny (right c) (rSet c h) ∗ owesE c (O + oweR c h) ∗ tok c (0 + h) 0 ∗ tok (right c) (16 + h) 0)
      ⊢ WP c (sendR gM hgM cc0_scratch2 cc0_scratch3 c h) (fun _ => iprop(crd c (0 + h) ∗ owesE c O)) := by
  unfold sendR rSl
  exact sendG X W K _ _ _ (rSl_set c h hh) c (right c) _ (rDev_eq c ⟨h, by omega⟩) (by omega) (by omega) (slot_rs (by omega)) (slot_rr (by omega))
    (amt_r c hh 0 (by omega)) (amt_r c hh 16 (by omega)) _ O
    (by rw [Nat.zero_add]; exact pay_rs X W c (by omega) 0) ((pay_rr X W (right c) (by omega) 0).trans (by rw [left_right]))
theorem sendL_spec (c : Dev nD) {h : ℕ} (hh : h < 15) (O : Tl) :
    iprop(ctx X W K ∗ gPts X c (lSet c h) (shL h) ∗ gAny (left c) (lSet c h) ∗ owesE c (O + oweL c h) ∗ tok c (32 + h) 0 ∗ tok (left c) (48 + h) 0)
      ⊢ WP c (sendL gM hgM cc0_scratch4 cc0_scratch5 c h) (fun _ => iprop(crd c (32 + h) ∗ owesE c O)) := by
  unfold sendL lSl
  exact sendG X W K _ _ _ (lSl_set c h hh) c (left c) _ (lDev_eq c ⟨h, by omega⟩) (by omega) (by omega) (slot_ls (by omega)) (slot_lr (by omega))
    (amt_l c hh 32 (by omega)) (amt_l c hh 48 (by omega)) _ O
    (pay_ls X W c (by omega) 0) ((pay_lr X W (left c) (by omega) 0).trans (by rw [right_left]))
theorem sendRH_spec (c : Dev nD) (O : Tl) :
    iprop(ctx X W K ∗ gPts X c (rSet c 15) (shR 15) ∗ gAny (right c) (rSet c 15) ∗ owesE c (O + oweR c 15) ∗ tok c (0 + 15) 0 ∗ tok (right c) (16 + 15) 0)
      ⊢ WP c (sendRH gM hgM cc0_scratch2 cc0_scratch3 c) (fun _ => iprop(crd c (0 + 15) ∗ owesE c O)) := by
  unfold sendRH rHalf
  exact sendG X W K _ _ _ (rHalf_set c) c (right c) _ (rDev_eq c ⟨15, by omega⟩) (by omega) (by omega) (slot_rs (by omega)) (slot_rr (by omega))
    (amt_rH c 0 (by omega)) (amt_rH c 16 (by omega)) _ O
    (by rw [Nat.zero_add]; exact pay_rs X W c (by omega) 0) ((pay_rr X W (right c) (by omega) 0).trans (by rw [left_right]))
theorem sendLH_spec (c : Dev nD) (O : Tl) :
    iprop(ctx X W K ∗ gPts X c (lSet c 15) (shL 15) ∗ gAny (left c) (lSet c 15) ∗ owesE c (O + oweL c 15) ∗ tok c (32 + 15) 0 ∗ tok (left c) (48 + 15) 0)
      ⊢ WP c (sendLH gM hgM cc0_scratch4 cc0_scratch5 c) (fun _ => iprop(crd c (32 + 15) ∗ owesE c O)) := by
  unfold sendLH lHalf
  exact sendG X W K _ _ _ (lHalf_set c) c (left c) _ (lDev_eq c ⟨15, by omega⟩) (by omega) (by omega) (slot_ls (by omega)) (slot_lr (by omega))
    (amt_lH c 32 (by omega)) (amt_lH c 48 (by omega)) _ O
    (pay_ls X W c (by omega) 0) ((pay_lr X W (left c) (by omega) 0).trans (by rw [right_left]))

/-- A copy of rows of the maxima to the same rows on another device. -/
theorem sendM (r : Rect S32x8x128) (hr : ∀ a, r.stride a = 1) (S : Finset S32x8x128.Idx)
    (hS : ((aM : Memref sig .tc .vmem S32x8x128 .f32).slice r hr).view.set = S) (c t n : Dev nD) (hn : n = t) {a b : ℕ} (ha : a < 126) (hb : b < 126)
    {qS qR : DmaSem sig} (eS : qS = dsem (3 + a)) (eR : qR = dsem (3 + b))
    (hNa : amt a = ((aM : Memref sig .tc .vmem S32x8x128 .f32).slice r hr).view.dmaCredit)
    (hNb : amt b = ((aM : Memref sig .tc .vmem S32x8x128 .f32).slice r hr).view.dmaCredit)
    {hsc : (((aM : Memref sig .tc .vmem S32x8x128 .f32).slice r hr : Memref sig (Dev.tc n : Thread nD τ).2.kind .vmem r.shape .f32)).view.ref.isScScratch = false}
    {h₁ h₂ : ((aM : Memref sig .tc .vmem S32x8x128 .f32).slice r hr).view.WordExact}
    {h₃ : DmaTarget.Typed .vmem (.dma qR) (.remote (Dev.tc n : Thread nD τ) ((aM : Memref sig .tc .vmem S32x8x128 .f32).slice r hr) (.dma qS) hsc)}
    (q : PosShare TreeShare) (O : Tl)
    (hp : pay X W c a 0 = aPts X W c S q) (hp' : pay X W t b 0 = aPts X W t S fullShare) :
    iprop(ctx X W K ∗ aPts X W c S q ∗ aAny t S ∗ owesE c (O + tallyAt (gc t b) () (amt b)) ∗ tok c a 0 ∗ tok t b 0)
      ⊢ WP c (Prog.lift (.enqueueDma ((aM : Memref sig .tc .vmem S32x8x128 .f32).slice r hr) (.remote (Dev.tc n) ((aM : Memref sig .tc .vmem S32x8x128 .f32).slice r hr) (.dma qS) hsc) (.dma qR) h₁ h₂ h₃))
          (fun _ => iprop(crd c a ∗ owesE c O)) := by
  subst hS
  unfold aAny
  iintro ⟨#Hc, Hs, ⟨%fd, Hd⟩, HO, Ht, Ht'⟩
  iapply (send_gen X W K ((aM : Memref sig .tc .vmem S32x8x128 .f32).slice r hr) c t n hn ha hb eS eR hNa hNb
    (fs := (aAll X W : Buf (Elt F) (aLoc c))) (q := q) fd O (by rw [hp]; exact Entails.refl _)
    (by
      rw [hp', View.write_read_eq_piecewise, View.setOn_univ]
      unfold aPts
      exact (Entails.of_eq (pointsTo_congr fun y hy => Finset.piecewise_eq_of_mem _ _ _ hy))))
  isplitr; · iexact Hc
  isplitl [Hs]; · unfold aPts; iexact Hs
  isplitl [Hd]; · iexact Hd
  isplitl [HO]; · iexact HO
  isplitl [Ht]; · iexact Ht
  iexact Ht'

/-- The copy of a device's maximum into its row on another device. -/
theorem sendA_spec (c : Dev nD) {j : ℕ} (hj : j < 31) (O : Tl) :
    iprop(ctx X W K ∗ aPts X W c (aSet c) (shareTokN fullShare.right j) ∗ aAny (peer c j) (aSet c)
        ∗ owesE c (O + tallyAt (gc (peer c j) (95 + j)) () (amt (95 + j))) ∗ tok c (64 + j) 0 ∗ tok (peer c j) (95 + j) 0)
      ⊢ WP c (sendA aM cc0_scratch6 cc0_scratch7 c j) (fun _ => iprop(crd c (64 + j) ∗ owesE c O)) := by
  unfold sendA amSl
  exact sendM X W K _ _ _ (amSl_set c) c (peer c j) _ (amDev_eq c ⟨j, hj⟩) (by omega) (by omega) (slot_as hj) (slot_ar hj)
    (amt_a c (by omega) (by omega)) (amt_a c (by omega) (by omega)) _ O
    (pay_as X W c hj 0) ((pay_ar X W (peer c j) hj 0).trans (by rw [back_peer c j hj]))

/-! ## Waits -/

theorem lev_send {n : ℕ} (h : n < 16 ∨ 32 ≤ n ∧ n < 48 ∨ 64 ≤ n ∧ n < 95) : lev n = 0 := by
  unfold lev; rw [if_neg (by omega), if_neg (by omega), if_neg (by omega), if_neg (by omega)]
theorem lev_rr {h : ℕ} (hh : h < 16) : lev (16 + h) = h + 2 := by
  unfold lev; rw [if_neg (by omega), if_pos (by omega)]; omega
theorem lev_lr {h : ℕ} (hh : h < 16) : lev (48 + h) = h + 2 := by
  unfold lev; rw [if_neg (by omega), if_neg (by omega), if_pos (by omega)]; omega

theorem waitRr_spec (c : Dev nD) {h : ℕ} (hh : h < 15) (O : Tl) (hO : Above (h + 2) O) :
    iprop(ctx X W K ∗ crd c (16 + h) ∗ owesE c O ∗ at0 c (16 + h))
      ⊢ WP c (waitR gM hgM c cc0_scratch3 h) (fun _ => iprop(owesE c O ∗ at1 c (16 + h) ∗ gPts X c (rSet (left c) h) fullShare)) := by
  rw [← pay_rr X W c (by omega : h < 16) 0]
  exact wait_gen X W K (rSl gM c h) c (by omega) (slot_rr (by omega)) (amt_r c hh 16 (by omega)) O (by rw [lev_rr (by omega)]; exact hO)
theorem waitLr_spec (c : Dev nD) {h : ℕ} (hh : h < 15) (O : Tl) (hO : Above (h + 2) O) :
    iprop(ctx X W K ∗ crd c (48 + h) ∗ owesE c O ∗ at0 c (48 + h))
      ⊢ WP c (waitL gM hgM c cc0_scratch5 h) (fun _ => iprop(owesE c O ∗ at1 c (48 + h) ∗ gPts X c (lSet (right c) h) fullShare)) := by
  rw [← pay_lr X W c (by omega : h < 16) 0]
  exact wait_gen X W K (lSl gM c h) c (by omega) (slot_lr (by omega)) (amt_l c hh 48 (by omega)) O (by rw [lev_lr (by omega)]; exact hO)
theorem waitRHr_spec (c : Dev nD) (O : Tl) (hO : Above 17 O) :
    iprop(ctx X W K ∗ crd c (16 + 15) ∗ owesE c O ∗ at0 c (16 + 15))
      ⊢ WP c (waitRH gM hgM c cc0_scratch3) (fun _ => iprop(owesE c O ∗ at1 c (16 + 15) ∗ gPts X c (rSet (left c) 15) fullShare)) := by
  rw [← pay_rr X W c (by omega : 15 < 16) 0]
  exact wait_gen X W K (rHalf gM c) c (by omega) (slot_rr (by omega)) (amt_rH c 16 (by omega)) O (by rw [lev_rr (by omega)]; exact hO)
theorem waitLHr_spec (c : Dev nD) (O : Tl) (hO : Above 17 O) :
    iprop(ctx X W K ∗ crd c (48 + 15) ∗ owesE c O ∗ at0 c (48 + 15))
      ⊢ WP c (waitLH gM hgM c cc0_scratch5) (fun _ => iprop(owesE c O ∗ at1 c (48 + 15) ∗ gPts X c (lSet (right c) 15) fullShare)) := by
  rw [← pay_lr X W c (by omega : 15 < 16) 0]
  exact wait_gen X W K (lHalf gM c) c (by omega) (slot_lr (by omega)) (amt_lH c 48 (by omega)) O (by rw [lev_lr (by omega)]; exact hO)
theorem waitRs_spec (c : Dev nD) {h : ℕ} (hh : h < 15) (O : Tl) (hO : Above 0 O) :
    iprop(ctx X W K ∗ crd c (0 + h) ∗ owesE c O ∗ at0 c (0 + h))
      ⊢ WP c (waitR gM hgM c cc0_scratch2 h) (fun _ => iprop(owesE c O ∗ at1 c (0 + h) ∗ gPts X c (rSet c h) (shR h))) := by
  rw [← pay_rs X W c (by omega : h < 16) 0]
  have := wait_gen X W K (rSl gM c h) c (n := 0 + h) (by omega) (slot_rs (by omega)) (amt_r c hh 0 (by omega))
    (h₁ := hgM.wordExact_slice rfl _ (k0_off2_wordsbf16 c (f15 h))) (h₂ := hgM.wordExact_slice rfl _ (k0_off2_wordsbf16 c (f15 h))) O (by rw [lev_send (by omega)]; exact hO)
  rwa [show pay X W c (0 + h) 0 = pay X W c h 0 by rw [Nat.zero_add]] at this
theorem waitLs_spec (c : Dev nD) {h : ℕ} (hh : h < 15) (O : Tl) (hO : Above 0 O) :
    iprop(ctx X W K ∗ crd c (32 + h) ∗ owesE c O ∗ at0 c (32 + h))
      ⊢ WP c (waitL gM hgM c cc0_scratch4 h) (fun _ => iprop(owesE c O ∗ at1 c (32 + h) ∗ gPts X c (lSet c h) (shL h))) := by
  rw [← pay_ls X W c (by omega : h < 16) 0]
  exact wait_gen X W K (lSl gM c h) c (by omega) (slot_ls (by omega)) (amt_l c hh 32 (by omega)) O (by rw [lev_send (by omega)]; exact hO)
theorem waitRHs_spec (c : Dev nD) (O : Tl) (hO : Above 0 O) :
    iprop(ctx X W K ∗ crd c (0 + 15) ∗ owesE c O ∗ at0 c (0 + 15))
      ⊢ WP c (waitRH gM hgM c cc0_scratch2) (fun _ => iprop(owesE c O ∗ at1 c (0 + 15) ∗ gPts X c (rSet c 15) (shR 15))) := by
  rw [← pay_rs X W c (by omega : 15 < 16) 0]
  exact wait_gen X W K (rHalf gM c) c (by omega) (slot_rs (by omega)) (amt_rH c 0 (by omega)) O (by rw [lev_send (by omega)]; exact hO)
theorem waitLHs_spec (c : Dev nD) (O : Tl) (hO : Above 0 O) :
    iprop(ctx X W K ∗ crd c (32 + 15) ∗ owesE c O ∗ at0 c (32 + 15))
      ⊢ WP c (waitLH gM hgM c cc0_scratch4) (fun _ => iprop(owesE c O ∗ at1 c (32 + 15) ∗ gPts X c (lSet c 15) (shL 15))) := by
  rw [← pay_ls X W c (by omega : 15 < 16) 0]
  exact wait_gen X W K (lHalf gM c) c (by omega) (slot_ls (by omega)) (amt_lH c 32 (by omega)) O (by rw [lev_send (by omega)]; exact hO)
theorem waitAr_spec (c : Dev nD) {j : ℕ} (hj : j < 31) :
    iprop(ctx X W K ∗ crd c (95 + j) ∗ owesE c 0 ∗ at0 c (95 + j))
      ⊢ WP c (waitA aM c cc0_scratch7 j) (fun _ => iprop(owesE c 0 ∗ at1 c (95 + j) ∗ aPts X W c (aSet (back c j)) fullShare)) := by
  rw [← pay_ar X W c hj 0]
  exact wait_gen X W K (amSl aM c) c (by omega) (slot_ar hj) (amt_a c (by omega) (by omega)) 0 (above_zero _)
theorem waitAs_spec (c : Dev nD) {j : ℕ} (hj : j < 31) :
    iprop(ctx X W K ∗ crd c (64 + j) ∗ owesE c 0 ∗ at0 c (64 + j))
      ⊢ WP c (waitA aM c cc0_scratch6 j) (fun _ => iprop(owesE c 0 ∗ at1 c (64 + j) ∗ aPts X W c (aSet c) (shareTokN fullShare.right j))) := by
  rw [← pay_as X W c hj 0]
  exact wait_gen X W K (amSl aM c) c (by omega) (slot_as hj) (amt_a c (by omega) (by omega)) 0 (above_zero _)

/-! ## One block -/

/-- The result's buffer on device `c`, the blocks in `P` computed. -/
def outSt (c : Dev nD) (P : Dev nD → Prop) : sProp 𝕄 :=
  iprop(∃ f : Buf (Elt F) ((c : Thread nD τ).loc cc0_stg2_0), ⌜∀ (b : Dev nD) (y : S4096x64.Idx), P b → y ∈ ySet b → f y = yAll X W c y⌝
    ∗ ((c : Thread nD τ).loc cc0_stg2_0 ↦{fullShare} f))

theorem dotStep_spec (c b : Dev nD) (o3 o2 : Fin 2 → ℕ) (h3) (h2) (e3 : o3 = ![128 * b.val, 0]) (e2 : o2 = ![128 * b.val, 0]) (run : F .f32)
    (q : PosShare TreeShare) (P P' : Dev nD → Prop) (hP : ∀ b', P' b' → P b' ∨ b' = b) :
    iprop(gPts X c (bSet b) q ∗ outSt X W c P)
      ⊢ WP c (dotStep oM gM (k0_pay1 (W c)) o3 o2 h3 h2 run)
          (fun a => iprop(⌜a = Scalar.maximumf run (blkMax (yBlk X W c b))⌝ ∗ gPts X c (bSet b) q ∗ outSt X W c P')) := by
  unfold outSt dotStep gPts
  simp only [Prog.lift, Prog.bind_op, Prog.bind_ret, Prog.pure_eq_ret]
  iintro ⟨Hg, ⟨%f, %hf, Ho⟩⟩
  iapply (wp_load_rect 𝒱₀ (c : Thread nD τ) none Set.univ (m := gM) (r := Rect.unit (s := S4096x4096) o3 S128x4096.size h3) (by
    show ((View.whole cc0_scratch0).slice _).set ⊆ _
    rw [View.set_slice_whole, rows_set128 o3 b e3 h3])) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := Rect.unit (s := S4096x64) o2 S128x64.size h2) (Mk := Finset.univ) (Finset.subset_univ _)) $$ Ho; iintro Ho
  have hx : (gM.access (Rect.unit (s := S4096x4096) o3 S128x4096.size h3)).read (Elt F) (gAll X) = k0_pay2 (X b) := by
    have := read_gAll X o3 b e3 h3
    rwa [View.readAt_rect] at this
  rw [wp_ret]; imodintro
  isplitr
  · ipureintro; exact congrArg (fun x => Scalar.maximumf run (blkMax (k0_pay5 (k0_pay1 (W c)) x))) hx
  isplitl [Hg]; · iexact Hg
  iexists _; isplitr
  · ipureintro
    exact fun (b' : Dev nD) (y : S4096x64.Idx) hb' hy => by
      have e := congrFun ((congrArg (fun x => (oM.access (Rect.unit (s := S4096x64) o2 S128x64.size h2)).write (Elt F) f (k0_pay5 (k0_pay1 (W c)) x) Finset.univ) hx).trans
        (write_yAll X W c o2 b e2 h2 f)) y
      refine Eq.trans e ?_
      by_cases hyb : y ∈ ySet b
      · exact Finset.piecewise_eq_of_mem _ _ _ hyb
      · rw [Finset.piecewise_eq_of_notMem _ _ _ hyb]
        rcases hP b' hb' with h | rfl
        · exact hf b' y h hy
        · exact absurd hy hyb
  iexact Ho

end

end Cert.KernelIdeal.Own

end
-- ==== Proof.IdealRing.lean ====
module

public import proofs.«01_k».proof.Proof.IdealBlocks
public import Idealize.SL.BI.BigOpNat

/-! The ring: the barrier's signals and wait, and the sixteen hops. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

/-! ## Separating conjunctions over intervals -/

theorem bigSep_none (k : ℕ) (A : ℕ → sProp 𝕄) : bigSep (Finset.Ico k k) A = iprop(emp) := by
  rw [Finset.Ico_self, bigSep_empty]; rfl
theorem bigSep_shift (k n m : ℕ) (A : ℕ → sProp 𝕄) :
    bigSep (Finset.Ico (k + m) (n + m)) A = bigSep (Finset.Ico k n) (fun i => A (i + m)) := by
  rw [show Finset.Ico (k + m) (n + m) = (Finset.Ico k n).image (fun i => i + m) from by
      ext x
      simp only [Finset.mem_Ico, Finset.mem_image]
      exact ⟨fun h => ⟨x - m, by omega, by omega⟩, fun ⟨i, hi, e⟩ => by omega⟩,
    bigSep_image_of_injOn fun i _ j _ h => Nat.add_right_cancel h]
/-- What holds under a condition that only one index can meet. -/
theorem given_deal (s : Finset ℕ) (j₀ : ℕ) (hj : j₀ ∈ s) (p : ℕ → Prop) [DecidablePred p] (A : ℕ → sProp 𝕄)
    (h : ∀ j ∈ s, p j → j = j₀) : A j₀ ⊢ bigSep s (fun j => given (p j) (A j)) := by
  rw [bigSep_erase hj]
  have e : bigSep (s.erase j₀) (fun j => given (p j) (A j)) = (iprop(emp) : sProp 𝕄) := by
    rw [bigSep_congr fun j hj' => given_neg (fun hp => Finset.ne_of_mem_erase hj' (h j (Finset.mem_of_mem_erase hj') hp)) (A j)]
    exact bigSep_emp_const _
  rw [e]
  show _ ⊢ iprop(given (p j₀) (A j₀) ∗ emp)
  iintro H
  isplitl [H]
  · by_cases hp : p j₀
    · rw [given_pos hp]; iexact H
    · rw [given_neg hp]; iempintro
  iempintro

/-- All devices: `c` and its thirty-one peers, counted up or down. -/
theorem peer_inj (c : Dev nD) {i j : ℕ} (hi : i < 31) (hj : j < 31) (h : peer c i = peer c j) : i = j := by
  have := dev_lt c
  have h' := congrArg Fin.val h
  simp only [peer] at h'; omega
theorem back_inj (c : Dev nD) {i j : ℕ} (hi : i < 31) (hj : j < 31) (h : back c i = back c j) : i = j := by
  have := dev_lt c
  have h' := congrArg Fin.val h
  simp only [back] at h'; omega
theorem peer_ne (c : Dev nD) {j : ℕ} (hj : j < 31) : peer c j ≠ c := fun h => by
  have := dev_lt c
  have h' := congrArg Fin.val h
  simp only [peer] at h'; omega
theorem back_rev (c : Dev nD) {j : ℕ} (hj : j < 31) : back c (30 - j) = peer c j := by
  have := dev_lt c
  refine Fin.ext ?_; simp only [back, peer]; omega
theorem exists_peer (c d : Dev nD) (h : d ≠ c) : ∃ j, j < 31 ∧ peer c j = d := by
  have := dev_lt c
  have := dev_lt d
  have hv : d.val ≠ c.val := fun e => h (Fin.ext e)
  refine ⟨(d.val + 31 - c.val) % 32, by omega, Fin.ext ?_⟩
  simp only [peer]; omega
theorem bigSep_devs (c : Dev nD) (A : Dev nD → sProp 𝕄) :
    bigSep Finset.univ A = iprop(A c ∗ bigSep (Finset.Ico 0 31) fun j => A (peer c j)) := by
  rw [bigSep_erase (Finset.mem_univ c),
    show Finset.univ.erase c = (Finset.Ico 0 31).image (peer c) from by
      ext d
      simp only [Finset.mem_erase, Finset.mem_univ, and_true, Finset.mem_image, Finset.mem_Ico]
      exact ⟨fun h => (exists_peer c d h).elim fun j hj => ⟨j, ⟨Nat.zero_le _, hj.1⟩, hj.2⟩, fun ⟨j, hj, e⟩ => e ▸ peer_ne c hj.2⟩,
    bigSep_image_of_injOn fun i hi j hj h => peer_inj c (Finset.mem_Ico.mp hi).2 (Finset.mem_Ico.mp hj).2 h]
  rfl
theorem bigSep_rev (A : ℕ → sProp 𝕄) : bigSep (Finset.Ico 0 31) (fun j => A (30 - j)) = bigSep (Finset.Ico 0 31) A := by
  conv_rhs => rw [show Finset.Ico 0 31 = (Finset.Ico 0 31).image (fun j => 30 - j) from by decide,
    bigSep_image_of_injOn (fun i hi j hj h => by
      have := (Finset.mem_Ico.mp hi).2; have := (Finset.mem_Ico.mp hj).2; have h' : 30 - i = 30 - j := h; omega)]
theorem bigSep_back (c : Dev nD) (A : Dev nD → sProp 𝕄) :
    bigSep (Finset.Ico 0 31) (fun j => A (back c j)) = bigSep (Finset.Ico 0 31) (fun j => A (peer c j)) := by
  rw [← bigSep_rev fun j => A (back c j)]
  exact bigSep_congr fun j hj => congrArg A (back_rev c (Finset.mem_Ico.mp hj).2)
theorem bigSep_fin31 (A : ℕ → sProp 𝕄) : bigSep Finset.univ (fun j : Fin 31 => A j.val) = bigSep (Finset.Ico 0 31) A := by
  rw [← Finset.range_eq_Ico, ← Nat.Iio_eq_range, ← Fin.map_valEmbedding_univ, bigSep_map]; rfl

section
variable (X : Dev nD → Vec F S128x4096 .bf16) (W : Dev nD → Vec F S4096x64 .bf16)
variable (K : Dev nD × Fin 127 → ℕ)

/-! ## The barrier -/

/-- The parts of its memory that a device hands its peers. -/
theorem bar_hand (c : Dev nD) :
    iprop((bigSep (Finset.Ico 0 31) fun j => aAny (F := F) c (aSet (peer c j))) ∗ landR (left c) c ∗ landL (right c) c)
      ⊢ bigSep (Finset.Ico 0 31) fun j => barPay (F := F) (peer c j) c := by
  unfold barPay
  rw [bigSep_sep', bigSep_sep']
  obtain ⟨jl, hl, el⟩ := exists_peer c (left c) (left_ne c)
  obtain ⟨jr, hr, er⟩ := exists_peer c (right c) (right_ne c)
  have h1 := given_deal (Finset.Ico 0 31) jl (Finset.mem_Ico.mpr ⟨Nat.zero_le _, hl⟩) (fun j => c = right (peer c j))
    (fun j => landR (F := F) (peer c j) c) (fun j hj h => peer_inj c (Finset.mem_Ico.mp hj).2 hl (by rw [el]; exact ((congrArg left h).trans (left_right _)).symm))
  have h2 := given_deal (Finset.Ico 0 31) jr (Finset.mem_Ico.mpr ⟨Nat.zero_le _, hr⟩) (fun j => c = left (peer c j))
    (fun j => landL (F := F) (peer c j) c) (fun j hj h => peer_inj c (Finset.mem_Ico.mp hj).2 hr (by rw [er]; exact ((congrArg right h).trans (right_left _)).symm))
  rw [el] at h1
  rw [er] at h2
  exact sep_mono_right (BI.sep_mono h1 h2)

/-- What a device finds after the barrier: room for its copies on its peers. -/
theorem bar_take (c : Dev nD) :
    (bigSep Finset.univ fun j : Fin 31 => barPay (F := F) c (back c j.val))
      ⊢ iprop((bigSep (Finset.Ico 0 31) fun j => aAny (F := F) (peer c j) (aSet c)) ∗ landR c (right c) ∗ landL c (left c)) := by
  rw [bigSep_fin31 fun j => barPay (F := F) c (back c j), bigSep_back c fun s => barPay (F := F) c s]
  unfold barPay
  rw [bigSep_sep', bigSep_sep']
  obtain ⟨jl, hl, el⟩ := exists_peer c (left c) (left_ne c)
  obtain ⟨jr, hr, er⟩ := exists_peer c (right c) (right_ne c)
  refine sep_mono_right (BI.sep_mono ((bigSep_elim (Finset.mem_Ico.mpr ⟨Nat.zero_le _, hr⟩)).trans ?_)
    ((bigSep_elim (Finset.mem_Ico.mpr ⟨Nat.zero_le _, hl⟩)).trans ?_))
  · rw [er, given_pos rfl]; exact Entails.refl _
  · rw [el, given_pos rfl]; exact Entails.refl _

theorem signals (c : Dev nD) (O : Tl) :
    iprop(ctx X W K ∗ owesE c (O + oweB c 0) ∗ (bigSep (Finset.Ico 0 31) fun j => tok (peer c j) 126 (f31 j))
        ∗ bigSep (Finset.Ico 0 31) fun j => barPay (F := F) (peer c j) c)
      ⊢ WP c (forUp (signalB c) 0 31 ⟨⟩) (fun _ => owesE c O) := by
  have key := wp_forUp (c := c) (signalB (F := F) c)
    (fun k _ => iprop(ctx X W K ∗ owesE c (O + oweB c k)
      ∗ bigSep (Finset.Ico k 31) fun j => iprop(tok (peer c j) 126 (f31 j) ∗ barPay (F := F) (peer c j) c))) 0 31 (fun j a _ hj => by
      have e := bigSep_Ico_succ_bot hj fun j => iprop(tok (F := F) (peer c j) 126 (f31 j) ∗ barPay (F := F) (peer c j) c)
      have sp := barSignal X W K c (peer c j) (sigDev c j) (sigDev_eq c ⟨j, hj⟩) (f31 j) (O + oweB c (j + 1)) a
      rw [e, oweB_succ c hj, ← add_assoc]
      rw [show back (peer c j) (f31 j).val = c by
        rw [show (f31 j).val = j from Nat.mod_eq_of_lt hj]; exact back_peer c j hj] at sp
      unfold signalB
      iintro ⟨#Hc, HO, ⟨Ht, Hp⟩, Hr⟩
      iapply (wp_last sp) $$ [HO Ht Hp]
      · isplitr; · iexact Hc
        isplitl [HO]; · iexact HO
        isplitl [Ht]; · iexact Ht
        iexact Hp
      iintro %a' HO
      isplitr; · iexact Hc
      isplitl [HO]; · iexact HO
      iexact Hr) 31 0 ⟨⟩ (le_refl 0) rfl
  iintro ⟨#Hc, HO, Ht, Hp⟩
  iapply (wp_last key) $$ [HO Ht Hp]
  · isplitr; · iexact Hc
    isplitl [HO]; · iexact HO
    rw [bigSep_sep']
    isplitl [Ht]; · iexact Ht
    iexact Hp
  iintro %a' ⟨-, HO, -⟩
  rw [oweB_end, add_zero]; iexact HO

end

end Cert.KernelIdeal.Own

end
-- ==== Proof.IdealHops.lean ====
module

public import proofs.«01_k».proof.Proof.IdealRing

/-! The sixteen hops of the ring, each with what it needs and what it leaves. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

/-- The blocks within `h` steps of device `c` on the ring. -/
def near (c : Dev nD) (h : ℕ) (b : Dev nD) : Prop := ∃ i, i ≤ h ∧ (b = blkR c i ∨ b = blkL c i)

theorem near_zero (c b : Dev nD) (h : near c 0 b) : b = c := by
  obtain ⟨i, hi, e⟩ := h
  obtain rfl : i = 0 := by omega
  rcases e with e | e
  · rw [e, blkR_zero]
  · rw [e, blkL_zero]
theorem near_succ (c : Dev nD) (k : ℕ) (b : Dev nD) (h : near c (k + 1) b) : (near c k b ∨ b = blkR c (k + 1)) ∨ b = blkL c (k + 1) := by
  obtain ⟨i, hi, e⟩ := h
  by_cases hk : i ≤ k
  · exact .inl (.inl ⟨i, hk, e⟩)
  · obtain rfl : i = k + 1 := by omega
    exact e.elim (fun e => .inl (.inr e)) .inr
theorem near_all (c b : Dev nD) : near c 16 b := by
  by_cases h : ((posAt b + 32 - posAt c) % 32) ≤ 16
  · refine ⟨_, h, .inr ?_⟩
    refine ((ringAt_eq_iff _ b).mpr ?_).symm
    have := posAt_lt b; have := posAt_lt c; omega
  · refine ⟨32 - (posAt b + 32 - posAt c) % 32, by omega, .inl ?_⟩
    refine ((ringAt_eq_iff _ b).mpr ?_).symm
    have := posAt_lt b; have := posAt_lt c; omega

section
variable (X : Dev nD → Vec F S128x4096 .bf16) (W : Dev nD → Vec F S4096x64 .bf16)
variable (K : Dev nD × Fin 127 → ℕ)

theorem gPts_share (c : Dev nD) (S : Finset S4096x4096.Idx) (q : PosShare TreeShare) :
    gPts X c S q ⊣⊢ iprop(gPts X c S q.left ∗ gPts X c S q.right) := by
  unfold gPts; exact pointsTo_share (PosShare.mem_left_op_right _)
theorem gPts_halves (c b : Dev nD) (q : PosShare TreeShare) :
    gPts X c (bSet b) q ⊣⊢ iprop(gPts X c (hSet (2 * b.val)) q ∗ gPts X c (hSet (2 * b.val + 1)) q) := by
  unfold gPts; rw [bSet_halves]; exact pointsTo_union (halves_disjoint b)
theorem shR_succ (k : ℕ) : shR (k + 1) = fullShare.left := if_neg (Nat.succ_ne_zero k)
theorem shL_succ (k : ℕ) : shL (k + 1) = fullShare.left := if_neg (Nat.succ_ne_zero k)

theorem arrR_set (c : Dev nD) {k : ℕ} (hk : k < 15) : rSet (left c) k = bSet (blkR c (k + 1)) := by rw [rSet_lt hk, blkR_left c k (by omega)]
theorem arrL_set (c : Dev nD) {k : ℕ} (hk : k < 15) : lSet (right c) k = bSet (blkL c (k + 1)) := by rw [lSet_lt hk, blkL_right]

/-- What hop `h` needs besides its rows, and what it leaves. -/
def hopTodo (c : Dev nD) (h : ℕ) : sProp 𝕄 :=
  iprop(tok c (0 + h) 0 ∗ tok (right c) (16 + h) 0 ∗ tok c (32 + h) 0 ∗ tok (left c) (48 + h) 0 ∗ crd c (16 + h) ∗ crd c (48 + h)
    ∗ at0 c (16 + h) ∗ at0 c (48 + h) ∗ gAny (right c) (rSet c h) ∗ gAny (left c) (lSet c h))
def hopDone (c : Dev nD) (h : ℕ) : sProp 𝕄 :=
  iprop(crd c (0 + h) ∗ crd c (32 + h) ∗ at1 (F := F) c (16 + h) ∗ at1 c (48 + h))
/-- The rows that hop `k` brought. -/
def arrived (c : Dev nD) (k : ℕ) (q : PosShare TreeShare) : sProp 𝕄 := iprop(gPts X c (rSet (left c) k) q ∗ gPts X c (lSet (right c) k) q)

abbrev hopP (c : Dev nD) (h : ℕ) (run : F .f32) : PG F (F .f32) :=
  hop oM gM hgM cc0_scratch2 cc0_scratch3 cc0_scratch4 cc0_scratch5 c (k0_pay1 (W c)) h run

set_option maxHeartbeats 1000000 in
theorem hop_spec (c : Dev nD) {k : ℕ} (hk : k < 14) (O : Tl) (hO : Above 99 O) :
    iprop(ctx X W K ∗ owesE c (O + oweH c (k + 1)) ∗ hopTodo c (k + 1) ∗ arrived X c k fullShare ∗ outSt X W c (near c k))
      ⊢ WP c (hopP W c (k + 1) (runAt X W c k))
          (fun a => iprop(⌜a = runAt X W c (k + 1)⌝ ∗ owesE c (O + oweH c (k + 2)) ∗ hopDone c (k + 1) ∗ arrived X c k fullShare.right
            ∗ arrived X c (k + 1) fullShare ∗ outSt X W c (near c (k + 1)))) := by
  have f15k : (f15 (k + 1 - 1)).val = k := Nat.mod_eq_of_lt (by omega)
  have f16k : (f16 (k + 1 - 1)).val = k := Nat.mod_eq_of_lt (by omega)
  have s1 := sendR_spec X W K c (h := k + 1) (by omega) (O + oweH c (k + 2) + oweL c (k + 1))
  have s2 := sendL_spec X W K c (h := k + 1) (by omega) (O + oweH c (k + 2))
  have hr : rSet c (k + 1) = bSet (blkR c (k + 1)) := rSet_lt (by omega)
  have hl : lSet c (k + 1) = bSet (blkL c (k + 1)) := lSet_lt (by omega)
  have aO : Above (k + 1 + 2) (O + oweH c (k + 2)) := above_add (fun g u h => ⟨(hO g u h).1, by have := (hO g u h).2; omega⟩) (above_oweH c (by omega))
  have d1 := dotStep_spec X W c (blkR c (k + 1)) _ _ (k0_off5_inb c (f15 (k + 1 - 1))) (k0_off6_inb c (f15 (k + 1 - 1)))
    ((off5_eq c (f15 (k + 1 - 1))).trans (by rw [f15k, Nat.add_comm 1 k])) ((off6_eq c (f15 (k + 1 - 1))).trans (by rw [f15k, Nat.add_comm 1 k]))
    (runAt X W c k) fullShare.right (near c k) (fun b => near c k b ∨ b = blkR c (k + 1)) (fun b' h => h)
  have d2 := fun r => dotStep_spec X W c (blkL c (k + 1)) _ _ (k0_off7_inb c (f16 (k + 1 - 1))) (k0_off8_inb c (f16 (k + 1 - 1)))
    ((off7_eq c (f16 (k + 1 - 1))).trans (by rw [f16k, Nat.add_comm 1 k])) ((off8_eq c (f16 (k + 1 - 1))).trans (by rw [f16k, Nat.add_comm 1 k]))
    r fullShare.right (fun b => near c k b ∨ b = blkR c (k + 1)) (near c (k + 1)) (fun b' h => near_succ c k b' h)
  have w1 := waitRr_spec X W K c (h := k + 1) (by omega) _ aO
  have w2 := waitLr_spec X W K c (h := k + 1) (by omega) _ aO
  rw [hr, shR_succ] at s1
  rw [hl, shL_succ] at s2
  unfold hopTodo hopDone arrived hopP hop
  rw [arrR_set c (by omega : k < 15), arrL_set c (by omega : k < 15), oweH_succ c (by omega : k + 1 < 16), ← add_assoc, ← add_assoc, hr, hl]
  iintro ⟨#Hc, HO, ⟨Ht1, Ht2, Ht3, Ht4, Hc1, Hc2, Ha1, Ha2, Hd1, Hd2⟩, ⟨HR, HL⟩, Hout⟩
  ihave HR := (gPts_share X c (bSet (blkR c (k + 1))) fullShare).1 $$ HR
  icases HR with ⟨HR, HR'⟩
  ihave HL := (gPts_share X c (bSet (blkL c (k + 1))) fullShare).1 $$ HL
  icases HL with ⟨HL, HL'⟩
  iapply (wp_seq s1) $$ [HO Ht1 Ht2 HR Hd1]
  · isplitr; · iexact Hc
    isplitl [HR]; · iexact HR
    isplitl [Hd1]; · iexact Hd1
    isplitl [HO]; · iexact HO
    isplitl [Ht1]; · iexact Ht1
    iexact Ht2
  iintro %_ ⟨Hs1, HO⟩
  iapply (wp_seq s2) $$ [HO Ht3 Ht4 HL Hd2]
  · isplitr; · iexact Hc
    isplitl [HL]; · iexact HL
    isplitl [Hd2]; · iexact Hd2
    isplitl [HO]; · iexact HO
    isplitl [Ht3]; · iexact Ht3
    iexact Ht4
  iintro %_ ⟨Hs2, HO⟩
  iapply (wp_seq d1) $$ [HR' Hout]
  · isplitl [HR'] <;> iassumption
  iintro %r1 ⟨%e1, HR', Hout⟩
  iapply (wp_seq (d2 r1)) $$ [HL' Hout]
  · isplitl [HL'] <;> iassumption
  iintro %r2 ⟨%e2, HL', Hout⟩
  iapply (wp_seq w1) $$ [Hc1 HO Ha1]
  · isplitr; · iexact Hc
    isplitl [Hc1]; · iexact Hc1
    isplitl [HO] <;> iassumption
  iintro %_ ⟨HO, Ha1, HRn⟩
  iapply (wp_seq w2) $$ [Hc2 HO Ha2]
  · isplitr; · iexact Hc
    isplitl [Hc2]; · iexact Hc2
    isplitl [HO] <;> iassumption
  iintro %_ ⟨HO, Ha2, HLn⟩
  iapply (wp_done r2 _)
  isplitr
  · ipureintro; rw [e2, e1]; rfl
  isplitl [HO]; · iexact HO
  isplitl [Hs1 Hs2 Ha1 Ha2]
  · isplitl [Hs1]; · iexact Hs1
    isplitl [Hs2]; · iexact Hs2
    isplitl [Ha1] <;> iassumption
  isplitl [HR' HL']
  · isplitl [HR'] <;> iassumption
  isplitl [HRn HLn]
  · isplitl [HRn] <;> iassumption
  iexact Hout

abbrev hop0P (c : Dev nD) : PG F (F .f32) :=
  hop0 oM gM hgM cc0_scratch2 cc0_scratch3 cc0_scratch4 cc0_scratch5 c (k0_pay1 (W c))
abbrev hop15P (c : Dev nD) (run : F .f32) : PG F (F .f32) :=
  hop15 oM gM hgM cc0_scratch2 cc0_scratch3 cc0_scratch4 cc0_scratch5 c (k0_pay1 (W c)) run

set_option maxHeartbeats 1000000 in
/-- The first hop sends the device's own block both ways. -/
theorem hop0_spec (c : Dev nD) (O : Tl) (hO : Above 99 O) :
    iprop(ctx X W K ∗ owesE c (O + oweH c 0) ∗ hopTodo c 0 ∗ gPts X c (bSet c) fullShare ∗ outSt X W c (fun _ => False))
      ⊢ WP c (hop0P W c)
          (fun a => iprop(⌜a = runAt X W c 0⌝ ∗ owesE c (O + oweH c 1) ∗ hopDone c 0 ∗ gPts X c (bSet c) fullShare.right
            ∗ arrived X c 0 fullShare ∗ outSt X W c (near c 0))) := by
  have s1 := sendR_spec X W K c (h := 0) (by omega) (O + oweH c 1 + oweL c 0)
  have s2 := sendL_spec X W K c (h := 0) (by omega) (O + oweH c 1)
  have hr : rSet c 0 = bSet c := by rw [rSet_lt (by omega), blkR_zero]
  have hl : lSet c 0 = bSet c := by rw [lSet_lt (by omega), blkL_zero]
  have aO : Above (0 + 2) (O + oweH c 1) := above_add (fun g u h => ⟨(hO g u h).1, by have := (hO g u h).2; omega⟩) (above_oweH c (by omega))
  have d1 := dotStep_spec X W c c _ _ (k0_off1_inb c) (k0_off4_inb c) (k0_off1_eq c) (k0_off4_eq c)
    (Scalar.ofBits .f32 0x00000000#32) fullShare.right (fun _ => False) (near c 0) (fun b' h => .inr (near_zero c b' h))
  have w1 := waitRr_spec X W K c (h := 0) (by omega) _ aO
  have w2 := waitLr_spec X W K c (h := 0) (by omega) _ aO
  rw [hr, show shR 0 = fullShare.left.left from rfl] at s1
  rw [hl, show shL 0 = fullShare.left.right from rfl] at s2
  unfold hopTodo hopDone arrived hop0P hop0
  rw [oweH_succ c (by omega : 0 < 16), ← add_assoc, ← add_assoc, hr, hl]
  iintro ⟨#Hc, HO, ⟨Ht1, Ht2, Ht3, Ht4, Hc1, Hc2, Ha1, Ha2, Hd1, Hd2⟩, Hg, Hout⟩
  ihave Hg := (gPts_share X c (bSet c) fullShare).1 $$ Hg
  icases Hg with ⟨Hg, Hk⟩
  ihave Hg := (gPts_share X c (bSet c) fullShare.left).1 $$ Hg
  icases Hg with ⟨HR, HL⟩
  iapply (wp_seq s1) $$ [HO Ht1 Ht2 HR Hd1]
  · isplitr; · iexact Hc
    isplitl [HR]; · iexact HR
    isplitl [Hd1]; · iexact Hd1
    isplitl [HO]; · iexact HO
    isplitl [Ht1]; · iexact Ht1
    iexact Ht2
  iintro %_ ⟨Hs1, HO⟩
  iapply (wp_seq s2) $$ [HO Ht3 Ht4 HL Hd2]
  · isplitr; · iexact Hc
    isplitl [HL]; · iexact HL
    isplitl [Hd2]; · iexact Hd2
    isplitl [HO]; · iexact HO
    isplitl [Ht3]; · iexact Ht3
    iexact Ht4
  iintro %_ ⟨Hs2, HO⟩
  iapply (wp_seq d1) $$ [Hk Hout]
  · isplitl [Hk] <;> iassumption
  iintro %r1 ⟨%e1, Hk, Hout⟩
  iapply (wp_seq w1) $$ [Hc1 HO Ha1]
  · isplitr; · iexact Hc
    isplitl [Hc1]; · iexact Hc1
    isplitl [HO] <;> iassumption
  iintro %_ ⟨HO, Ha1, HRn⟩
  iapply (wp_seq w2) $$ [Hc2 HO Ha2]
  · isplitr; · iexact Hc
    isplitl [Hc2]; · iexact Hc2
    isplitl [HO] <;> iassumption
  iintro %_ ⟨HO, Ha2, HLn⟩
  iapply (wp_done r1 _)
  isplitr
  · ipureintro; exact e1
  isplitl [HO]; · iexact HO
  isplitl [Hs1 Hs2 Ha1 Ha2]
  · isplitl [Hs1]; · iexact Hs1
    isplitl [Hs2]; · iexact Hs2
    isplitl [Ha1] <;> iassumption
  isplitl [Hk]; · iexact Hk
  isplitl [HRn HLn]
  · isplitl [HRn] <;> iassumption
  iexact Hout

/-- What the last hop keeps of the blocks whose halves it lends. -/
def kept15 (c : Dev nD) : sProp 𝕄 :=
  iprop((gPts X c (bSet (blkR c 15)) fullShare.right ∗ gPts X c (hSet (2 * (blkR c 15).val + 1)) fullShare.left)
    ∗ (gPts X c (bSet (blkL c 15)) fullShare.right ∗ gPts X c (hSet (2 * (blkL c 15).val)) fullShare.left))

/-- The two halves that the last hop brings are the block opposite on the ring. -/
theorem arrived_15 (c : Dev nD) : arrived X c 15 fullShare ⊣⊢ gPts X c (bSet (blkL c 16)) fullShare := by
  unfold arrived
  rw [rSet_15, lSet_15, blkR_left c 15 (by omega), blkL_right, blkL_16]
  exact ⟨(gPts_halves X c _ _).2, (gPts_halves X c _ _).1⟩

set_option maxHeartbeats 1000000 in
/-- The last hop. -/
theorem hop15_spec (c : Dev nD) (O : Tl) (hO : Above 99 O) :
    iprop(ctx X W K ∗ owesE c (O + oweH c 15) ∗ hopTodo c 15 ∗ arrived X c 14 fullShare ∗ outSt X W c (near c 14))
      ⊢ WP c (hop15P W c (runAt X W c 14))
          (fun a => iprop(⌜a = runEnd X W c⌝ ∗ owesE c O ∗ hopDone c 15 ∗ kept15 X c ∗ arrived X c 15 fullShare ∗ outSt X W c (near c 16))) := by
  have s1 := sendRH_spec X W K c (O + oweL c 15)
  have s2 := sendLH_spec X W K c O
  have aO : Above 17 O := fun g u h => ⟨(hO g u h).1, by have := (hO g u h).2; omega⟩
  have d1 := dotStep_spec X W c (blkR c 15) _ _ (k0_off5_inb c (f15 14)) (k0_off6_inb c (f15 14)) (off5_eq c (f15 14)) (off6_eq c (f15 14))
    (runAt X W c 14) fullShare.right (near c 14) (fun b => near c 14 b ∨ b = blkR c 15) (fun b' h => h)
  have d2 := fun r => dotStep_spec X W c (blkL c 15) _ _ (k0_off7_inb c (f16 14)) (k0_off8_inb c (f16 14)) (off7_eq c (f16 14)) (off8_eq c (f16 14))
    r fullShare.right (fun b => near c 14 b ∨ b = blkR c 15) (near c 15) (fun b' h => near_succ c 14 b' h)
  have d3 := fun r => dotStep_spec X W c (blkL c 16) _ _ (k0_off7_inb c (f16 15)) (k0_off8_inb c (f16 15)) (off7_eq c (f16 15)) (off8_eq c (f16 15))
    r fullShare (near c 15) (near c 16) (fun b' h => (near_succ c 15 b' h).elim (fun h => h.imp_right fun e => e.trans (blkL_16 c).symm) .inr)
  have w1 := waitRHr_spec X W K c O aO
  have w2 := waitLHr_spec X W K c O aO
  rw [rSet_15, show shR 15 = fullShare.left from rfl] at s1
  rw [lSet_15, show shL 15 = fullShare.left from rfl] at s2
  have eA : arrived X c 14 fullShare = iprop(gPts X c (bSet (blkR c 15)) fullShare ∗ gPts X c (bSet (blkL c 15)) fullShare) := by
    unfold arrived; rw [arrR_set c (by omega), arrL_set c (by omega)]
  rw [eA]
  unfold hopTodo hopDone kept15 hop15P hop15
  rw [oweH_succ c (by omega : 15 < 16), oweH_end, zero_add, ← add_assoc, rSet_15, lSet_15]
  iintro ⟨#Hc, HO, ⟨Ht1, Ht2, Ht3, Ht4, Hc1, Hc2, Ha1, Ha2, Hd1, Hd2⟩, ⟨HR, HL⟩, Hout⟩
  ihave HR := (gPts_share X c (bSet (blkR c 15)) fullShare).1 $$ HR
  icases HR with ⟨HR, HR'⟩
  ihave HR := (gPts_halves X c (blkR c 15) fullShare.left).1 $$ HR
  icases HR with ⟨HR, HRo⟩
  ihave HL := (gPts_share X c (bSet (blkL c 15)) fullShare).1 $$ HL
  icases HL with ⟨HL, HL'⟩
  ihave HL := (gPts_halves X c (blkL c 15) fullShare.left).1 $$ HL
  icases HL with ⟨HLo, HL⟩
  iapply (wp_seq s1) $$ [HO Ht1 Ht2 HR Hd1]
  · isplitr; · iexact Hc
    isplitl [HR]; · iexact HR
    isplitl [Hd1]; · iexact Hd1
    isplitl [HO]; · iexact HO
    isplitl [Ht1]; · iexact Ht1
    iexact Ht2
  iintro %_ ⟨Hs1, HO⟩
  iapply (wp_seq s2) $$ [HO Ht3 Ht4 HL Hd2]
  · isplitr; · iexact Hc
    isplitl [HL]; · iexact HL
    isplitl [Hd2]; · iexact Hd2
    isplitl [HO]; · iexact HO
    isplitl [Ht3]; · iexact Ht3
    iexact Ht4
  iintro %_ ⟨Hs2, HO⟩
  iapply (wp_seq d1) $$ [HR' Hout]
  · isplitl [HR'] <;> iassumption
  iintro %r1 ⟨%e1, HR', Hout⟩
  iapply (wp_seq (d2 r1)) $$ [HL' Hout]
  · isplitl [HL'] <;> iassumption
  iintro %r2 ⟨%e2, HL', Hout⟩
  iapply (wp_seq w1) $$ [Hc1 HO Ha1]
  · isplitr; · iexact Hc
    isplitl [Hc1]; · iexact Hc1
    isplitl [HO] <;> iassumption
  iintro %_ ⟨HO, Ha1, HRn⟩
  iapply (wp_seq w2) $$ [Hc2 HO Ha2]
  · isplitr; · iexact Hc
    isplitl [Hc2]; · iexact Hc2
    isplitl [HO] <;> iassumption
  iintro %_ ⟨HO, Ha2, HLn⟩
  ihave Hn := (show iprop(gPts X c (rSet (left c) 15) fullShare ∗ gPts X c (lSet (right c) 15) fullShare) ⊢ gPts X c (bSet (blkL c 16)) fullShare from (arrived_15 X c).1) $$ [HRn HLn]
  · isplitl [HRn] <;> iassumption
  iapply (wp_last (d3 r2)) $$ [Hn Hout]
  · isplitl [Hn] <;> iassumption
  iintro %r3 ⟨%e3, Hn, Hout⟩
  isplitr
  · ipureintro; rw [e3, e2, e1]; rfl
  isplitl [HO]; · iexact HO
  isplitl [Hs1 Hs2 Ha1 Ha2]
  · isplitl [Hs1]; · iexact Hs1
    isplitl [Hs2]; · iexact Hs2
    isplitl [Ha1] <;> iassumption
  isplitl [HR' HRo HL' HLo]
  · isplitl [HR' HRo]
    · isplitl [HR'] <;> iassumption
    isplitl [HL'] <;> iassumption
  isplitl [Hn]; · iapply (arrived_15 X c).2; iexact Hn
  iexact Hout

/-- All hops. -/
theorem hops_spec (c : Dev nD) (O : Tl) (hO : Above 99 O) :
    iprop(ctx X W K ∗ owesE c (O + oweH c 1) ∗ (bigSep (Finset.Ico 1 15) fun h => hopTodo c h) ∗ arrived X c 0 fullShare ∗ outSt X W c (near c 0))
      ⊢ WP c (forUp (hopP W c) 1 14 (runAt X W c 0))
          (fun a => iprop(⌜a = runAt X W c 14⌝ ∗ owesE c (O + oweH c 15) ∗ (bigSep (Finset.Ico 1 15) fun h => hopDone c h)
            ∗ (bigSep (Finset.Ico 0 14) fun k => arrived X c k fullShare.right) ∗ arrived X c 14 fullShare ∗ outSt X W c (near c 14))) := by
  have key := wp_forUp (c := c) (hopP W c)
    (fun h a => iprop(⌜a = runAt X W c (h - 1)⌝ ∗ ctx X W K ∗ owesE c (O + oweH c h) ∗ (bigSep (Finset.Ico h 15) fun h => hopTodo c h)
      ∗ (bigSep (Finset.Ico 1 h) fun h => hopDone c h) ∗ (bigSep (Finset.Ico 0 (h - 1)) fun k => arrived X c k fullShare.right)
      ∗ arrived X c (h - 1) fullShare ∗ outSt X W c (near c (h - 1)))) 1 15 (fun h a h1 hh => by
      obtain ⟨k, rfl⟩ : ∃ k, h = k + 1 := ⟨h - 1, by omega⟩
      rw [show k + 1 - 1 = k from rfl, show k + 1 + 1 - 1 = k + 1 from rfl, bigSep_Ico_succ_bot hh, bigSep_Ico_succ_top h1, bigSep_Ico_succ_top (Nat.zero_le k)]
      iintro ⟨%ea, #Hc, HO, Ht, Hd, Hk, Ha, Hout⟩
      subst ea
      icases Ht with ⟨Ht, Htr⟩
      iapply (wp_last (hop_spec X W K c (k := k) (by omega) O hO)) $$ [HO Ht Ha Hout]
      · isplitr; · iexact Hc
        isplitl [HO]; · iexact HO
        isplitl [Ht]; · iexact Ht
        isplitl [Ha] <;> iassumption
      iintro %r ⟨%er, HO, Hdn, Hkn, Ha, Hout⟩
      isplitr; · ipureintro; exact er
      isplitr; · iexact Hc
      isplitl [HO]; · iexact HO
      isplitl [Htr]; · iexact Htr
      isplitl [Hd Hdn]; · isplitl [Hdn] <;> iassumption
      isplitl [Hk Hkn]; · isplitl [Hkn] <;> iassumption
      isplitl [Ha] <;> iassumption) 14 1 (runAt X W c 0) (le_refl 1) rfl
  iintro ⟨#Hc, HO, Ht, Ha, Hout⟩
  iapply (wp_last key) $$ [HO Ht Ha Hout]
  · rw [show 1 - 1 = 0 from rfl, bigSep_none, bigSep_none]
    isplitr; · ipureintro; rfl
    isplitr; · iexact Hc
    isplitl [HO]; · iexact HO
    isplitl [Ht]; · iexact Ht
    isplitr; · iempintro
    isplitr; · iempintro
    isplitl [Ha] <;> iassumption
  iintro %r ⟨%er, -, HO, -, Hd, Hk, Ha, Hout⟩
  isplitr; · ipureintro; exact er
  isplitl [HO]; · iexact HO
  isplitl [Hd]; · iexact Hd
  isplitl [Hk]; · iexact Hk
  isplitl [Ha] <;> iassumption

end

end Cert.KernelIdeal.Own

end
-- ==== Proof.IdealFinish.lean ====
module

public import proofs.«01_k».proof.Proof.IdealHops
public import Idealize.ShloMosaic.Lib.Ring

/-! Around the ring: filling a device's own rows, exchanging the maxima, quantising, and waiting for the sends. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

/-- A loop of rounds that each turn their own share `A j` into `B j`. -/
theorem wp_each (c : Dev nD) (f : ℕ → PUnit → PG F PUnit) (C : sProp 𝕄) [BI.Persistent C] (St A B : ℕ → sProp 𝕄) (n : ℕ)
    (h : ∀ j a, j < n → iprop(C ∗ St j ∗ A j) ⊢ WP c (f j a) (fun _ => iprop(St (j + 1) ∗ B j))) :
    iprop(C ∗ St 0 ∗ bigSep (Finset.Ico 0 n) A) ⊢ WP c (forUp f 0 n ⟨⟩) (fun _ => iprop(St n ∗ bigSep (Finset.Ico 0 n) B)) := by
  have key := wp_forUp (c := c) f
    (fun k _ => iprop(C ∗ St k ∗ bigSep (Finset.Ico k n) A ∗ bigSep (Finset.Ico 0 k) B)) 0 n (fun j a _ hj => by
      rw [bigSep_Ico_succ_bot hj, bigSep_Ico_succ_top (Nat.zero_le j)]
      iintro ⟨#Hc, HS, ⟨HA, HAr⟩, HB⟩
      iapply (wp_last (h j a hj)) $$ [HS HA]
      · isplitr; · iexact Hc
        isplitl [HS] <;> iassumption
      iintro %_ ⟨HS, HBn⟩
      isplitr; · iexact Hc
      isplitl [HS]; · iexact HS
      isplitl [HAr]; · iexact HAr
      isplitl [HBn] <;> iassumption) n 0 ⟨⟩ (le_refl 0) (Nat.zero_add n)
  iintro ⟨#Hc, HS, HA⟩
  iapply (wp_last key) $$ [HS HA]
  · rw [bigSep_none]
    isplitr; · iexact Hc
    isplitl [HS]; · iexact HS
    isplitl [HA]; · iexact HA
    iempintro
  iintro %_ ⟨-, HS, -, HB⟩
  isplitl [HS] <;> iassumption

section
variable (X : Dev nD → Vec F S128x4096 .bf16) (W : Dev nD → Vec F S4096x64 .bf16)
variable (K : Dev nD × Fin 127 → ℕ)

abbrev xPts (c : Dev nD) : sProp 𝕄 := (c : Thread nD τ).loc cc0_stg0_0 ↦{fullShare} (X c : Buf (Elt F) ((c : Thread nD τ).loc cc0_stg0_0))
abbrev wPts (c : Dev nD) : sProp 𝕄 := (c : Thread nD τ).loc cc0_stg1_0 ↦{fullShare} (W c : Buf (Elt F) ((c : Thread nD τ).loc cc0_stg1_0))
abbrev oPts (c : Dev nD) : sProp 𝕄 := (c : Thread nD τ).loc cc0_stg2_0 ↦{fullShare} (outAll X W c : Buf (Elt F) ((c : Thread nD τ).loc cc0_stg2_0))

theorem off_zero : (![0, 0] : Fin 2 → Nat) = fun _ => 0 := funext fun a => by fin_cases a <;> rfl

/-- A device's own rows of the gathered array. -/
theorem fillOwn_spec (c : Dev nD) :
    iprop(xPts X c ∗ gAny c (bSet c)) ⊢ WP c (fillOwn xM gM hgM c) (fun _ => iprop(xPts X c ∗ gPts X c (bSet c) fullShare)) := by
  have hS : (gM.access (Rect.unit (s := S4096x4096) (k0_off1 c) S128x4096.size (k0_off1_inb c))).set ⊆ bSet c := by
    show ((View.whole cc0_scratch0).slice _).set ⊆ _
    rw [View.set_slice_whole, rows_set128 _ c (k0_off1_eq c)]
  unfold gAny gPts fillOwn
  simp only [Prog.lift, Prog.bind_op, Prog.bind_ret, Prog.pure_eq_ret]
  iintro ⟨Hx, ⟨%f, Hg⟩⟩
  iapply (wp_load 𝒱₀ (c : Thread nD τ) none Set.univ (m := xM) (Finset.subset_univ _)) $$ Hx; iintro Hx
  iapply (wp_load_rect 𝒱₀ (c : Thread nD τ) none Set.univ (m := gM) (r := Rect.unit (s := S4096x4096) (k0_off1 c) S128x4096.size (k0_off1_inb c)) hS) $$ Hg; iintro Hg
  iapply (wp_store 𝒱₀ (c : Thread nD τ) none Set.univ (m := gM) (r := Rect.unit (s := S4096x4096) (k0_off1 c) S128x4096.size (k0_off1_inb c)) (Mk := Finset.univ) (by rw [View.setOn_univ]; exact hS)) $$ Hg; iintro Hg
  rw [wp_ret]; imodintro
  isplitl [Hx]; · iexact Hx
  have e : ∀ y ∈ bSet c, (gM.access (Rect.unit (s := S4096x4096) (k0_off1 c) S128x4096.size (k0_off1_inb c))).write (Elt F) f
      (k0_pay2 (xM.view.readAt (Elt F) (Rect.unit (s := S128x4096) ![0, 0] S128x4096.size inb_S128x4096_S128x4096_0_0).toLoadRect (X c))) Finset.univ y = gAll X y := fun y hy => by
    rw [show xM.view.readAt (Elt F) (Rect.unit (s := S128x4096) ![0, 0] S128x4096.size inb_S128x4096_S128x4096_0_0).toLoadRect (X c) = X c from
      Memref.readAt_unit_zero (Elt F) cc0_stg0_0 off_zero _ _]
    exact write_gAll X _ c (k0_off1_eq c) _ f y hy
  iapply (Entails.of_eq (pointsTo_congr e)); iexact Hg

/-- The device's maximum, in its row. -/
theorem fillMax_spec (c : Dev nD) :
    aAny c (aSet c) ⊢ WP c (fillMax aM c (runEnd X W c)) (fun _ => aPts X W c (aSet c) fullShare) := by
  have hS : (aM.access (Rect.unit (s := S32x8x128) (k0_off11 c) S1x8x128.size (k0_off11_inb c))).set ⊆ aSet c := by
    show ((View.whole cc0_scratch1).slice _).set ⊆ _
    rw [View.set_slice_whole, row_set _ c (k0_off11_eq c)]
  unfold aAny aPts fillMax
  simp only [Prog.lift, Prog.bind_op, Prog.bind_ret, Prog.pure_eq_ret]
  iintro ⟨%f, Hg⟩
  iapply (wp_load_rect 𝒱₀ (c : Thread nD τ) none Set.univ (m := aM) (r := Rect.unit (s := S32x8x128) (k0_off11 c) S1x8x128.size (k0_off11_inb c)) hS) $$ Hg; iintro Hg
  iapply (wp_store 𝒱₀ (c : Thread nD τ) none Set.univ (m := aM) (r := Rect.unit (s := S32x8x128) (k0_off11 c) S1x8x128.size (k0_off11_inb c)) (Mk := Finset.univ) (by rw [View.setOn_univ]; exact hS)) $$ Hg; iintro Hg
  rw [wp_ret]; imodintro
  iapply (Entails.of_eq (pointsTo_congr fun y hy => write_aAll X W _ c (k0_off11_eq c) (k0_off11_inb c) f y hy)); iexact Hg

/-! ## The exchange of the maxima -/

theorem aPts_share (c : Dev nD) (S : Finset S32x8x128.Idx) (q : PosShare TreeShare) :
    aPts X W c S q ⊣⊢ iprop(aPts X W c S q.left ∗ aPts X W c S q.right) := by
  unfold aPts; exact pointsTo_share (PosShare.mem_left_op_right _)

/-- What the `j`-th send of the maximum needs. -/
def amTodo (c : Dev nD) (j : ℕ) : sProp 𝕄 :=
  iprop(tok c (64 + j) 0 ∗ tok (peer c j) (95 + j) 0 ∗ aAny (peer c j) (aSet c) ∗ aPts X W c (aSet c) (shareTokN fullShare.right j))

theorem sendsA (c : Dev nD) :
    iprop(ctx X W K ∗ owesE c (oweA c 0) ∗ bigSep (Finset.Ico 0 31) (amTodo X W c))
      ⊢ WP c (forUp (fun j _ => sendA aM cc0_scratch6 cc0_scratch7 c j) 0 31 ⟨⟩)
          (fun _ => iprop(owesE c (oweA c 31) ∗ bigSep (Finset.Ico 0 31) fun j => crd c (64 + j))) :=
  wp_each c _ (ctx X W K) (fun k => owesE c (oweA c k)) (amTodo X W c) (fun j => crd c (64 + j)) 31 fun j a hj => by
    rw [oweA_succ c hj]
    unfold amTodo
    iintro ⟨#Hc, HO, Ht, Ht', Ha, Hp⟩
    iapply (wp_last (sendA_spec X W K c hj (oweA c (j + 1)))) $$ [HO Ht Ht' Ha Hp]
    · isplitr; · iexact Hc
      isplitl [Hp]; · iexact Hp
      isplitl [Ha]; · iexact Ha
      isplitl [HO]; · iexact HO
      isplitl [Ht] <;> iassumption
    iintro %_ ⟨Hc1, HO⟩
    isplitl [HO] <;> iassumption

theorem waitsAr (c : Dev nD) :
    iprop(ctx X W K ∗ owesE c 0 ∗ bigSep (Finset.Ico 0 31) fun j => iprop(crd c (95 + j) ∗ at0 (F := F) c (95 + j)))
      ⊢ WP c (forUp (fun j _ => waitA aM c cc0_scratch7 j) 0 31 ⟨⟩)
          (fun _ => iprop(owesE c 0 ∗ bigSep (Finset.Ico 0 31) fun j => iprop(at1 c (95 + j) ∗ aPts X W c (aSet (back c j)) fullShare))) :=
  wp_each c _ (ctx X W K) (fun _ => owesE c 0) _ _ 31 fun j a hj => by
    iintro ⟨#Hc, HO, Hcr, Ha⟩
    iapply (wp_last (waitAr_spec X W K c hj)) $$ [HO Hcr Ha]
    · isplitr; · iexact Hc
      isplitl [Hcr]; · iexact Hcr
      isplitl [HO] <;> iassumption
    iintro %_ ⟨HO, H⟩
    isplitl [HO] <;> iassumption

theorem waitsAs (c : Dev nD) :
    iprop(ctx X W K ∗ owesE c 0 ∗ bigSep (Finset.Ico 0 31) fun j => iprop(crd c (64 + j) ∗ at0 (F := F) c (64 + j)))
      ⊢ WP c (forUp (fun j _ => waitA aM c cc0_scratch6 j) 0 31 ⟨⟩)
          (fun _ => iprop(owesE c 0 ∗ bigSep (Finset.Ico 0 31) fun j => iprop(at1 c (64 + j) ∗ aPts X W c (aSet c) (shareTokN fullShare.right j)))) :=
  wp_each c _ (ctx X W K) (fun _ => owesE c 0) _ _ 31 fun j a hj => by
    iintro ⟨#Hc, HO, Hcr, Ha⟩
    iapply (wp_last (waitAs_spec X W K c hj)) $$ [HO Hcr Ha]
    · isplitr; · iexact Hc
      isplitl [Hcr]; · iexact Hcr
      isplitl [HO] <;> iassumption
    iintro %_ ⟨HO, H⟩
    isplitl [HO] <;> iassumption

theorem drains (c : Dev nD) :
    iprop(ctx X W K ∗ owesE c 0 ∗ bigSep (Finset.Ico 0 15) fun h => iprop((crd c (0 + h) ∗ at0 (F := F) c (0 + h)) ∗ crd c (32 + h) ∗ at0 c (32 + h)))
      ⊢ WP c (forUp (drain gM hgM cc0_scratch2 cc0_scratch4 c) 0 15 ⟨⟩)
          (fun _ => iprop(owesE c 0 ∗ bigSep (Finset.Ico 0 15) fun h =>
            iprop((at1 c (0 + h) ∗ gPts X c (rSet c h) (shR h)) ∗ at1 c (32 + h) ∗ gPts X c (lSet c h) (shL h)))) :=
  wp_each c _ (ctx X W K) (fun _ => owesE c 0) _ _ 15 fun h a hh => by
    unfold drain
    iintro ⟨#Hc, HO, ⟨Hcr, Ha⟩, Hcr', Ha'⟩
    iapply (wp_seq (waitRs_spec X W K c hh 0 (above_zero _))) $$ [HO Hcr Ha]
    · isplitr; · iexact Hc
      isplitl [Hcr]; · iexact Hcr
      isplitl [HO] <;> iassumption
    iintro %_ ⟨HO, H⟩
    iapply (wp_last (waitLs_spec X W K c hh 0 (above_zero _))) $$ [HO Hcr' Ha']
    · isplitr; · iexact Hc
      isplitl [Hcr']; · iexact Hcr'
      isplitl [HO] <;> iassumption
    iintro %_ ⟨HO, H'⟩
    isplitl [HO]; · iexact HO
    isplitl [H] <;> iassumption

/-- All rows of the maxima are the whole array. -/
theorem aPts_all (c : Dev nD) (q : PosShare TreeShare) :
    iprop(aPts X W c (aSet c) q ∗ bigSep (Finset.Ico 0 31) fun j => aPts X W c (aSet (back c j)) q) = aPts X W c Finset.univ q := by
  rw [bigSep_back c fun d => aPts X W c (aSet d) q, ← bigSep_devs c fun d => aPts X W c (aSet d) q]
  unfold aPts
  exact (Ring.pointsTo_blocks (ℓ := aLoc c) (B := Dev nD) (I := fun d => (aSet d : Finset (Idx (aLoc c)))) aSet_disjoint aSet_cover
    (aAll X W : Buf (Elt F) (aLoc c))).symm

/-- Quantising: the maxima are read, the whole result is rewritten. -/
theorem quant_spec (c : Dev nD) (q : PosShare TreeShare) :
    iprop(aPts X W c Finset.univ q ∗ outSt X W c (near c 16)) ⊢ WP c (quant oM aM) (fun _ => iprop(aPts X W c Finset.univ q ∗ oPts X W c)) := by
  unfold outSt aPts quant
  simp only [Prog.lift, Prog.bind_op, Prog.bind_ret, Prog.pure_eq_ret]
  iintro ⟨Ha, ⟨%f, %hf, Ho⟩⟩
  obtain rfl : f = yAll X W c := funext fun (y : S4096x64.Idx) =>
    hf ⟨(y (0 : Fin 2)).val / 128, by have : (y (0 : Fin 2)).val < 4096 := (y (0 : Fin 2)).isLt; show _ < 32; omega⟩ y (near_all c _) (mem_ySet.mpr rfl)
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S4096x64) ![0, 0] S4096x64.size inb_S4096x64_S4096x64_0_0) (Mk := Finset.univ) (Finset.subset_univ _)) $$ Ho; iintro Ho
  rw [wp_ret]; imodintro
  isplitl [Ha]; · iexact Ha
  have e : (oM.access (Rect.unit (s := S4096x64) ![0, 0] S4096x64.size inb_S4096x64_S4096x64_0_0)).write (Elt F) (yAll X W c)
      (k0_pay65 (aM.view.readAt (Elt F) (Rect.unit (s := S32x8x128) ![0, 0, 0] S32x1x1.size inb_S32x8x128_S32x1x1_0_0_0).toLoadRect (aAll X W))
        (oM.view.readAt (Elt F) (Rect.unit (s := S4096x64) ![0, 0] S4096x64.size inb_S4096x64_S4096x64_0_0).toLoadRect (yAll X W c))) Finset.univ = outAll X W c := by
    rw [show oM.view.readAt (Elt F) (Rect.unit (s := S4096x64) ![0, 0] S4096x64.size inb_S4096x64_S4096x64_0_0).toLoadRect (yAll X W c) = yAll X W c from
      Memref.readAt_unit_zero (Elt F) cc0_stg2_0 off_zero _ _]
    exact Memref.write_access_unit_zero_univ (Elt F) cc0_stg2_0 off_zero _ _ _
  iapply (Entails.of_eq (congrArg (fun g : Buf (Elt F) ((c : Thread nD τ).loc cc0_stg2_0) => ((c : Thread nD τ).loc cc0_stg2_0 ↦{fullShare} g : sProp 𝕄)) e)); iexact Ho

end

end Cert.KernelIdeal.Own

end
-- ==== Proof.IdealRejoin.lean ====
module

public import proofs.«01_k».proof.Proof.IdealFinish
public import Idealize.ShloMosaic.Lib.Ring

/-! A device's memory taken apart and put together again, and its semaphores slot by slot. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

/-! ## Intervals -/

theorem bigSep_fin (n : ℕ) (A : ℕ → sProp 𝕄) : bigSep Finset.univ (fun j : Fin n => A j.val) = bigSep (Finset.Ico 0 n) A := by
  rw [← Finset.range_eq_Ico, ← Nat.Iio_eq_range, ← Fin.map_valEmbedding_univ, bigSep_map]; rfl
theorem bigSep_cat (a b : ℕ) (A : ℕ → sProp 𝕄) :
    bigSep (Finset.Ico 0 (a + b)) A = iprop(bigSep (Finset.Ico 0 a) A ∗ bigSep (Finset.Ico 0 b) fun i => A (a + i)) := by
  rw [show Finset.Ico 0 (a + b) = Finset.Ico 0 a ∪ Finset.Ico (0 + a) (b + a) from by
      ext x; simp only [Finset.mem_union, Finset.mem_Ico]; omega,
    bigSep_union (Finset.disjoint_left.mpr fun x hx hx' => by simp only [Finset.mem_Ico] at hx hx'; omega), bigSep_shift]
  exact congrArg _ (bigSep_congr fun i _ => congrArg A (Nat.add_comm i a))

/-- The slots of the copies, by kind. -/
def slots (A : ℕ → sProp 𝕄) : sProp 𝕄 :=
  iprop((bigSep (Finset.Ico 0 16) fun h => A (0 + h)) ∗ (bigSep (Finset.Ico 0 16) fun h => A (16 + h)) ∗ (bigSep (Finset.Ico 0 16) fun h => A (32 + h))
    ∗ (bigSep (Finset.Ico 0 16) fun h => A (48 + h)) ∗ (bigSep (Finset.Ico 0 31) fun j => A (64 + j)) ∗ bigSep (Finset.Ico 0 31) fun j => A (95 + j))
theorem slots_eq (A : ℕ → sProp 𝕄) : bigSep (Finset.Ico 0 126) A = slots A := by
  unfold slots
  rw [show 126 = 95 + 31 from rfl, bigSep_cat 95 31, show 95 = 64 + 31 from rfl, bigSep_cat 64 31, show 64 = 48 + 16 from rfl, bigSep_cat 48 16,
    show 48 = 32 + 16 from rfl, bigSep_cat 32 16, show 32 = 16 + 16 from rfl, bigSep_cat 16 16]
  simp only [Nat.zero_add]
  refine BI.Entails.antisymm ?_ ?_
  · show (_ : sProp 𝕄) ⊢ _
    iintro ⟨⟨⟨⟨⟨H0, H1⟩, H2⟩, H3⟩, H4⟩, H5⟩
    isplitl [H0]; · iexact H0
    isplitl [H1]; · iexact H1
    isplitl [H2]; · iexact H2
    isplitl [H3]; · iexact H3
    isplitl [H4]; · iexact H4
    iexact H5
  · show (_ : sProp 𝕄) ⊢ _
    iintro ⟨H0, H1, H2, H3, H4, H5⟩
    isplitr [H5]
    · isplitr [H4]
      · isplitr [H3]
        · isplitr [H2]
          · isplitl [H0]; · iexact H0
            iexact H1
          iexact H2
        iexact H3
      iexact H4
    iexact H5

section
variable (X : Dev nD → Vec F S128x4096 .bf16) (W : Dev nD → Vec F S4096x64 .bf16)
variable (K : Dev nD × Fin 127 → ℕ)

/-! ## The gathered array -/

/-- The array is the device's own block and what the hops bring from the two sides. -/
theorem pieces (c : Dev nD) (q : PosShare TreeShare) (f : Buf (Elt F) (gLoc c)) :
    (gLoc c ↦{q} f : sProp 𝕄) = iprop((gLoc c ↦[bSet c]{q} f)
      ∗ (bigSep (Finset.Ico 0 16) fun h => gLoc c ↦[rSet (left c) h]{q} f) ∗ bigSep (Finset.Ico 0 16) fun h => gLoc c ↦[lSet (right c) h]{q} f) := by
  rw [Ring.pointsTo_blocks (ℓ := gLoc c) (B := Unit ⊕ (Fin 16 ⊕ Fin 16)) (I := fun t => (piece c t : Finset (Idx (gLoc c)))) (piece_disjoint c) (piece_cover c) f,
    BI.bigSep_univ_sum, BI.bigSep_univ_sum, ← bigSep_fin 16 fun h => (gLoc c ↦[rSet (left c) h]{q} f : sProp 𝕄),
    ← bigSep_fin 16 fun h => (gLoc c ↦[lSet (right c) h]{q} f : sProp 𝕄)]
  rw [show (Finset.univ : Finset Unit) = {()} from rfl, bigSep_singleton]
  rfl

theorem gAny_of (c : Dev nD) (S : Finset S4096x4096.Idx) (f : Buf (Elt F) (gLoc c)) : (gLoc c ↦[S]{fullShare} f : sProp 𝕄) ⊢ gAny c S := by
  unfold gAny; iintro H; iexists f; iexact H
theorem aAny_of (c : Dev nD) (S : Finset S32x8x128.Idx) (f : Buf (Elt F) (aLoc c)) : (aLoc c ↦[S]{fullShare} f : sProp 𝕄) ⊢ aAny c S := by
  unfold aAny; iintro H; iexists f; iexact H

/-- Before the kernel runs: room for the own block and for what the neighbours will send. -/
theorem room (c : Dev nD) (f : Buf (Elt F) (gLoc c)) :
    (gLoc c ↦{fullShare} f : sProp 𝕄) ⊢ iprop(gAny c (bSet c) ∗ landR (left c) c ∗ landL (right c) c) := by
  rw [pieces]
  unfold landR landL
  refine BI.sep_mono ?_ (BI.sep_mono (bigSep_mono fun h _ => ?_) (bigSep_mono fun h _ => ?_))
  · exact gAny_of c _ f
  · exact gAny_of c _ f
  · exact gAny_of c _ f

/-- What a drained pair of sends gives back. -/
abbrev lent (c : Dev nD) (h : ℕ) : sProp 𝕄 := iprop(gPts X c (rSet c h) (shR h) ∗ gPts X c (lSet c h) (shL h))

theorem join_hop (c : Dev nD) {k : ℕ} (hk : k < 14) :
    iprop(arrived X c k fullShare.right ∗ lent X c (k + 1)) ⊢ arrived X c k fullShare := by
  unfold arrived lent
  rw [arrR_set c (by omega), arrL_set c (by omega), rSet_lt (by omega : k + 1 < 15), lSet_lt (by omega : k + 1 < 15), shR_succ, shL_succ]
  iintro ⟨⟨H1, H2⟩, H3, H4⟩
  isplitl [H1 H3]
  · iapply (gPts_share X c (bSet (blkR c (k + 1))) fullShare).2
    isplitl [H3] <;> iassumption
  iapply (gPts_share X c (bSet (blkL c (k + 1))) fullShare).2
  isplitl [H4] <;> iassumption

theorem join_own (c : Dev nD) : iprop(gPts X c (bSet c) fullShare.right ∗ lent X c 0) ⊢ gPts X c (bSet c) fullShare := by
  unfold lent
  rw [rSet_lt (by omega : 0 < 15), lSet_lt (by omega : 0 < 15), blkR_zero, blkL_zero, show shR 0 = fullShare.left.left from rfl, show shL 0 = fullShare.left.right from rfl]
  iintro ⟨H1, H2, H3⟩
  iapply (gPts_share X c (bSet c) fullShare).2
  isplitr [H1]
  · iapply (gPts_share X c (bSet c) fullShare.left).2
    isplitl [H2] <;> iassumption
  iexact H1

theorem join_15 (c : Dev nD) :
    iprop(kept15 X c ∗ gPts X c (rSet c 15) (shR 15) ∗ gPts X c (lSet c 15) (shL 15)) ⊢ arrived X c 14 fullShare := by
  unfold kept15 arrived
  rw [arrR_set c (by omega), arrL_set c (by omega), rSet_15, lSet_15, show shR 15 = fullShare.left from rfl, show shL 15 = fullShare.left from rfl]
  iintro ⟨⟨⟨H1, H2⟩, H3, H4⟩, H5, H6⟩
  isplitl [H1 H2 H5]
  · iapply (gPts_share X c (bSet (blkR c 15)) fullShare).2
    isplitr [H1]
    · iapply (gPts_halves X c (blkR c 15) fullShare.left).2
      isplitl [H5] <;> iassumption
    iexact H1
  iapply (gPts_share X c (bSet (blkL c 15)) fullShare).2
  isplitr [H3]
  · iapply (gPts_halves X c (blkL c 15) fullShare.left).2
    isplitl [H4] <;> iassumption
  iexact H3

/-- After all sends are done: the array, filled. -/
theorem gAll_join (c : Dev nD) :
    iprop(gPts X c (bSet c) fullShare.right ∗ (bigSep (Finset.Ico 0 14) fun k => arrived X c k fullShare.right) ∗ kept15 X c ∗ arrived X c 15 fullShare
        ∗ (bigSep (Finset.Ico 0 15) fun h => lent X c h) ∗ gPts X c (rSet c 15) (shR 15) ∗ gPts X c (lSet c 15) (shL 15))
      ⊢ (gLoc c ↦{fullShare} (gAll X : Buf (Elt F) (gLoc c)) : sProp 𝕄) := by
  rw [pieces, ← bigSep_sep', bigSep_Ico_succ_bot (by omega : 0 < 15), bigSep_shift 0 14 1 fun h => lent X c h]
  rw [show (fun h => iprop((gLoc c ↦[rSet (left c) h]{fullShare} (gAll X : Buf (Elt F) (gLoc c))) ∗ (gLoc c ↦[lSet (right c) h]{fullShare} (gAll X : Buf (Elt F) (gLoc c)))))
    = fun h => arrived X c h fullShare from rfl, bigSep_Ico_succ_top (by omega : 0 ≤ 15), bigSep_Ico_succ_top (by omega : 0 ≤ 14)]
  iintro ⟨Hb, Hk, H15, Ha, ⟨H0, Hs⟩, Hr, Hl⟩
  isplitl [Hb H0]
  · iapply (show iprop(gPts X c (bSet c) fullShare.right ∗ lent X c 0) ⊢ (gLoc c ↦[bSet c]{fullShare} (gAll X : Buf (Elt F) (gLoc c)) : sProp 𝕄) from join_own X c)
    isplitl [Hb] <;> iassumption
  isplitl [Ha]; · iexact Ha
  isplitl [H15 Hr Hl]
  · iapply (join_15 X c)
    isplitl [H15]; · iexact H15
    isplitl [Hr] <;> iassumption
  iapply ((Entails.of_eq (bigSep_sep' (Finset.Ico 0 14) (fun k => arrived X c k fullShare.right) (fun k => lent X c (k + 1))).symm).trans
    (bigSep_mono fun k hk => join_hop X c (Finset.mem_Ico.mp hk).2))
  isplitl [Hk] <;> iassumption

/-! ## The maxima -/

theorem roomA (c : Dev nD) (f : Buf (Elt F) (aLoc c)) :
    (aLoc c ↦{fullShare} f : sProp 𝕄) ⊢ iprop(aAny c (aSet c) ∗ bigSep (Finset.Ico 0 31) fun j => aAny c (aSet (peer c j))) := by
  rw [← bigSep_devs c fun d => aAny (F := F) c (aSet d),
    Ring.pointsTo_blocks (ℓ := aLoc c) (B := Dev nD) (I := fun d => (aSet d : Finset (Idx (aLoc c)))) aSet_disjoint aSet_cover f]
  exact bigSep_mono fun d _ => aAny_of c _ f

/-- The device's row, half of it cut for the sends. -/
theorem row_cut (c : Dev nD) :
    aPts X W c (aSet c) fullShare.right ⊣⊢ iprop((bigSep (Finset.Ico 0 31) fun j => aPts X W c (aSet c) (shareTokN fullShare.right j))
      ∗ aPts X W c (aSet c) (shareDrop fullShare.right 31)) := by
  have h := Transfers.pointsTo_toks_range (ℓ := aLoc c) (S := (aSet c : Finset (Idx (aLoc c)))) (f := (aAll X W : Buf (Elt F) (aLoc c))) (Ix := Unit) (Name := ℕ) (U := UU) (Lvl := ℕ) fullShare.right 31
  rw [Finset.range_eq_Ico] at h
  unfold aPts
  constructor
  · iintro H
    ihave H := h.1 $$ H
    icases H with ⟨H1, H2⟩
    isplitl [H2] <;> iassumption
  · iintro ⟨H1, H2⟩
    iapply h.2
    isplitl [H2] <;> iassumption
theorem own_cut (c : Dev nD) :
    aPts X W c (aSet c) fullShare ⊣⊢ iprop(aPts X W c (aSet c) fullShare.left
      ∗ (bigSep (Finset.Ico 0 31) fun j => aPts X W c (aSet c) (shareTokN fullShare.right j)) ∗ aPts X W c (aSet c) (shareDrop fullShare.right 31)) :=
  (aPts_share X W c (aSet c) fullShare).trans ⟨sep_mono_right (row_cut X W c).1, sep_mono_right (row_cut X W c).2⟩
theorem own_drop (c : Dev nD) :
    iprop((bigSep (Finset.Ico 0 31) fun j => aPts X W c (aSet c) (shareTokN fullShare.right j)) ∗ aPts X W c (aSet c) (shareDrop fullShare.right 31))
      ⊢ aPts X W c (aSet c) fullShare.right := (row_cut X W c).2

/-! ## Closing the semaphores -/

/-- All of a device's semaphores, their round over, count zero. -/
theorem close (c : Dev nD) :
    iprop(ctx X W K ∗ slots (fun n => at1 (F := F) c n) ∗ at1 c 126)
      ⊢ (|={Set.univ}=> iprop((bigSep (Finset.Ico 0 126) fun n => semVal (gc c n) 0) ∗ semVal (gc c 126) 0) : sProp 𝕄) := by
  have h := Rounds.cells_close ER (Rd X W) (Finset.Ico 0 127) (fun n => gc c n) (fun n => nm K c n) (Es := Set.univ) (fun _ _ => Set.mem_univ _) (fun _ _ h => h)
    (fun _ => 1) (fun k _ => duties_later X W (gc c k))
  rw [bigSep_Ico_succ_top (by omega : 0 ≤ 126) fun n => (semVal (gc c n) 0 : sProp 𝕄)] at h
  have hc : iprop(ctx X W K ∗ bigSep (Finset.Ico 0 127) fun n => at1 (F := F) c n)
      ⊢ bigSep (Finset.Ico 0 127) fun n => iprop(cellInv ER (Rd X W) (nm K c n) (gc c n) ∗ at1 c n) :=
    bigSep_with_persistent fun n hn => by
      iintro ⟨#Hc, Ha⟩
      isplitr
      · iapply (ctx_inv X W K c (n := n) (by have := Finset.mem_Ico.mp hn; omega)); iexact Hc
      iexact Ha
  rw [bigSep_Ico_succ_top (by omega : 0 ≤ 126) fun n => at1 (F := F) c n, slots_eq] at hc
  iintro ⟨#Hc, Hs, Hb⟩
  ihave H := hc $$ [Hs Hb]
  · isplitr; · iexact Hc
    isplitl [Hb] <;> iassumption
  imod h $$ H with ⟨H1, H2⟩
  imodintro
  isplitl [H2] <;> iassumption

end

end Cert.KernelIdeal.Own

end
-- ==== Proof.IdealFunction.lean ====
module

public import proofs.«01_k».proof.Proof.IdealRejoin
public import Idealize.ShloMosaic.Lib.Ring

/-! The whole kernel function on one device. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.KernelIdeal.Gen

variable {F : FTy → Type} [FloatOps F]

local notation "𝕄" => MT nD τ sig Unit (Elt F) ℕ UU ℕ

section
variable (X : Dev nD → Vec F S128x4096 .bf16) (W : Dev nD → Vec F S4096x64 .bf16)
variable (K : Dev nD × Fin 127 → ℕ)

/-! ## What a device starts with and ends with -/

/-- The right to signal the peers, to send along the ring, to send the maximum. -/
def payB (c : Dev nD) : sProp 𝕄 := bigSep (Finset.Ico 0 31) fun j => tok (F := F) (peer c j) 126 (f31 j)
def payH (c : Dev nD) : sProp 𝕄 :=
  bigSep (Finset.Ico 0 16) fun h => iprop(tok (F := F) c (0 + h) 0 ∗ tok (right c) (16 + h) 0 ∗ tok c (32 + h) 0 ∗ tok (left c) (48 + h) 0)
def payA (c : Dev nD) : sProp 𝕄 := bigSep (Finset.Ico 0 31) fun j => iprop(tok (F := F) c (64 + j) 0 ∗ tok (peer c j) (95 + j) 0)
/-- The promises that others will signal the device. -/
def crds (c : Dev nD) : sProp 𝕄 :=
  iprop(cred (tallyAt (gc c 126) () 31) ∗ (bigSep (Finset.Ico 0 16) fun h => iprop(crd (F := F) c (16 + h) ∗ crd c (48 + h)))
    ∗ bigSep (Finset.Ico 0 31) fun j => crd c (95 + j))
def held (c : Dev nD) : sProp 𝕄 :=
  iprop(payB (F := F) c ∗ payH c ∗ payA c ∗ slots (fun n => at0 c n) ∗ at0 c 126)

abbrev anyO (c : Dev nD) : sProp 𝕄 :=
  iprop(∃ f : Buf (Elt F) ((c : Thread nD τ).loc cc0_stg2_0), (c : Thread nD τ).loc cc0_stg2_0 ↦{fullShare} f)
abbrev anyG (c : Dev nD) : sProp 𝕄 := iprop(∃ f : Buf (Elt F) (gLoc c), gLoc c ↦{fullShare} f)
abbrev anyA (c : Dev nD) : sProp 𝕄 := iprop(∃ f : Buf (Elt F) (aLoc c), aLoc c ↦{fullShare} f)

def start (c : Dev nD) : sProp 𝕄 :=
  iprop(xPts X c ∗ wPts W c ∗ anyO (F := F) c ∗ anyG c ∗ anyA c ∗ owesE c (owe₀ c) ∗ held c ∗ crds c)
def finish (c : Dev nD) : sProp 𝕄 :=
  iprop(xPts X c ∗ wPts W c ∗ oPts X W c ∗ anyG c ∗ anyA c ∗ owesE c 0 ∗ (bigSep (Finset.Ico 0 126) fun n => semVal (gc c n) 0) ∗ semVal (gc c 126) 0)

theorem todo_intro (c : Dev nD) :
    iprop(payH (F := F) c ∗ (bigSep (Finset.Ico 0 16) fun h => iprop(crd (F := F) c (16 + h) ∗ crd c (48 + h)))
        ∗ (bigSep (Finset.Ico 0 16) fun h => at0 (F := F) c (16 + h)) ∗ (bigSep (Finset.Ico 0 16) fun h => at0 (F := F) c (48 + h))
        ∗ landR c (right c) ∗ landL c (left c))
      ⊢ iprop(hopTodo c 0 ∗ (bigSep (Finset.Ico 1 15) fun h => hopTodo (F := F) c h) ∗ hopTodo c 15) := by
  have e : iprop(hopTodo c 0 ∗ (bigSep (Finset.Ico 1 15) fun h => hopTodo (F := F) c h) ∗ hopTodo c 15)
      = bigSep (Finset.Ico 0 16) fun h => hopTodo (F := F) c h := by
    rw [bigSep_Ico_succ_bot (by omega : 0 < 16), bigSep_Ico_succ_top (by omega : 0 + 1 ≤ 15)]
    exact congrArg _ (BI.Entails.antisymm Idealize.SL.BI.sep_comm Idealize.SL.BI.sep_comm)
  rw [e]
  unfold payH hopTodo landR landL
  simp only [bigSep_sep']
  iintro ⟨⟨H1, H2, H3, H4⟩, ⟨H5, H6⟩, H7, H8, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- Splitting off the last hop. -/
theorem last16 (A : ℕ → sProp 𝕄) : bigSep (Finset.Ico 0 16) A = iprop(A 15 ∗ bigSep (Finset.Ico 0 15) A) := bigSep_Ico_succ_top (by omega : 0 ≤ 15) A

theorem done_elim (c : Dev nD) :
    iprop(hopDone (F := F) c 0 ∗ (bigSep (Finset.Ico 1 15) fun h => hopDone (F := F) c h) ∗ hopDone c 15)
      ⊢ iprop((bigSep (Finset.Ico 0 16) fun h => crd (F := F) c (0 + h)) ∗ (bigSep (Finset.Ico 0 16) fun h => crd (F := F) c (32 + h))
        ∗ (bigSep (Finset.Ico 0 16) fun h => at1 (F := F) c (16 + h)) ∗ (bigSep (Finset.Ico 0 16) fun h => at1 (F := F) c (48 + h))) := by
  have e : iprop(hopDone c 0 ∗ (bigSep (Finset.Ico 1 15) fun h => hopDone (F := F) c h) ∗ hopDone c 15)
      = bigSep (Finset.Ico 0 16) fun h => hopDone (F := F) c h := by
    rw [bigSep_Ico_succ_bot (by omega : 0 < 16), bigSep_Ico_succ_top (by omega : 0 + 1 ≤ 15)]
    exact congrArg _ (BI.Entails.antisymm Idealize.SL.BI.sep_comm Idealize.SL.BI.sep_comm)
  rw [e]
  unfold hopDone
  simp only [bigSep_sep']
  exact Entails.refl _

/-! ## The first two operations -/

theorem device_spec (c : Dev nD) : (iprop(emp) : sProp 𝕄) ⊢ WP (F := F) c (Prog.lift .deviceId) (fun a => iprop(⌜c = a⌝)) := by
  rw [Prog.lift]
  unfold WP
  rw [wp_deviceId, wp_ret]
  iintro -
  imodintro; ipureintro; rfl
theorem loadW_spec (c : Dev nD) :
    wPts W c ⊢ WP c (Prog.lift (.load wM (Rect.unit (s := S4096x64) ![0, 0] S4096x64.size inb_S4096x64_S4096x64_0_0).toLoadRect (View.loadsAt_vmem h_S4096x64)))
      (fun v => iprop(⌜v = W c⌝ ∗ wPts W c)) := by
  unfold WP
  rw [Prog.lift]
  iintro Hw
  iapply (wp_load 𝒱₀ (c : Thread nD τ) none Set.univ (m := wM) (Finset.subset_univ _)) $$ Hw; iintro Hw
  rw [wp_ret]; imodintro
  isplitr
  · ipureintro; exact Memref.readAt_unit_zero (Elt F) cc0_stg1_0 off_zero _ _
  iexact Hw

theorem wp_done_upd {α : Type} {c : Dev nD} (a : α) (Q : α → sProp 𝕄) : (|={Set.univ}=> Q a) ⊢ WP c (pure a) Q := by
  show _ ⊢ wp _ _ _ (.ret a) _
  rw [wp_ret]
theorem wp_last_upd {α : Type} {c : Dev nD} {p : PG F α} {P : sProp 𝕄} {Q R : α → sProp 𝕄}
    (h : P ⊢ WP c p Q) : P ⊢ iprop((∀ a, Q a -∗ |={Set.univ}=> R a) -∗ WP c p R) := by
  have e : p = p >>= fun a => pure a := (bind_pure p).symm
  rw [e]
  iintro H HR
  iapply (wp_seq h) $$ H
  iintro %a HQ
  iapply (wp_done_upd a R)
  iapply HR; iexact HQ

theorem out_intro (c : Dev nD) (f : Buf (Elt F) ((c : Thread nD τ).loc cc0_stg2_0)) :
    ((c : Thread nD τ).loc cc0_stg2_0 ↦{fullShare} f : sProp 𝕄) ⊢ outSt X W c (fun _ => False) := by
  unfold outSt
  iintro H; iexists f
  isplitr
  · ipureintro; exact fun b y hb _ => hb.elim
  iexact H

/-! ## After the hops -/

/-- What is left to do when all blocks are in: exchange the maxima, quantise, wait for the sends. -/
def late (c : Dev nD) : PG F PUnit := do
  fillMax aM c (runEnd X W c)
  forUp (fun j _ => sendA aM cc0_scratch6 cc0_scratch7 c j) 0 31 ⟨⟩
  forUp (fun j _ => waitA aM c cc0_scratch7 j) 0 31 ⟨⟩
  quant oM aM
  forUp (drain gM hgM cc0_scratch2 cc0_scratch4 c) 0 15 ⟨⟩
  waitRH gM hgM c cc0_scratch2
  waitLH gM hgM c cc0_scratch4
  forUp (fun j _ => waitA aM c cc0_scratch6 j) 0 31 ⟨⟩

set_option maxHeartbeats 2000000 in
theorem late_spec (c : Dev nD) :
    iprop(ctx X W K ∗ owesE c (oweA c 0) ∗ aAny (F := F) c (aSet c) ∗ (bigSep (Finset.Ico 0 31) fun j => aAny (F := F) (peer c j) (aSet c)) ∗ payA c
        ∗ (bigSep (Finset.Ico 0 31) fun j => at0 (F := F) c (64 + j)) ∗ (bigSep (Finset.Ico 0 31) fun j => at0 (F := F) c (95 + j))
        ∗ (bigSep (Finset.Ico 0 31) fun j => crd (F := F) c (95 + j))
        ∗ (bigSep (Finset.Ico 0 16) fun h => at0 (F := F) c (0 + h)) ∗ (bigSep (Finset.Ico 0 16) fun h => at0 (F := F) c (32 + h))
        ∗ (bigSep (Finset.Ico 0 16) fun h => crd (F := F) c (0 + h)) ∗ (bigSep (Finset.Ico 0 16) fun h => crd (F := F) c (32 + h))
        ∗ (bigSep (Finset.Ico 0 16) fun h => at1 (F := F) c (16 + h)) ∗ (bigSep (Finset.Ico 0 16) fun h => at1 (F := F) c (48 + h)) ∗ at1 (F := F) c 126
        ∗ outSt X W c (near c 16)
        ∗ gPts X c (bSet c) fullShare.right ∗ (bigSep (Finset.Ico 0 14) fun k => arrived X c k fullShare.right) ∗ kept15 X c ∗ arrived X c 15 fullShare)
      ⊢ WP c (late X W c) (fun _ => iprop(oPts X W c ∗ anyG (F := F) c ∗ anyA (F := F) c ∗ owesE c 0
          ∗ (bigSep (Finset.Ico 0 126) fun n => semVal (gc c n) 0) ∗ semVal (gc c 126) 0)) := by
  have eTodo : (bigSep (Finset.Ico 0 31) fun j => amTodo X W c j)
      = iprop((bigSep (Finset.Ico 0 31) fun j => tok (F := F) c (64 + j) 0) ∗ (bigSep (Finset.Ico 0 31) fun j => tok (F := F) (peer c j) (95 + j) 0)
        ∗ (bigSep (Finset.Ico 0 31) fun j => aAny (F := F) (peer c j) (aSet c)) ∗ bigSep (Finset.Ico 0 31) fun j => aPts X W c (aSet c) (shareTokN fullShare.right j)) := by
    unfold amTodo; simp only [bigSep_sep']
  have eShare : (bigSep (Finset.Ico 0 31) fun j => aPts X W c (aSet (back c j)) fullShare)
      ⊢ iprop((bigSep (Finset.Ico 0 31) fun j => aPts X W c (aSet (back c j)) fullShare.left) ∗ bigSep (Finset.Ico 0 31) fun j => aPts X W c (aSet (back c j)) fullShare.right) := by
    rw [← bigSep_sep']; exact bigSep_mono fun j _ => (aPts_share X W c _ _).1
  have s1 := sendsA X W K c
  have s2 := waitsAr X W K c
  have s3 := waitsAs X W K c
  have s4 := drains X W K c
  rw [eTodo] at s1
  rw [bigSep_sep', bigSep_sep'] at s2
  rw [bigSep_sep', bigSep_sep'] at s3
  rw [bigSep_sep', bigSep_sep', bigSep_sep', bigSep_sep'] at s4
  have jg := gAll_join X c
  have jc := close X W K c
  unfold slots at jc
  rw [last16 fun h => at1 (F := F) c (0 + h), last16 fun h => at1 (F := F) c (32 + h)] at jc
  have aA := aPts_all X W c fullShare.left
  have aB := aPts_all X W c fullShare.right
  have aC := (aPts_share X W c Finset.univ fullShare).2
  unfold payA
  rw [bigSep_sep', last16 fun h => at0 (F := F) c (0 + h), last16 fun h => at0 (F := F) c (32 + h), last16 fun h => crd (F := F) c (0 + h), last16 fun h => crd (F := F) c (32 + h)]
  unfold late
  iintro ⟨#Hc, HO, Ha, Hpeer, ⟨Ht64, Ht95⟩, Hp64, Hp95, Hc95, ⟨Hq0, Hp0⟩, ⟨Hq32, Hp32⟩, ⟨Hd0, Hc0⟩, ⟨Hd32, Hc32⟩, H16, H48, H126, Hout, Hb, Hk, H15, Har⟩
  iapply (wp_seq (fillMax_spec X W c)) $$ Ha
  iintro %_ Ha
  ihave Ha := (own_cut X W c).1 $$ Ha
  icases Ha with ⟨HaL, Hat, Had⟩
  iapply (wp_seq s1) $$ [HO Ht64 Ht95 Hpeer Hat]
  · isplitr; · iexact Hc
    isplitl [HO]; · iexact HO
    isplitl [Ht64]; · iexact Ht64
    isplitl [Ht95]; · iexact Ht95
    isplitl [Hpeer] <;> iassumption
  iintro %_ ⟨HO, Hc64⟩
  ihave HO := (Entails.of_eq (congrArg (owesE (F := F) c) (oweA_end c))) $$ HO
  iapply (wp_seq s2) $$ [HO Hc95 Hp95]
  · isplitr; · iexact Hc
    isplitl [HO]; · iexact HO
    isplitl [Hc95] <;> iassumption
  iintro %_ ⟨HO, H95, Hoth⟩
  ihave Hoth := eShare $$ Hoth
  icases Hoth with ⟨HoL, HoR⟩
  ihave HaL := (Entails.of_eq aA) $$ [HaL HoL]
  · isplitl [HaL] <;> iassumption
  iapply (wp_seq (quant_spec X W c fullShare.left)) $$ [HaL Hout]
  · isplitl [HaL] <;> iassumption
  iintro %_ ⟨HaL, Hout⟩
  iapply (wp_seq s4) $$ [HO Hc0 Hp0 Hc32 Hp32]
  · isplitr; · iexact Hc
    isplitl [HO]; · iexact HO
    isplitl [Hc0 Hp0]
    · isplitl [Hc0] <;> iassumption
    isplitl [Hc32] <;> iassumption
  iintro %_ ⟨HO, Hx0, Hx32⟩
  ihave Hx0 := (Entails.of_eq (bigSep_sep' (Finset.Ico 0 15) (fun h => at1 (F := F) c (0 + h)) fun h => gPts X c (rSet c h) (shR h))) $$ Hx0
  icases Hx0 with ⟨H0, Hg0⟩
  ihave Hx32 := (Entails.of_eq (bigSep_sep' (Finset.Ico 0 15) (fun h => at1 (F := F) c (32 + h)) fun h => gPts X c (lSet c h) (shL h))) $$ Hx32
  icases Hx32 with ⟨H32, Hg32⟩
  iapply (wp_seq (waitRHs_spec X W K c 0 (above_zero _))) $$ [HO Hd0 Hq0]
  · isplitr; · iexact Hc
    isplitl [Hd0]; · iexact Hd0
    isplitl [HO] <;> iassumption
  iintro %_ ⟨HO, Hq0, Hgr⟩
  iapply (wp_seq (waitLHs_spec X W K c 0 (above_zero _))) $$ [HO Hd32 Hq32]
  · isplitr; · iexact Hc
    isplitl [Hd32]; · iexact Hd32
    isplitl [HO] <;> iassumption
  iintro %_ ⟨HO, Hq32, Hgl⟩
  iapply (wp_last_upd s3) $$ [HO Hc64 Hp64]
  · isplitr; · iexact Hc
    isplitl [HO]; · iexact HO
    isplitl [Hc64] <;> iassumption
  iintro %_ ⟨HO, H64, Hat⟩
  imod jc $$ [H0 Hq0 H16 H32 Hq32 H48 H64 H95 H126] with ⟨HS, HS'⟩
  · isplitr; · iexact Hc
    isplitr [H126]
    · isplitl [H0 Hq0]
      · isplitl [Hq0] <;> iassumption
      isplitl [H16]; · iexact H16
      isplitl [H32 Hq32]
      · isplitl [Hq32] <;> iassumption
      isplitl [H48]; · iexact H48
      isplitl [H64] <;> iassumption
    iexact H126
  imodintro
  isplitl [Hout]; · iexact Hout
  isplitl [Hb Hk H15 Har Hg0 Hg32 Hgr Hgl]
  · iexists (gAll X : Buf (Elt F) (gLoc c))
    iapply jg
    isplitl [Hb]; · iexact Hb
    isplitl [Hk]; · iexact Hk
    isplitl [H15]; · iexact H15
    isplitl [Har]; · iexact Har
    isplitl [Hg0 Hg32]
    · iapply (Entails.of_eq (bigSep_sep' (Finset.Ico 0 15) (fun h => gPts X c (rSet c h) (shR h)) fun h => gPts X c (lSet c h) (shL h)).symm)
      isplitl [Hg0] <;> iassumption
    isplitl [Hgr] <;> iassumption
  isplitl [HaL HoR Hat Had]
  · iexists (aAll X W : Buf (Elt F) (aLoc c))
    iapply (show iprop(aPts X W c Finset.univ fullShare.left ∗ aPts X W c Finset.univ fullShare.right) ⊢ (aLoc c ↦{fullShare} (aAll X W : Buf (Elt F) (aLoc c)) : sProp 𝕄) from aC)
    isplitl [HaL]; · iexact HaL
    iapply (Entails.of_eq aB)
    isplitr [HoR]
    · iapply (own_drop X W c)
      isplitl [Hat] <;> iassumption
    iexact HoR
  isplitl [HO]; · iexact HO
  isplitl [HS] <;> iassumption

set_option maxHeartbeats 2000000 in
/-- The kernel function on device `c`. -/
theorem looped_spec (c : Dev nD) :
    iprop(ctx X W K ∗ start X W c)
      ⊢ WP c (looped xM wM oM gM hgM aM cc0_scratch2 cc0_scratch3 cc0_scratch4 cc0_scratch5 cc0_scratch6 cc0_scratch7) (fun _ => finish X W c) := by
  have a1 : Above 1 (oweA c 0 + oweH c 0) := above_add (above_oweA c 0 (by omega)) (above_oweH c (by omega))
  have a99 : Above 99 (oweA c 0) := above_oweA c 0 (by omega)
  have h0 := hop0_spec X W K c (oweA c 0) a99
  have h1 := hops_spec X W K c (oweA c 0) a99
  have h2 := hop15_spec X W K c (oweA c 0) a99
  have sg := signals X W K c (oweA c 0 + oweH c 0)
  have bw := barWait X W K c (oweA c 0 + oweH c 0) a1
  have lt := late_spec X W K c
  have td := todo_intro (F := F) c
  have de := done_elim (F := F) c
  unfold start finish held crds slots payB looped owe₀
  iintro ⟨#Hc, Hx, Hw, ⟨%fo, Ho⟩, ⟨%fg, Hg⟩, ⟨%fa, Ha⟩, HO, ⟨HtB, HtH, HtA, ⟨Hp0, Hp16, Hp32, Hp48, Hp64, Hp95⟩, Hp126⟩, Hc126, HcH, HcA⟩
  ihave Hg := (room c fg) $$ Hg
  icases Hg with ⟨Hg, HlR, HlL⟩
  ihave Ha := (roomA c fa) $$ Ha
  icases Ha with ⟨Ha, Hap⟩
  iapply (wp_seq (device_spec c)) $$ []
  · iempintro
  iintro %d %hd
  subst hd
  iapply (wp_seq (loadW_spec W c)) $$ Hw
  iintro %w ⟨%hw, Hw⟩
  subst hw
  iapply (wp_seq sg) $$ [HO HtB HlR HlL Hap]
  · isplitr; · iexact Hc
    isplitl [HO]; · iexact HO
    isplitl [HtB]; · iexact HtB
    iapply (bar_hand c)
    isplitl [Hap]; · iexact Hap
    isplitl [HlR] <;> iassumption
  iintro %_ HO
  iapply (wp_seq bw) $$ [HO Hc126 Hp126]
  · isplitr; · iexact Hc
    isplitl [Hc126]; · iexact Hc126
    isplitl [HO] <;> iassumption
  iintro %_ ⟨HO, H126, Hbar⟩
  ihave Hbar := (bar_take c) $$ Hbar
  icases Hbar with ⟨Hpeer, HlR, HlL⟩
  ihave Htd := td $$ [HtH HcH Hp16 Hp48 HlR HlL]
  · isplitl [HtH]; · iexact HtH
    isplitl [HcH]; · iexact HcH
    isplitl [Hp16]; · iexact Hp16
    isplitl [Hp48]; · iexact Hp48
    isplitl [HlR] <;> iassumption
  icases Htd with ⟨Htd0, Htd, Htd15⟩
  iapply (wp_seq (fillOwn_spec X c)) $$ [Hx Hg]
  · isplitl [Hx] <;> iassumption
  iintro %_ ⟨Hx, Hg⟩
  ihave Hout := (out_intro X W c fo) $$ Ho
  iapply (wp_seq h0) $$ [HO Htd0 Hg Hout]
  · isplitr; · iexact Hc
    isplitl [HO]; · iexact HO
    isplitl [Htd0]; · iexact Htd0
    isplitl [Hg] <;> iassumption
  iintro %r0 ⟨%e0, HO, Hd0, Hb, Harr, Hout⟩
  subst e0
  iapply (wp_seq h1) $$ [HO Htd Harr Hout]
  · isplitr; · iexact Hc
    isplitl [HO]; · iexact HO
    isplitl [Htd]; · iexact Htd
    isplitl [Harr] <;> iassumption
  iintro %r1 ⟨%e1, HO, Hd, Hk, Harr, Hout⟩
  subst e1
  iapply (wp_seq h2) $$ [HO Htd15 Harr Hout]
  · isplitr; · iexact Hc
    isplitl [HO]; · iexact HO
    isplitl [Htd15]; · iexact Htd15
    isplitl [Harr] <;> iassumption
  iintro %r2 ⟨%e2, HO, Hd15, Hk15, Harr, Hout⟩
  subst e2
  ihave Hdn := de $$ [Hd0 Hd Hd15]
  · isplitl [Hd0]; · iexact Hd0
    isplitl [Hd] <;> iassumption
  icases Hdn with ⟨Hc0, Hc32, H16, H48⟩
  iapply (wp_last lt) $$ [HO Ha Hpeer HtA Hp64 Hp95 HcA Hp0 Hp32 Hc0 Hc32 H16 H48 H126 Hout Hb Hk Hk15 Harr]
  · isplitr; · iexact Hc
    isplitl [HO]; · iexact HO
    isplitl [Ha]; · iexact Ha
    isplitl [Hpeer]; · iexact Hpeer
    isplitl [HtA]; · iexact HtA
    isplitl [Hp64]; · iexact Hp64
    isplitl [Hp95]; · iexact Hp95
    isplitl [HcA]; · iexact HcA
    isplitl [Hp0]; · iexact Hp0
    isplitl [Hp32]; · iexact Hp32
    isplitl [Hc0]; · iexact Hc0
    isplitl [Hc32]; · iexact Hc32
    isplitl [H16]; · iexact H16
    isplitl [H48]; · iexact H48
    isplitl [H126]; · iexact H126
    isplitl [Hout]; · iexact Hout
    isplitl [Hb]; · iexact Hb
    isplitl [Hk]; · iexact Hk
    isplitl [Hk15] <;> iassumption
  iintro %_ ⟨Hout, Hg, Ha, HO, HS⟩
  isplitl [Hx]; · iexact Hx
  isplitl [Hw]; · iexact Hw
  isplitl [Hout]; · iexact Hout
  isplitl [Hg]; · iexact Hg
  isplitl [Ha]; · iexact Ha
  isplitl [HO] <;> iassumption

end

end Cert.KernelIdeal.Own

end
-- ==== Proof.IdealDeal.lean ====
module

public import proofs.«01_k».proof.Proof.IdealFunction
public import proofs.«01_k».proof.Proof.Gen.KernelIdeal.Launch
public import Idealize.ShloMosaic.Lib.Pipeline.Kit
public import Idealize.ShloMosaic.Lib.Ring

/-! What the launch deals the devices: the state of every semaphore's protocol, the tokens of the duties, dealt around
    the ring and across the mesh to the devices that pay them, and the promises of all that the devices owe. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## What is owed to each semaphore -/

/-- Walking the ring, and going to the `j`-th peer, are one-to-one. -/
def ringE : Dev nD ≃ Dev nD := ⟨right, left, left_right, right_left⟩
def peerE (j : ℕ) (hj : j < 31) : Dev nD ≃ Dev nD := ⟨fun c => peer c j, fun c => back c j, fun c => back_peer c j hj, fun c => peer_back c j hj⟩

theorem tallies_at (e : Dev nD ≃ Dev nD) (c : Dev nD) {n n' : ℕ} (hn : n ≤ 126) (hn' : n' ≤ 126) (k : ℕ) :
    ∑ d, (tallyAt (gc (e d) n') () k : Tl) (gc c n) () = if n' = n then k else 0 := by
  rw [Equiv.sum_comp e fun d => (tallyAt (gc d n') () k : Tl) (gc c n) ()]
  by_cases h : n' = n
  · subst h
    rw [if_pos rfl, Finset.sum_eq_single c]
    · rw [tallyAt_apply, if_pos ⟨rfl, rfl⟩]
    · intro d _ hd
      rw [tallyAt_apply, if_neg fun h' => hd (gc_inj hn hn h'.1).1.symm]
    · intro h'; exact absurd (Finset.mem_univ c) h'
  · rw [if_neg h]
    refine Finset.sum_eq_zero fun d _ => ?_
    rw [tallyAt_apply, if_neg fun h' => h (gc_inj hn hn' h'.1).2.symm]

theorem sum_at (s : Finset ℕ) (f : ℕ → Tl) (g : GSem nD τ sig) : (∑ j ∈ s, f j) g () = ∑ j ∈ s, f j g () := by
  rw [Finset.sum_apply, Finsupp.finset_sum_apply]

theorem owed_total (c : Dev nD) {n : ℕ} (hn : n ≤ 126) :
    ∑ d, owe₀ d (gc c n) ()
      = (∑ j ∈ Finset.Ico 0 31, if 95 + j = n then amt (95 + j) else 0)
        + (∑ h ∈ Finset.Ico 0 16, ((if 16 + h = n then amt (16 + h) else 0) + if 48 + h = n then amt (48 + h) else 0))
        + ∑ j ∈ Finset.Ico 0 31, if 126 = n then 1 else 0 := by
  have e : ∀ d, owe₀ d (gc c n) () = (∑ j ∈ Finset.Ico 0 31, (tallyAt (gc (peer d j) (95 + j)) () (amt (95 + j)) : Tl) (gc c n) ())
      + (∑ h ∈ Finset.Ico 0 16, ((tallyAt (gc (right d) (16 + h)) () (amt (16 + h)) : Tl) (gc c n) ()
          + (tallyAt (gc (left d) (48 + h)) () (amt (48 + h)) : Tl) (gc c n) ()))
      + ∑ j ∈ Finset.Ico 0 31, (tallyAt (gc (peer d j) 126) () 1 : Tl) (gc c n) () := fun d => by
    unfold owe₀ oweA oweH oweB
    rw [Pi.add_apply, Finsupp.add_apply, Pi.add_apply, Finsupp.add_apply, sum_at, sum_at, sum_at]
    rfl
  rw [Finset.sum_congr rfl fun d _ => e d, Finset.sum_add_distrib, Finset.sum_add_distrib, Finset.sum_comm, Finset.sum_comm (s := Finset.univ) (t := Finset.Ico 0 16),
    Finset.sum_comm (s := Finset.univ) (t := Finset.Ico 0 31)]
  refine congrArg₂ _ (congrArg₂ _ ?_ ?_) ?_
  · refine Finset.sum_congr rfl fun j hj => ?_
    rw [Finset.mem_Ico] at hj
    exact tallies_at (peerE j hj.2) c hn (by omega) _
  · refine Finset.sum_congr rfl fun h hh => ?_
    rw [Finset.mem_Ico] at hh
    rw [Finset.sum_add_distrib]
    exact congrArg₂ _ (tallies_at ringE c hn (by omega) _) (tallies_at ringE.symm c hn (by omega) _)
  · refine Finset.sum_congr rfl fun j hj => ?_
    rw [Finset.mem_Ico] at hj
    exact tallies_at (peerE j hj.2) c hn (le_refl _) _

theorem owed_bar (c : Dev nD) : ∑ d, owe₀ d (gc c 126) () = 31 := by
  rw [owed_total c (le_refl _), Finset.sum_eq_zero fun j hj => if_neg (by rw [Finset.mem_Ico] at hj; omega),
    Finset.sum_eq_zero fun h hh => by rw [Finset.mem_Ico] at hh; rw [if_neg (by omega), if_neg (by omega), Nat.add_zero]]
  rfl
theorem owed_right (c : Dev nD) {k : ℕ} (hk : k < 16) : ∑ d, owe₀ d (gc c (16 + k)) () = amt (16 + k) := by
  rw [owed_total c (by omega), Finset.sum_eq_zero fun j hj => if_neg (by rw [Finset.mem_Ico] at hj; omega),
    Finset.sum_eq_single k (fun h hh hne => by rw [Finset.mem_Ico] at hh; rw [if_neg (by omega), if_neg (by omega), Nat.add_zero])
      (fun hh => absurd (Finset.mem_Ico.mpr ⟨Nat.zero_le _, hk⟩) hh),
    Finset.sum_eq_zero fun j hj => if_neg (by omega), if_pos rfl, if_neg (by omega)]
  omega
theorem owed_left (c : Dev nD) {k : ℕ} (hk : k < 16) : ∑ d, owe₀ d (gc c (48 + k)) () = amt (48 + k) := by
  rw [owed_total c (by omega), Finset.sum_eq_zero fun j hj => if_neg (by rw [Finset.mem_Ico] at hj; omega),
    Finset.sum_eq_single k (fun h hh hne => by rw [Finset.mem_Ico] at hh; rw [if_neg (by omega), if_neg (by omega), Nat.add_zero])
      (fun hh => absurd (Finset.mem_Ico.mpr ⟨Nat.zero_le _, hk⟩) hh),
    Finset.sum_eq_zero fun j hj => if_neg (by omega), if_pos rfl, if_neg (by omega)]
  omega
theorem owed_max (c : Dev nD) {k : ℕ} (hk : k < 31) : ∑ d, owe₀ d (gc c (95 + k)) () = amt (95 + k) := by
  rw [owed_total c (by omega), Finset.sum_eq_single k (fun h hh hne => by rw [Finset.mem_Ico] at hh; rw [if_neg (by omega)])
      (fun hh => absurd (Finset.mem_Ico.mpr ⟨Nat.zero_le _, hk⟩) hh),
    Finset.sum_eq_zero fun h hh => by rw [Finset.mem_Ico] at hh; rw [if_neg (by omega), if_neg (by omega), Nat.add_zero],
    Finset.sum_eq_zero fun j hj => if_neg (by omega), if_pos rfl]
  omega

theorem launch_at (c : Dev nD) {n k : ℕ} (h : ∑ d, owe₀ d (gc c n) () = k) :
    (tallyOn (gc c n) (launchCredit (Pipeline.owing owe₀) 0 (gc c n)) : Tl) = tallyAt (gc c n) () k := by
  unfold tallyAt; refine congrArg _ (Finsupp.ext fun u => ?_); cases u
  rw [Pipeline.launchCredit_owing, Finsupp.single_eq_same, h]

theorem cs_injOn : Set.InjOn cs (Finset.Ico 0 127 : Finset ℕ) := fun a ha b hb h => by
  rw [Finset.mem_coe, Finset.mem_Ico] at ha hb
  have := congrArg slot h
  rwa [slot_cs (by omega), slot_cs (by omega)] at this

/-- The promises of what a device is owed. -/
theorem creds (c : Dev nD) : (Pipeline.launchCred owe₀ c : sProp 𝕄) ⊢ crds c := by
  have e : bigSep ((Finset.Ico 0 127).image cs) (fun sm : SemLoc sig =>
        (cred (tallyOn ((c.tc : Thread nD τ), sm) (launchCredit (Pipeline.owing owe₀) 0 ((c.tc : Thread nD τ), sm))) : sProp 𝕄))
      = iprop(slots (fun n => cred (tallyOn (gc c n) (launchCredit (Pipeline.owing owe₀) 0 (gc c n))))
          ∗ cred (tallyOn (gc c 126) (launchCredit (Pipeline.owing owe₀) 0 (gc c 126)))) := by
    rw [bigSep_image_of_injOn cs_injOn, show 127 = 126 + 1 from rfl, bigSep_cat 126 1, slots_eq]
    refine congrArg _ ?_
    rw [show Finset.Ico 0 1 = {0} from rfl, bigSep_singleton]
  refine BI.Entails.trans (bigSep_subset (Finset.subset_univ ((Finset.Ico 0 127).image cs))) ?_
  rw [e, launch_at c (owed_bar c)]
  unfold slots crds
  rw [bigSep_congr (s := Finset.Ico 0 16) (Ψ := fun h => crd (F := F) c (16 + h)) fun h hh => congrArg cred (launch_at c (owed_right c (Finset.mem_Ico.mp hh).2)),
    bigSep_congr (s := Finset.Ico 0 16) (Ψ := fun h => crd (F := F) c (48 + h)) fun h hh => congrArg cred (launch_at c (owed_left c (Finset.mem_Ico.mp hh).2)),
    bigSep_congr (s := Finset.Ico 0 31) (Ψ := fun h => crd (F := F) c (95 + h)) fun h hh => congrArg cred (launch_at c (owed_max c (Finset.mem_Ico.mp hh).2)),
    bigSep_sep']
  show (_ : sProp 𝕄) ⊢ _
  iintro ⟨⟨-, H1, -, H2, -, H3⟩, H0⟩
  isplitl [H0]; · iexact H0
  isplitl [H1 H2]
  · isplitl [H1] <;> iassumption
  iexact H3

/-! ## The tokens -/

theorem kcell_injective : Function.Injective fun x : Dev nD × Fin 127 => gc x.1 x.2.val := by
  rintro ⟨c, k⟩ ⟨c', k'⟩ h
  obtain ⟨h1, h2⟩ := gc_inj (Nat.lt_succ_iff.mp k.isLt) (Nat.lt_succ_iff.mp k'.isLt) h
  exact Prod.ext h1 (Fin.ext h2)
/-- Every semaphore of every device. -/
def meshCells : Finset (GSem nD τ sig) := Finset.univ.map ⟨_, kcell_injective⟩

/-- The duties of a device's semaphores: one for each slot of a copy, one for each peer's signal. -/
def tokOf (x : Dev nD × (Fin 126 ⊕ Fin 31)) : GSem nD τ sig × ℕ × Fin 31 := match x.2 with
  | .inl n => (gc x.1 n.val, 0, 0)
  | .inr j => (gc x.1 126, 0, f31 j.val)
theorem f31_val (j : Fin 31) : f31 j.val = j := Fin.ext (Nat.mod_eq_of_lt j.isLt)
theorem tokOf_injective : Function.Injective tokOf := by
  rintro ⟨c, k⟩ ⟨c', k'⟩ h
  rcases k with n | j <;> rcases k' with n' | j'
  · obtain ⟨h1, h2⟩ := gc_inj (by have := n.isLt; omega) (by have := n'.isLt; omega) (congrArg Prod.fst h)
    exact Prod.ext h1 (congrArg Sum.inl (Fin.ext h2))
  · have h2 := (gc_inj (by have := n.isLt; omega) (le_refl 126) (congrArg Prod.fst h)).2
    have := n.isLt; omega
  · have h2 := (gc_inj (le_refl 126) (by have := n'.isLt; omega) (congrArg Prod.fst h)).2
    have := n'.isLt; omega
  · have h1 := (gc_inj (le_refl 126) (le_refl 126) (congrArg Prod.fst h)).1
    have h2 : f31 j.val = f31 j'.val := congrArg (fun x : GSem nD τ sig × ℕ × Fin 31 => x.2.2) h
    rw [f31_val, f31_val] at h2
    exact Prod.ext h1 (congrArg Sum.inr h2)
def meshToks : Finset (GSem nD τ sig × ℕ × Fin 31) := Finset.univ.map ⟨tokOf, tokOf_injective⟩

/-- The tokens of the duties of device `c`'s own semaphores. -/
def toks (c : Dev nD) : sProp 𝕄 := iprop(slots (fun n => tok (F := F) c n 0) ∗ bigSep (Finset.Ico 0 31) fun j => tok c 126 (f31 j))

theorem toks_eq (c : Dev nD) : bigSep Finset.univ (fun k : Fin 126 ⊕ Fin 31 => (dutyTok ER (tokOf (c, k)).1 (tokOf (c, k)).2.1 (tokOf (c, k)).2.2 : sProp 𝕄))
    = toks c := by
  unfold toks
  rw [bigSep_univ_sum, ← slots_eq, ← bigSep_fin 126, ← bigSep_fin 31]
  rfl

/-- What is said of a device and a number may be said of the device's peer of that number. -/
theorem across (T : Dev nD → ℕ → sProp 𝕄) : bigSep Finset.univ (fun c : Dev nD => bigSep (Finset.Ico 0 31) fun j => T c j)
    = bigSep Finset.univ fun c : Dev nD => bigSep (Finset.Ico 0 31) fun j => T (peer c j) j := by
  simp only [← bigSep_fin 31]
  rw [bigSep_univ_comm, bigSep_univ_comm (fun (c : Dev nD) (j : Fin 31) => T (peer c j.val) j.val)]
  exact bigSep_congr fun j _ => bigSep_univ_equiv (peerE j.val j.isLt) fun c => T c j.val

/-- The tokens go to the devices that pay the duties. -/
theorem toks_around : (bigSep Finset.univ fun c : Dev nD => toks (F := F) c) ⊢ bigSep Finset.univ fun c : Dev nD => iprop(payB (F := F) c ∗ payH c ∗ payA c) := by
  have eB := across fun c j => tok (F := F) c 126 (f31 j)
  have eA := across fun c j => tok (F := F) c (95 + j) 0
  have eR := bigSep_univ_equiv ringE fun c : Dev nD => bigSep (Finset.Ico 0 16) fun h => tok (F := F) c (16 + h) 0
  have eL := bigSep_univ_equiv ringE.symm fun c : Dev nD => bigSep (Finset.Ico 0 16) fun h => tok (F := F) c (48 + h) 0
  unfold toks slots payB payH payA
  simp only [bigSep_sep']
  rw [eB, eA, eR, eL]
  show (_ : sProp 𝕄) ⊢ _
  iintro ⟨⟨H0, H1, H2, H3, H4, H5⟩, HB⟩
  isplitl [HB]; · iexact HB
  isplitl [H0 H1 H2 H3]
  · isplitl [H0]; · iexact H0
    isplitl [H1]; · iexact H1
    isplitl [H2]; · iexact H2
    iexact H3
  isplitl [H4]; · iexact H4
  iexact H5

/-! ## The protocols -/

section
variable (X : Dev nD → Vec F S128x4096 .bf16) (W : Dev nD → Vec F S4096x64 .bf16)

/-- The semaphores of the kernel's own copies. -/
def osem (n : Fin 126) : SemLoc sig := cs n.val

theorem scoped_dsem : ∀ k : Fin 126, (SemLoc.dma (dsem (3 + k.val)) : SemLoc sig).isScoped .tc = true := by decide +kernel
theorem slot_stage : ∀ (w : Fin cfg0.W) (s : Fin (cfg0.spec w).nbuf), slot (.dma ((cfg0.spec w).sem s)) = 200 := by decide +kernel

theorem osem_facts : Pipeline.OwnSemFacts cfg0.spec osem where
  isScoped k := by unfold osem; rw [cs_lt k.isLt]; exact scoped_dsem k
  inj a b h := by
    have := congrArg slot h
    unfold osem at this
    rw [slot_cs (by have := a.isLt; omega), slot_cs (by have := b.isLt; omega)] at this
    exact Fin.ext this
  disj k w s h := by
    have e := congrArg slot h
    unfold osem at e
    rw [slot_cs (by have := k.isLt; omega), slot_stage w s] at e
    have := k.isLt; omega

/-- What the launch deals device `c`. -/
def G (c : Dev nD) : sProp 𝕄 :=
  iprop((bigSep (Finset.Ico 0 127) fun n => roundState ER (Rd X W) (gc c n) 0)
    ∗ (bigSep (Finset.Ico 0 127) fun n => iprop(at0 (F := F) c n ∗ reached ER (gc c n) 0)) ∗ toks c)

/-- Every semaphore follows its protocol. -/
def follows (K : Dev nD × Fin 127 → ℕ) : sProp 𝕄 :=
  iprop(∀ x : Dev nD × Fin 127, cellInv ER (Rd X W) (K x) (gc x.1 x.2.val) ∗ reached ER (gc x.1 x.2.val) 0)
instance follows_persistent (K : Dev nD × Fin 127 → ℕ) : BI.Persistent (follows X W K) := by unfold follows; infer_instance

/-- What device `c` starts from, besides its promises. -/
def G' (c : Dev nD) : sProp 𝕄 := iprop(∃ K, follows X W K ∗ held c)

theorem fund_mesh : BI.own (ER (initOf meshCells meshToks)) ⊢ (|==> bigSep Finset.univ (G X W) : sProp 𝕄) := by
  have hX (Φ : GSem nD τ sig → sProp 𝕄) : bigSep meshCells Φ = bigSep Finset.univ fun c : Dev nD => bigSep (Finset.Ico 0 127) fun n => Φ (gc c n) := by
    unfold meshCells; rw [bigSep_map, bigSep_univ_prod]
    exact bigSep_congr fun c _ => bigSep_fin 127 fun n => Φ (gc c n)
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => toks_eq c
  iintro HX
  imod (Rounds.fund ER (Rd X W) meshCells meshToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems_eq (c : Dev nD) : (Pipeline.ownSems0 (Ix := Unit) (Name := ℕ) (U := UU) (Lvl := ℕ) (Val := Elt F) (τ := τ) osem c : sProp 𝕄)
    = bigSep (Finset.Ico 0 126) fun n => semVal (gc c n) 0 := by
  unfold Pipeline.ownSems0 osem
  exact bigSep_fin 126 fun n => semVal (gc c n) 0
theorem unscopedSems_eq (c : Dev nD) : (unscopedSems0 c : sProp 𝕄) = semVal (gc c 126) 0 := by
  unfold unscopedSems0; rw [bigSep_eq_bigSepL_of_eq [SemLoc.reg barS] (by decide +kernel) (by decide)]; rfl

theorem sems_eq (c : Dev nD) :
    iprop(Pipeline.ownSems0 (Ix := Unit) (Name := ℕ) (U := UU) (Lvl := ℕ) (Val := Elt F) (τ := τ) osem c ∗ unscopedSems0 c)
      = (bigSep (Finset.Ico 0 127) fun n => semVal (gc c n) 0 : sProp 𝕄) := by
  rw [ownSems_eq, unscopedSems_eq, show 127 = 126 + 1 from rfl, bigSep_cat 126 1, show Finset.Ico 0 1 = {0} from rfl, bigSep_singleton]

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep (Finset.Ico 0 127) fun n => iprop(∃ κ : ℕ, cellInv ER (Rd X W) κ (gc c n)))
          ∗ (bigSep (Finset.Ico 0 127) fun n => iprop(at0 (F := F) c n ∗ reached ER (gc c n) 0)) ∗ toks c) := by
  unfold G
  iintro ⟨Hos, Hus, Hst, Hat, Htok⟩
  ihave Hv := (Entails.of_eq (sems_eq (F := F) c)) $$ [Hos Hus]
  · isplitl [Hos] <;> iassumption
  imod (show iprop((bigSep (Finset.Ico 0 127) fun n => semVal (gc c n) 0) ∗ bigSep (Finset.Ico 0 127) fun n => roundState ER (Rd X W) (gc c n) 0)
      ⊢ (|={Set.univ}=> bigSep (Finset.Ico 0 127) fun n => iprop(∃ κ : ℕ, cellInv ER (Rd X W) κ (gc c n)) : sProp 𝕄) from by
        rw [← bigSep_sep']
        exact (bigSep_mono fun k _ => (Rounds.body_intro ER (Rd X W) (gc c k)).trans inv_alloc).trans (bigSep_fupd _ _)) $$ [Hv Hst] with Hinv
  · isplitl [Hv] <;> iassumption
  imodintro
  isplitl [Hinv]; · iexact Hinv
  isplitl [Hat]; · iexact Hat
  iexact Htok

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem held_intro (K : Dev nD × Fin 127 → ℕ) (c : Dev nD) :
    iprop(follows X W K ∗ ((bigSep (Finset.Ico 0 127) fun n => at0 (F := F) c n) ∗ (payB (F := F) c ∗ payH c ∗ payA c))) ⊢ G' X W c := by
  have e : (bigSep (Finset.Ico 0 127) fun n => at0 (F := F) c n) = iprop(slots (fun n => at0 (F := F) c n) ∗ at0 c 126) := by
    rw [show 127 = 126 + 1 from rfl, bigSep_cat 126 1, slots_eq, show Finset.Ico 0 1 = {0} from rfl, bigSep_singleton]
  rw [e]
  unfold G' held
  show (_ : sProp 𝕄) ⊢ _
  iintro ⟨HF, ⟨Hs, Hb⟩, HB, HH, HA⟩
  iexists K
  isplitl [HF]; · iexact HF
  isplitl [HB]; · iexact HB
  isplitl [HH]; · iexact HH
  isplitl [HA]; · iexact HA
  isplitl [Hs] <;> iassumption

theorem follows_intro (K : Dev nD × Fin 127 → ℕ) :
    iprop((bigSep Finset.univ fun x : Dev nD × Fin 127 => cellInv ER (Rd X W) (K x) (gc x.1 x.2.val))
      ∗ bigSep Finset.univ fun x : Dev nD × Fin 127 => reached ER (gc x.1 x.2.val) 0) ⊢ follows X W K := by
  have h1 : ∀ x : Dev nD × Fin 127, (bigSep Finset.univ fun x : Dev nD × Fin 127 => (cellInv ER (Rd X W) (K x) (gc x.1 x.2.val) : sProp 𝕄))
      ⊢ cellInv ER (Rd X W) (K x) (gc x.1 x.2.val) := fun x => bigSep_elim (Finset.mem_univ x)
  have h2 : ∀ x : Dev nD × Fin 127, (bigSep Finset.univ fun x : Dev nD × Fin 127 => (reached ER (gc x.1 x.2.val) 0 : sProp 𝕄))
      ⊢ reached ER (gc x.1 x.2.val) 0 := fun x => bigSep_elim (Finset.mem_univ x)
  unfold follows
  iintro ⟨#HI, #HR⟩
  iintro %x
  isplitr
  · iapply (h1 x); iexact HI
  · iapply (h2 x); iexact HR

theorem regroup :
    (bigSep Finset.univ fun c : Dev nD => iprop((bigSep (Finset.Ico 0 127) fun n => iprop(∃ κ : ℕ, cellInv ER (Rd X W) κ (gc c n)))
          ∗ (bigSep (Finset.Ico 0 127) fun n => iprop(at0 (F := F) c n ∗ reached ER (gc c n) 0)) ∗ toks c) : sProp 𝕄)
      ⊢ bigSep Finset.univ (G' X W) := by
  have eI : (bigSep Finset.univ fun c : Dev nD => (bigSep (Finset.Ico 0 127) fun n => iprop(∃ κ : ℕ, cellInv ER (Rd X W) κ (gc c n))))
      = bigSep Finset.univ fun x : Dev nD × Fin 127 => (iprop(∃ κ : ℕ, cellInv ER (Rd X W) κ (gc x.1 x.2.val)) : sProp 𝕄) := by
    rw [bigSep_univ_prod]
    exact bigSep_congr fun c _ => (bigSep_fin 127 fun n => iprop(∃ κ : ℕ, cellInv ER (Rd X W) κ (gc c n))).symm
  have eR : (bigSep Finset.univ fun c : Dev nD => (bigSep (Finset.Ico 0 127) fun n => (reached ER (gc c n) 0 : sProp 𝕄)))
      = bigSep Finset.univ fun x : Dev nD × Fin 127 => (reached ER (gc x.1 x.2.val) 0 : sProp 𝕄) := by
    rw [bigSep_univ_prod]
    exact bigSep_congr fun c _ => (bigSep_fin 127 fun n => (reached ER (gc c n) 0 : sProp 𝕄)).symm
  have eJ := fun A B : Dev nD → sProp 𝕄 => (bigSep_sep' Finset.univ A B).symm
  simp only [bigSep_sep']
  rw [eI, eR]
  show (_ : sProp 𝕄) ⊢ _
  iintro ⟨HI, ⟨Hat, #HR⟩, Htok⟩
  ihave HK := (BI.bigSep_exists_pi Finset.univ (fun (x : Dev nD × Fin 127) (κ : ℕ) => (cellInv ER (Rd X W) κ (gc x.1 x.2.val) : sProp 𝕄))) $$ HI
  icases HK with ⟨%K, #HI⟩
  ihave Htk := (toks_around (F := F)) $$ Htok
  iapply (each_with (R := follows X W K) fun c _ => held_intro X W K c)
  isplitr
  · iapply (follows_intro X W K); isplitl; · iexact HI
    iexact HR
  · iapply (Entails.of_eq (eJ (fun c => bigSep (Finset.Ico 0 127) fun n => at0 (F := F) c n) fun c => iprop(payB (F := F) c ∗ payH c ∗ payA c)))
    isplitl [Hat]; · iexact Hat
    iexact Htk

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end

end Cert.KernelIdeal.Own

end
-- ==== Proof.IdealRun.lean ====
module

public import proofs.«01_k».proof.Proof.IdealDeal
public import Idealize.ShloMosaic.Lib.Quiescent
public import Idealize.ShloMosaic.Lib.Pipeline.CollectiveSegs
public import Idealize.ShloMosaic.Lib.Ring

/-! The run of the whole program on the mesh: it ends, and every device's arrays then hold what is said here. -/

@[expose] public section

set_option maxRecDepth 20000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

section
variable (m : (ℓ : Loc nD τ sig) → Buf (Elt F) ℓ) (ρ : Dev nD → PrngReg)

/-! ## What the windows hold -/

/-- Device `c`'s rows of the first argument and columns of the second, as the kernel is given them. -/
def xIn (c : Dev nD) : Vec F S128x4096 .bf16 := ((cfg0.win (0 : Fin 3)).blk t0_0).view.read (Elt F) (m ((c : Thread nD τ).loc main_arg0))
def wIn (c : Dev nD) : Vec F S4096x64 .bf16 := ((cfg0.win (1 : Fin 3)).blk t0_0).view.read (Elt F) (m ((c : Thread nD τ).loc main_arg1))

def Φ₀ (c : Dev nD) : sProp 𝕄 :=
  iprop((∃ K, ctx (xIn m) (wIn m) K ∗ held (F := F) c) ∗ crds (F := F) c ∗ anyG (F := F) c ∗ anyA (F := F) c)
def Φ₁ (c : Dev nD) : sProp 𝕄 :=
  iprop(anyG (F := F) c ∗ anyA (F := F) c ∗ (bigSep (Finset.Ico 0 126) fun n => semVal (gc c n) 0) ∗ semVal (gc c 126) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outAll (xIn m) (wIn m) c
  Φ t := match t with
    | ⟨0, _⟩ => Φ₀ m c
    | ⟨_ + 1, _⟩ => Φ₁ c
  q _ := fullShare
  owed t := match t with
    | ⟨0, _⟩ => owe₀ c
    | ⟨_ + 1, _⟩ => 0

/-- A whole buffer with contents. -/
abbrev stgd (c : Dev nD) (b : Ref sig .tc) (f : Buf (Elt F) ((c : Thread nD τ).loc b)) : sProp 𝕄 :=
  iprop(∃ g : Buf (Elt F) ((c : Thread nD τ).loc b), ⌜g = f⌝ ∗ ((c : Thread nD τ).loc b ↦{fullShare} g))

theorem owns0 (c : Dev nD) (X : Vec F S128x4096 .bf16) : (owns (c : Thread nD τ) (stage0_0 0) fullShare X : sProp 𝕄) = stgd c cc0_stg0_0 X := by
  rw [show stage0_0 0 = Memref.whole cc0_stg0_0 from rfl]
  unfold owns; simp only [Memref.view_whole, View.read_whole, View.set_whole]
theorem owns1 (c : Dev nD) (X : Vec F S4096x64 .bf16) : (owns (c : Thread nD τ) (stage0_1 0) fullShare X : sProp 𝕄) = stgd c cc0_stg1_0 X := by
  rw [show stage0_1 0 = Memref.whole cc0_stg1_0 from rfl]
  unfold owns; simp only [Memref.view_whole, View.read_whole, View.set_whole]
theorem owns2 (c : Dev nD) (X : Vec F S4096x64 .f32) : (owns (c : Thread nD τ) (stage0_2 0) fullShare X : sProp 𝕄) = stgd c cc0_stg2_0 X := by
  rw [show stage0_2 0 = Memref.whole cc0_stg2_0 from rfl]
  unfold owns; simp only [Memref.view_whole, View.read_whole, View.set_whole]

theorem fetch0 (t : Fin cfg0.N) : (cfg0.win (0 : Fin 3)).fetch t = true := by rw [fin_N0 t]; rfl
theorem fetch1 (t : Fin cfg0.N) : (cfg0.win (1 : Fin 3)).fetch t = true := by rw [fin_N0 t]; rfl

/-! ## The kernel function, between its windows -/

def pre (c : Dev nD) : sProp 𝕄 :=
  iprop(Φ₀ m c ∗ (dats m 0 c).owesAt () t0_0.castSucc
    ∗ (∃ d, owns (c : Thread nD τ) (stage0_0 0) fullShare ((dats m 0 c).before (0 : Fin 3) t0_0 d))
    ∗ (∃ d, owns (c : Thread nD τ) (stage0_1 0) fullShare ((dats m 0 c).before (1 : Fin 3) t0_0 d))
    ∗ (∃ d, owns (c : Thread nD τ) (stage0_2 0) fullShare ((dats m 0 c).before (2 : Fin 3) t0_0 d)))
def post (c : Dev nD) : sProp 𝕄 :=
  iprop(Φ₁ (F := F) c ∗ (dats m 0 c).owesAt () t0_0.succ
    ∗ owns (c : Thread nD τ) (stage0_0 0) fullShare (xIn m c) ∗ owns (c : Thread nD τ) (stage0_1 0) fullShare (wIn m c)
    ∗ owns (c : Thread nD τ) (stage0_2 0) fullShare (outAll (xIn m) (wIn m) c))

theorem pre_start (c : Dev nD) : pre m c ⊢ iprop(∃ K, ctx (xIn m) (wIn m) K ∗ start (xIn m) (wIn m) c) := by
  have b0 : ∀ d, (dats m 0 c).before (0 : Fin 3) t0_0 d = xIn m c := fun d => by unfold Dat.before; rw [if_pos (fetch0 t0_0)]; rfl
  have b1 : ∀ d, (dats m 0 c).before (1 : Fin 3) t0_0 d = wIn m c := fun d => by unfold Dat.before; rw [if_pos (fetch1 t0_0)]; rfl
  have e0 : ∀ d, (owns (c : Thread nD τ) (stage0_0 0) fullShare ((dats m 0 c).before (0 : Fin 3) t0_0 d) : sProp 𝕄) = stgd c cc0_stg0_0 (xIn m c) :=
    fun d => (congrArg _ (b0 d)).trans (owns0 c _)
  have e1 : ∀ d, (owns (c : Thread nD τ) (stage0_1 0) fullShare ((dats m 0 c).before (1 : Fin 3) t0_0 d) : sProp 𝕄) = stgd c cc0_stg1_0 (wIn m c) :=
    fun d => (congrArg _ (b1 d)).trans (owns1 c _)
  have e2 : ∀ d, (owns (c : Thread nD τ) (stage0_2 0) fullShare ((dats m 0 c).before (2 : Fin 3) t0_0 d) : sProp 𝕄) = stgd c cc0_stg2_0 ((dats m 0 c).before (2 : Fin 3) t0_0 d) :=
    fun d => owns2 c _
  unfold pre Φ₀ start Dat.owesAt Pipeline.owesWithin owesE xPts wPts anyO
  iintro ⟨⟨⟨%K, HC, Hh⟩, Hc, HG, HA⟩, ⟨%V, -, HO⟩, ⟨%d0, P0⟩, ⟨%d1, P1⟩, ⟨%d2, P2⟩⟩
  ihave Q0 := (Entails.of_eq (e0 d0)) $$ P0
  ihave Q1 := (Entails.of_eq (e1 d1)) $$ P1
  ihave Q2 := (Entails.of_eq (e2 d2)) $$ P2
  icases Q0 with ⟨%f0, %h0, H0⟩
  icases Q1 with ⟨%f1, %h1, H1⟩
  icases Q2 with ⟨%f2, -, H2⟩
  subst h0 h1
  iexists K
  isplitl [HC]; · iexact HC
  isplitl [H0]; · iexact H0
  isplitl [H1]; · iexact H1
  isplitl [H2]; · iexists f2; iexact H2
  isplitl [HG]; · iexact HG
  isplitl [HA]; · iexact HA
  isplitl [HO]; · iexists V; iexact HO
  isplitl [Hh] <;> iassumption

theorem finish_post (c : Dev nD) : finish (xIn m) (wIn m) c ⊢ post m c := by
  unfold post
  rw [owns0, owns1, owns2]
  unfold Φ₁ finish Dat.owesAt Pipeline.owesWithin owesE xPts wPts oPts
  iintro ⟨H0, H1, H2, HG, HA, ⟨%V, HO⟩, HS, HB⟩
  isplitl [HG HA HS HB]
  · isplitl [HG]; · iexact HG
    isplitl [HA]; · iexact HA
    isplitl [HS] <;> iassumption
  isplitl [HO]
  · iexists V
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem ran (K : Dev nD × Fin 127 → ℕ) (c : Dev nD) : iprop(ctx (xIn m) (wIn m) K ∗ start (xIn m) (wIn m) c)
    ⊢ WP c (looped xM wM oM gM hgM aM cc0_scratch2 cc0_scratch3 cc0_scratch4 cc0_scratch5 cc0_scratch6 cc0_scratch7) (fun _ => post m c) :=
  BI.Entails.trans (looped_spec (xIn m) (wIn m) K c) (wp_mono _ _ _ fun _ => finish_post m c)

theorem pre_post (c : Dev nD) :
    pre m c ⊢ WP c (looped xM wM oM gM hgM aM cc0_scratch2 cc0_scratch3 cc0_scratch4 cc0_scratch5 cc0_scratch6 cc0_scratch7) (fun _ => post m c) := by
  refine BI.Entails.trans (pre_start m c) ?_
  show (_ : sProp 𝕄) ⊢ _
  iintro ⟨%K, H⟩
  iapply (ran m K c)
  iexact H

theorem body_spec (c : Dev nD) : pre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => post m c) := by
  rw [cc0_body_eq_skeleton, body_looped]
  exact pre_post m c

attribute [local irreducible] cc0_body in
set_option maxHeartbeats 1000000 in
theorem body_obligation (c : Dev nD) : BodyObligation (dats (F := F) m 0 c) (defs₀ (F := F)) 𝒱₀ () Set.univ := fun t => by
  rw [fin_N0 t]
  rw [bigSep_W0, bigSep_W0]
  show pre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => post m c)
  exact body_spec m c

/-! ## The launch -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf meshCells meshToks)

/-- What a device enters the kernel with, besides its buffers. -/
def given₀ (c : Dev nD) : sProp 𝕄 := iprop((∃ K, ctx (xIn m) (wIn m) K ∗ held (F := F) c) ∗ crds (F := F) c)

theorem given_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (xIn m) (wIn m) c)
      ⊢ |={Set.univ}=> iprop(given₀ m c ∗ emp) := by
  unfold given₀ G' ctx
  iintro ⟨-, Hlev, Hcr, -, ⟨%K, HF, Hh⟩⟩
  ihave Hc := (creds (F := F) c) $$ Hcr
  imodintro
  isplitl
  · isplitl [Hlev HF Hh]
    · iexists K
      isplitl [Hlev HF]
      · isplitl [HF]; · unfold follows; iexact HF
        unfold levs; iexact Hlev
      iexact Hh
    iexact Hc
  · iempintro

theorem enter (c : Dev nD) :
    iprop(given₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ given₀
  iintro ⟨⟨Hs, Hc⟩, -, HG, HA⟩
  isplitl [Hs]; · iexact Hs
  isplitl [Hc]; · iexact Hc
  isplitl [HG] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show cfg0.spec = spec0 from rfl, scopedRest0_eq, ownSems_eq, unscopedSems_eq]
  unfold Φ₁
  iintro ⟨HG, HA, HS, HB⟩
  isplitl [HB]; · iexact HB
  isplitl [HS]; · iexact HS
  isplitl [HG] <;> iassumption

theorem waits (c : Dev nD) : (levAts L lv : sProp 𝕄) ⊢ Pipeline.cellsWaits cfgs (dats m) () 0 c :=
  Pipeline.cellsWaits_intro cfgs (dats m) () 0 c fun w s t =>
    mayWait_of c _ _ (by
      rw [slot_stage w s, show lev 200 = 0 from rfl]
      rcases t with ⟨_ | _, ht⟩
      · exact above_add (above_add (above_oweA c 0 (by omega)) (above_oweH c (by omega))) (above_oweB c 0)
      · exact above_zero 0)

/-! ## The run -/

set_option maxRecDepth 20000 in
/-- Every execution ends; each device's arrays then hold what the windows left, and every semaphore is at zero. -/
theorem run_main : θ_run defs (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G (xIn m) (wIn m)) (G' := G' (xIn m) (wIn m)) (u₀ := u₀)
    (hu₀ := by
      unfold u₀
      iintro Hu
      ihave H := (ownU_pair _ _) $$ Hu
      icases H with ⟨HP, HX⟩
      imod (fund_mesh (xIn m) (wIn m)) $$ HX with HG
      imodintro
      isplitl [HP] <;> iassumption)
    (hglob := glob (xIn m) (wIn m))
    (hA := fun _ _ => rfl) (hpf := fun _ k => k.elim0)
    (X := given₀ m) (Y := fun c => unscopedSems0 c) (Z := fun _ => iprop(emp))
    (hX := given_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were. -/
theorem arr_arg0 (c : Dev nD) : (dats m 0 c).arrAt (0 : Fin 3) cfg0.N = m ((c : Thread nD τ).loc main_arg0) := (dats m 0 c).arrAt_in (0 : Fin 3) rfl _
theorem arr_arg1 (c : Dev nD) : (dats m 0 c).arrAt (1 : Fin 3) cfg0.N = m ((c : Thread nD τ).loc main_arg1) := (dats m 0 c).arrAt_in (1 : Fin 3) rfl _

end

end Cert.KernelIdeal.Own

end
-- ==== Proof.Frames.lean ====
module

public import proofs.«01_k».proof.Defs
public import proofs.«01_k».proof.Proof.Run
public import proofs.«01_k».proof.Proof.IdealRun
public import proofs.«01_k».proof.Proof.Gen.ReferenceIdeal.Frame

/-! The programs end, leave their arguments as they were and leave every semaphore at zero. -/

@[expose] public section

noncomputable section

namespace Cert.Proof

open Idealize.ShloMosaic Idealize.SL.Sem

theorem kernel_frame : haveI := Cert.Kernel.Gen.facts; Cert.quiescent_Kernel := fun m g _ =>
  (θ_run _ _ _).mono (fun _ h => ⟨fun c => ⟨(h.1 c 0).trans (Cert.Kernel.Own.arr_arg0 m c), (h.1 c 1).trans (Cert.Kernel.Own.arr_arg1 m c)⟩, h.2⟩)
    (Cert.Kernel.Own.run_main m g)

theorem ideal_frame : haveI := Cert.KernelIdeal.Gen.facts; Cert.quiescent_KernelIdeal := fun m g _ =>
  (θ_run _ _ _).mono (fun _ h => ⟨fun c => ⟨(h.1 c 0).trans (Cert.KernelIdeal.Own.arr_arg0 m c), (h.1 c 1).trans (Cert.KernelIdeal.Own.arr_arg1 m c)⟩, h.2⟩)
    (Cert.KernelIdeal.Own.run_main m g)

theorem reference_frame : haveI := Cert.ReferenceIdeal.Gen.facts; Cert.quiescent_ReferenceIdeal := fun m g _ => Cert.ReferenceIdeal.Gen.frame m g

end Cert.Proof

end
-- ==== Proof.ValueMax.lean ====
module

public import proofs.«01_k».proof.Proof.IdealRegions
public import Idealize.ShloMosaic.PureOps.Ideal.Laws
public import Idealize.ShloMosaic.PureOps.Reduce
public import Idealize.ShloMosaic.Lib.MatmulPlain
public import Idealize.ShloMosaic.Lib.Pipeline.Value

/-! Maxima in exact arithmetic. A maximum is known by the numbers that bound it from above, so two maxima over the
same numbers agree in whatever order they are taken. -/

@[expose] public section

noncomputable section

namespace Cert.Values

open Idealize.ShloMosaic

/-! ## One reduction -/

theorem bits_bot : Ideal.ofBits .f32 0xFF800000#32 = ⊥ := by simp [Ideal.ofBits, Ideal.ieee]

/-- Where every axis of the result has size one, all source indices go to its one index. -/
theorem all_drop {s t : Shape} (ht : ∀ b, t.size b = 1) (f : s.Idx → t.Idx) (j : t.Idx) :
    (Finset.univ.filter fun i => f i = j) = Finset.univ :=
  Finset.filter_true_of_mem fun i _ => funext fun b => Fin.ext (by
    have := (f i b).isLt; have := (j b).isLt; have := ht b; omega)

/-- The kernel's maximum of all elements. -/
theorem multiMax_le {s t : Shape} {axes : List (Fin s.rank)} (x : FVec Ideal s .f32) (h : s.Reduces axes t)
    (hφ : FKind.Formats .f32) (hacc : (0xFF800000#32 : BitVec (FTy.bits .f32)) = FKind.maximumf.neutral .f32 hφ)
    (ht : ∀ b, t.size b = 1) (j : t.Idx) (z : EReal) :
    multiReduction .maximumf axes t x 0xFF800000#32 h hφ hacc j ≤ z ↔ ∀ i, x i ≤ z := by
  rw [multiReduction_maximumf_eq_fold, all_drop ht]
  show Finset.univ.fold max (Ideal.ofBits .f32 0xFF800000#32) x ≤ z ↔ _
  rw [Finset.fold_max_le, bits_bot]
  exact ⟨fun h i => h.2 i (Finset.mem_univ i), fun h => ⟨bot_le, fun i _ => h i⟩⟩

/-- The reference's maximum of all elements. -/
theorem hostMax_le {s t u : Shape} {axes : List (Fin s.rank)} (x : FVec Ideal s .f32) (a : FVec Ideal u .f32) (h : s.ReducesTo axes t)
    (hu : 0 < u.numel) (ha : a (Shape.Idx.first hu) = (⊥ : EReal)) (ht : ∀ b, t.size b = 1) (j : t.Idx) (z : EReal) :
    Host.reduce (FloatOps.maximumf (F := Ideal) (φ := .f32)) x a h hu j ≤ z ↔ ∀ i, x i ≤ z := by
  rw [Host.reduce_eq_fold, all_drop ht, ha]
  show Finset.univ.fold max (⊥ : EReal) x ≤ z ↔ _
  rw [Finset.fold_max_le]
  exact ⟨fun h i => h.2 i (Finset.mem_univ i), fun h => ⟨bot_le, fun i _ => h i⟩⟩

/-- A reshape has the same elements. -/
theorem shapeCast_le {s t : Shape} (x : s.Idx → EReal) (h : s.ShapeCasts t) (z : EReal) :
    (∀ i, shapeCast t x h i ≤ z) ↔ ∀ i, x i ≤ z :=
  ⟨fun H i => by
    have := H (Shape.reshapeEquiv h.symm i)
    unfold shapeCast at this
    rwa [Shape.reshapeEquiv_reshapeEquiv, Shape.reshapeEquiv_self] at this, fun H i => H _⟩

end Cert.Values

namespace Cert.KernelIdeal.Own

open Idealize.ShloMosaic Idealize.ShloMosaic.TcCoe Idealize.SL.Sem
open Cert.KernelIdeal.Gen Cert.Values

variable (X : Dev nD → Vec Ideal S128x4096 .bf16) (W : Dev nD → Vec Ideal S4096x64 .bf16)

/-! ## The maximum of a block, of a device, of all devices -/

theorem blkMax_le (y : FVec Ideal S128x64 .f32) (z : EReal) : blkMax y ≤ z ↔ ∀ i, y i ≤ z := by
  refine (multiMax_le (shapeCast S1x128x64 y shapeCasts_S128x64_S1x128x64) reduces_S1x128x64_S1 (.inl rfl) rfl (by decide)
    (Shape.reshapeEquiv shapeCasts_S1_S1x1x1 fun a => ⟨![0, 0, 0] a, inpos_S1x1x1_p0_0_0 a⟩) z).trans ?_
  exact shapeCast_le y _ z

theorem max_le_iff' (a b : Ideal .f32) (z : EReal) : Scalar.maximumf a b ≤ z ↔ a ≤ z ∧ b ≤ z := max_le_iff

/-- The running maximum of device `c` after hop `h`. -/
theorem runAt_le (c : Dev nD) (z : EReal) : ∀ h : ℕ, runAt X W c h ≤ z ↔
    (0 ≤ z ∧ ∀ i, yBlk X W c c i ≤ z) ∧ ∀ k, k < h → (∀ i, yBlk X W c (blkR c (k + 1)) i ≤ z) ∧ ∀ i, yBlk X W c (blkL c (k + 1)) i ≤ z
  | 0 => by
    unfold runAt
    rw [max_le_iff', blkMax_le]
    show Ideal.ofBits .f32 0x00000000#32 ≤ z ∧ _ ↔ _
    rw [Ideal.ofBits_zero_f32]
    exact ⟨fun h => ⟨h, fun k hk => absurd hk (Nat.not_lt_zero k)⟩, fun h => h.1⟩
  | h + 1 => by
    unfold runAt
    rw [max_le_iff', max_le_iff', runAt_le c z h, blkMax_le, blkMax_le]
    constructor
    · rintro ⟨⟨⟨h0, hk⟩, hr⟩, hl⟩
      refine ⟨h0, fun k hh => ?_⟩
      rcases Nat.lt_succ_iff_lt_or_eq.1 hh with hh | rfl
      · exact hk k hh
      · exact ⟨hr, hl⟩
    · exact fun H => ⟨⟨⟨H.1, fun k hk => H.2 k (Nat.lt_succ_of_lt hk)⟩, (H.2 h (Nat.lt_succ_self h)).1⟩, (H.2 h (Nat.lt_succ_self h)).2⟩

/-- The blocks a device meets are those of all devices. -/
theorem blk_cover : ∀ c b : Dev nD, b = c ∨ (∃ k : Fin 15, b = blkR c (k.val + 1) ∨ b = blkL c (k.val + 1)) ∨ b = blkL c 16 := by
  decide +kernel

theorem runEnd_le (c : Dev nD) (z : EReal) : runEnd X W c ≤ z ↔ 0 ≤ z ∧ ∀ b i, yBlk X W c b i ≤ z := by
  unfold runEnd
  rw [max_le_iff', runAt_le, blkMax_le]
  constructor
  · rintro ⟨⟨⟨h0, hc⟩, hk⟩, hl⟩
    refine ⟨h0, fun b => ?_⟩
    rcases blk_cover c b with rfl | ⟨k, rfl | rfl⟩ | rfl
    · exact hc
    · exact (hk k.val k.isLt).1
    · exact (hk k.val k.isLt).2
    · exact hl
  · exact fun H => ⟨⟨⟨H.1, H.2 c⟩, fun k _ => ⟨H.2 _, H.2 _⟩⟩, H.2 _⟩

/-- The maximum over the devices, as the quantiser takes it. -/
def largestOf (v : Vec Ideal S32x1x1 .f32) : Ideal .f32 :=
  extractAt ![0, 0] (shapeCast S1x1 (multiReduction .maximumf [1] S1 (shapeCast S1x32 (shapeCast S32 v shapeCasts_S32x1x1_S32) shapeCasts_S32_S1x32) 0xFF800000#32 reduces_S1x32_S1 (.inl rfl) rfl) shapeCasts_S1_S1x1) inpos_S1x1_p0_0
def gMax : EReal := largestOf (aRead X W)

theorem aRead_le (z : EReal) : (∀ i, aRead X W i ≤ z) ↔ ∀ d, runEnd X W d ≤ z := by
  constructor
  · intro H d
    have := H (fun | ⟨0, _⟩ => ⟨d.val, d.isLt⟩ | ⟨1, _⟩ => ⟨0, Nat.one_pos⟩ | ⟨2, _⟩ => ⟨0, Nat.one_pos⟩)
    unfold aRead at this
    rw [View.readAt_apply, View.read_apply] at this
    have e : aAll X W (aM.view.emb ((Rect.unit (s := S32x8x128) ![0, 0, 0] S32x1x1.size inb_S32x8x128_S32x1x1_0_0_0).toLoadRect.idx
      (fun | ⟨0, _⟩ => ⟨d.val, d.isLt⟩ | ⟨1, _⟩ => ⟨0, Nat.one_pos⟩ | ⟨2, _⟩ => ⟨0, Nat.one_pos⟩))) = runEnd X W d := by
      refine congrArg (runEnd X W) (Fin.ext ?_)
      show 0 + 1 * d.val = d.val
      omega
    exact e ▸ this
  · exact fun H i => H _

theorem gMax_le (z : EReal) : gMax X W ≤ z ↔ 0 ≤ z ∧ ∀ c b i, yBlk X W c b i ≤ z := by
  refine (multiMax_le (shapeCast S1x32 (shapeCast S32 (aRead X W) shapeCasts_S32x1x1_S32) shapeCasts_S32_S1x32) reduces_S1x32_S1 (.inl rfl) rfl (by decide)
    (Shape.reshapeEquiv shapeCasts_S1_S1x1 fun a => ⟨![0, 0] a, inpos_S1x1_p0_0 a⟩) z).trans ?_
  rw [shapeCast_le, shapeCast_le, aRead_le]
  constructor
  · exact fun H => ⟨((runEnd_le X W _ z).1 (H 0)).1, fun c => ((runEnd_le X W _ z).1 (H c)).2⟩
  · exact fun H c => (runEnd_le X W _ z).2 ⟨H.1, H.2 c⟩

end Cert.KernelIdeal.Own

end
-- ==== Proof.ValueQuant.lean ====
module

public import Idealize.ShloMosaic.PureOps.Ideal.Laws
public import Idealize.ShloMosaic.Lib.ValueIdxCore

/-! The result in exact arithmetic: the product of the two arrays with its negative entries set to zero, and its
quantising by the scale that the largest entry gives. -/

@[expose] public section

noncomputable section

namespace Cert.Values

open Idealize.ShloMosaic Idealize.ShloMosaic.ValueIdx

/-! ## The product -/

/-- The product of the two arrays, negative entries set to zero. -/
def relu (A : (⟨2, ![4096, 4096]⟩ : Shape).Idx → EReal) (B : (⟨2, ![4096, 2048]⟩ : Shape).Idx → EReal) (i : Fin 4096) (j : Fin 2048) : EReal :=
  max (∑ k : Fin 4096, A (ix2 i k) * B (ix2 k j)) 0

theorem relu_nonneg (A : (⟨2, ![4096, 4096]⟩ : Shape).Idx → EReal) (B : (⟨2, ![4096, 2048]⟩ : Shape).Idx → EReal) (i : Fin 4096) (j : Fin 2048) :
    0 ≤ relu A B i j := le_max_right _ _

/-- The absolute value of what is not negative. -/
theorem abs_of_nonneg' {y : EReal} (h : 0 ≤ y) : max y (-y) = y :=
  max_eq_left (le_trans (by rw [EReal.neg_le]; simpa using h) h)

/-! ## The quantiser -/

/-- The largest number of the format, 448, and its negative. -/
def top : EReal := Ideal.ofBits .f32 0x43E00000#32
def bottom : EReal := Ideal.ofBits .f32 0xC3E00000#32

theorem top_eq : top = ((448 : ℝ) : EReal) := by
  show Ideal.ieee 8 23 0x43E00000#32 = _
  unfold Ideal.ieee
  rw [show ((0x43E00000#32).extractLsb' (8 + 23) 1 == 1#1) = false from by decide, show ((0x43E00000#32).extractLsb' 23 8).toNat = 135 from by decide,
    show ((0x43E00000#32).extractLsb' 0 23).toNat = 6291456 from by decide]
  simp only [Bool.false_eq_true, if_false]
  norm_num
theorem bottom_eq : bottom = ((-448 : ℝ) : EReal) := by
  show Ideal.ieee 8 23 0xC3E00000#32 = _
  unfold Ideal.ieee
  rw [show ((0xC3E00000#32).extractLsb' (8 + 23) 1 == 1#1) = true from by decide, show ((0xC3E00000#32).extractLsb' 23 8).toNat = 135 from by decide,
    show ((0xC3E00000#32).extractLsb' 0 23).toNat = 6291456 from by decide]
  simp only [if_true]
  norm_num

theorem top_nonneg : 0 ≤ top := by rw [top_eq]; exact_mod_cast (by norm_num : (0 : ℝ) ≤ 448)
theorem top_ne_zero : top ≠ 0 := by rw [top_eq]; exact_mod_cast (by norm_num : (448 : ℝ) ≠ 0)
theorem bottom_nonpos : bottom ≤ 0 := by rw [bottom_eq]; exact_mod_cast (by norm_num : (-448 : ℝ) ≤ 0)

/-- One entry quantised, `M` the largest entry: with the upper bound only, and with both bounds. -/
def quantUpper (M y : EReal) : EReal := min (Ideal.div y (Ideal.div M top)) top * Ideal.div M top
def quantBoth (M y : EReal) : EReal := min top (max bottom (Ideal.div y (Ideal.div M top))) * Ideal.div M top

theorem div_nonneg' {x y : EReal} (hx : 0 ≤ x) (hy : 0 ≤ y) (h0 : y ≠ 0) : 0 ≤ Ideal.div x y := by
  unfold Ideal.div
  rw [if_neg h0]
  exact mul_nonneg hx (EReal.inv_nonneg_of_nonneg hy)

/-- On entries that are not negative the lower bound has no effect. -/
theorem quantBoth_eq {M y : EReal} (hM : 0 ≤ M) (hy : 0 ≤ y) : quantBoth M y = quantUpper M y := by
  unfold quantBoth quantUpper
  by_cases h0 : Ideal.div M top = 0
  · rw [h0, mul_zero, mul_zero]
  · rw [max_eq_right (le_trans bottom_nonpos (div_nonneg' hy (div_nonneg' hM top_nonneg top_ne_zero) h0)), min_comm]

end Cert.Values

end
-- ==== Proof.ValueKernel.lean ====
module

public import proofs.«01_k».proof.Proof.ValueMax
public import proofs.«01_k».proof.Proof.ValueQuant

/-! What a device's result holds, entry by entry, when the devices hold the blocks of two whole arrays. -/

@[expose] public section

noncomputable section

namespace Cert.KernelIdeal.Own

open Idealize.ShloMosaic Idealize.ShloMosaic.TcCoe Idealize.ShloMosaic.ValueIdx Idealize.SL.Sem
open Cert.KernelIdeal.Gen Cert.Values

section Local
variable (X : Dev nD → Vec Ideal S128x4096 .bf16) (W : Dev nD → Vec Ideal S4096x64 .bf16)

/-- An entry of a block before quantising. -/
theorem yBlk_apply (c b : Dev nD) (i : Fin 128) (j : Fin 64) :
    yBlk X W c b (ix2 i j) = max (∑ k : Fin 4096, X b (ix2 i k) * W c (ix2 k j)) (0 : EReal) := by
  have e1 : k0_pay1 (W c) = W c := shapeCast_self _ _
  have e2 : k0_pay2 (X b) = X b := (shapeCast_self _ _).trans (shapeCast_self _ _)
  unfold yBlk
  rw [e1, e2]
  show max (FloatOps.matmul (F := Ideal) (DotDims.plain 128 4096 64) none (X b) (W c) (constant (F := Ideal) S128x64 .f32 0x00000000#32) (ix2 i j)) (Ideal.ofBits .f32 0x00000000#32) = _
  rw [Ideal.matmul_plain_apply]
  show max (Ideal.ofBits .f32 0x00000000#32 + _) (Ideal.ofBits .f32 0x00000000#32) = _
  rw [Ideal.ofBits_zero_f32, zero_add]

/-- The quantiser at an entry, `v` what it reads of the maxima. -/
theorem quantise_apply (v : Vec Ideal S32x1x1 .f32) (a : Vec Ideal S4096x64 .f32) (y : S4096x64.Idx) :
    k0_pay65 v a y = quantUpper (largestOf v) (a y) := by
  unfold k0_pay65 largestOf
  dsimp only
  rw [shapeCast_self a]
  generalize extractAt (s := S1x1) ![0, 0] _ _ = g
  rfl

/-- An entry of the result. -/
theorem outAll_apply (c : Dev nD) (y : S4096x64.Idx) : outAll X W c y = quantUpper (gMax X W) (yAll X W c y) :=
  quantise_apply (aRead X W) (yAll X W c) y

end Local

section Whole

/-- The place in the whole arrays of a row of device `c`'s block, and of a column. -/
def rowOf (c : Dev nD) (i : Fin 128) : Fin 4096 := ⟨c.val * 128 + i.val, by have : c.val < 32 := c.isLt; omega⟩
def colOf (c : Dev nD) (j : Fin 64) : Fin 2048 := ⟨c.val * 64 + j.val, by have : c.val < 32 := c.isLt; omega⟩

variable (X : Dev nD → Vec Ideal S128x4096 .bf16) (W : Dev nD → Vec Ideal S4096x64 .bf16)
variable (A : (⟨2, ![4096, 4096]⟩ : Shape).Idx → EReal) (B : (⟨2, ![4096, 2048]⟩ : Shape).Idx → EReal)
variable (hX : ∀ (c : Dev nD) (i : Fin 128) (k : Fin 4096), X c (ix2 i k) = A (ix2 (rowOf c i) k))
variable (hW : ∀ (c : Dev nD) (k : Fin 4096) (j : Fin 64), W c (ix2 k j) = B (ix2 k (colOf c j)))

include hX hW

theorem yBlk_whole (c b : Dev nD) (i : Fin 128) (j : Fin 64) :
    yBlk X W c b (ix2 i j) = relu A B (rowOf b i) (colOf c j) := by
  rw [yBlk_apply]
  unfold relu
  simp only [hX, hW]

/-- An entry of a device's part before quantising. -/
theorem yAll_whole (c : Dev nD) (i : Fin 4096) (j : Fin 64) :
    yAll X W c (ix2 i j) = relu A B i (colOf c j) := by
  have hi : i.val < 4096 := i.isLt
  have e : yAll X W c (ix2 i j) = yBlk X W c ⟨i.val / 128, by show _ < 32; omega⟩ (ix2 ⟨i.val % 128, Nat.mod_lt _ (by decide)⟩ j) := by
    unfold yAll
    refine congrArg (yBlk X W c _) (funext fun a => ?_)
    match a with
    | ⟨0, _⟩ => rfl
    | ⟨1, _⟩ => rfl
  rw [e, yBlk_whole X W A B hX hW]
  refine congrArg (fun a => relu A B a _) (Fin.ext ?_)
  show i.val / 128 * 128 + i.val % 128 = i.val
  omega

/-- The devices' largest entry is the largest entry of all. -/
theorem gMax_whole (z : EReal) : gMax X W ≤ z ↔ 0 ≤ z ∧ ∀ i j, relu A B i j ≤ z := by
  rw [gMax_le]
  refine and_congr_right fun _ => ⟨fun H i j => ?_, fun H c b y => ?_⟩
  · have hi : i.val < 4096 := i.isLt
    have hj : j.val < 2048 := j.isLt
    have h := H ⟨j.val / 64, by show _ < 32; omega⟩ ⟨i.val / 128, by show _ < 32; omega⟩ (ix2 ⟨i.val % 128, Nat.mod_lt _ (by decide)⟩ ⟨j.val % 64, Nat.mod_lt _ (by decide)⟩)
    rw [yBlk_whole X W A B hX hW] at h
    have ei : rowOf ⟨i.val / 128, by show _ < 32; omega⟩ ⟨i.val % 128, Nat.mod_lt _ (by decide)⟩ = i :=
      Fin.ext (by show i.val / 128 * 128 + i.val % 128 = i.val; omega)
    have ej : colOf ⟨j.val / 64, by show _ < 32; omega⟩ ⟨j.val % 64, Nat.mod_lt _ (by decide)⟩ = j :=
      Fin.ext (by show j.val / 64 * 64 + j.val % 64 = j.val; omega)
    rwa [ei, ej] at h
  · rw [eq_ix2 y]
    exact (yBlk_whole X W A B hX hW c b (y 0) (y 1)) ▸ H _ _

end Whole

end Cert.KernelIdeal.Own

end
-- ==== Proof.ValueRun.lean ====
module

public import proofs.«01_k».proof.Proof.IdealRun
public import proofs.«01_k».proof.Proof.ValueKernel
public import Idealize.ShloMosaic.Lib.Pipeline.ValueKit

/-! What the kernel leaves in a device's result, from the devices' arguments. -/

@[expose] public section

noncomputable section

namespace Cert.KernelIdeal.Own

open Idealize.ShloMosaic hiding ix2
open Idealize.ShloMosaic.TcCoe Idealize.ShloMosaic.ValueIdx Idealize.SL.Sem
open Cert.KernelIdeal.Gen Cert.Values

/-- The windows are read whole. -/
theorem block0 (f : S128x4096.Idx → EReal) (y : S128x4096.Idx) : ((cfg0.win 0).blk t0_0).view.read (Elt Ideal) f y = f y := by
  have h : win0_0.index t0_0 = ![0, 0] := by decide +kernel
  blk_ext [h]
theorem block1 (f : S4096x64.Idx → EReal) (y : S4096x64.Idx) : ((cfg0.win 1).blk t0_0).view.read (Elt Ideal) f y = f y := by
  have h : win0_1.index t0_0 = ![0, 0] := by decide +kernel
  blk_ext [h]

variable (m : (ℓ : Loc nD τ sig) → Buf (Elt Ideal) ℓ)

theorem xIn_apply (c : Dev nD) (y : S128x4096.Idx) : xIn m c y = m ((c : Thread nD τ).loc main_arg0) y := block0 (m ((c : Thread nD τ).loc main_arg0)) y
theorem wIn_apply (c : Dev nD) (y : S4096x64.Idx) : wIn m c y = m ((c : Thread nD τ).loc main_arg1) y := block1 (m ((c : Thread nD τ).loc main_arg1)) y

/-- The result array is what the body leaves. -/
theorem arr_v1 (c : Dev nD) : (dats m 0 c).arrAt 2 cfg0.N = outAll (xIn m) (wIn m) c := by
  refine (dats m 0 c).arrAt_eq_of_after_last 2 t0_0 (by decide +kernel) _ fun j => ?_
  rfl

/-- An entry of a device's result, the devices holding the blocks of `A` and of `B`. -/
theorem result_apply (A : (⟨2, ![4096, 4096]⟩ : Shape).Idx → EReal) (B : (⟨2, ![4096, 2048]⟩ : Shape).Idx → EReal)
    (hA : ∀ c : Dev nD, m ((c : Thread nD τ).loc main_arg0) = Layout.block ⟨2, ![128, 4096]⟩ ⟨2, ![4096, 4096]⟩ 0 32 c A)
    (hB : ∀ c : Dev nD, m ((c : Thread nD τ).loc main_arg1) = Layout.block ⟨2, ![4096, 64]⟩ ⟨2, ![4096, 2048]⟩ 1 32 c B)
    (M : EReal) (hM : ∀ z, M ≤ z ↔ 0 ≤ z ∧ ∀ i j, relu A B i j ≤ z) (c : Dev nD) (i : Fin 4096) (j : Fin 64) :
    (dats m 0 c).arrAt 2 cfg0.N (ix2 i j) = quantUpper M (relu A B i (colOf c j)) := by
  have hX : ∀ (c : Dev nD) (i : Fin 128) (k : Fin 4096), xIn m c (ix2 i k) = A (ix2 (rowOf c i) k) := fun c i k => by
    rw [xIn_apply, hA]
    refine congrArg A (funext fun a => ?_)
    match a with
    | ⟨0, _⟩ => rfl
    | ⟨1, _⟩ => rfl
  have hW : ∀ (c : Dev nD) (k : Fin 4096) (j : Fin 64), wIn m c (ix2 k j) = B (ix2 k (colOf c j)) := fun c k j => by
    rw [wIn_apply, hB]
    refine congrArg B (funext fun a => ?_)
    match a with
    | ⟨0, _⟩ => rfl
    | ⟨1, _⟩ => rfl
  have hg : gMax (xIn m) (wIn m) = M :=
    eq_of_forall_ge_iff fun z => (gMax_whole (xIn m) (wIn m) A B hX hW z).trans (hM z).symm
  rw [arr_v1]
  exact (outAll_apply (xIn m) (wIn m) c (ix2 i j)).trans (congrArg₂ quantUpper hg (yAll_whole (xIn m) (wIn m) A B hX hW c i j))

end Cert.KernelIdeal.Own

end
-- ==== Proof.ValueReference.lean ====
module

public import proofs.«01_k».proof.Proof.Gen.ReferenceIdeal.Value
public import proofs.«01_k».proof.Proof.ValueMax
public import proofs.«01_k».proof.Proof.ValueQuant
public import Idealize.ShloMosaic.Lib.StackMember
public import Idealize.ShloMosaic.Lib.Claim
public import Idealize.ShloMosaic.Lib.Pipeline.ValueKit

/-! What the reference's result holds, entry by entry. -/

@[expose] public section

noncomputable section

namespace Cert.ReferenceIdeal.Own

open Idealize.ShloMosaic hiding ix2
open Idealize.ShloMosaic.TcCoe Idealize.ShloMosaic.ValueIdx Idealize.SL.Sem
open Cert.ReferenceIdeal Cert.ReferenceIdeal.Gen Cert.Values

/-! ## The two operands of the quantiser -/

section Host
variable (A : FVec Ideal S4096x4096 .bf16) (B : FVec Ideal S4096x2048 .bf16)

/-- The product with its negative entries set to zero, as the host lines compute it; its largest absolute value. -/
def prod : FVec Ideal S4096x2048 .f32 :=
  maximumf (Host.dotGeneral dot_S4096x4096_S4096x2048_S4096x2048_1_0_0_1_n_n none (extf .f32 A bitsLt_bf16_f32) (extf .f32 B bitsLt_bf16_f32))
    (broadcastInDim S4096x2048 ![] bcast_S_S4096x2048 (constant (F := Ideal) S_ .f32 0x00000000#32))
def largest : FVec Ideal S1x1 .f32 :=
  shapeCast S1x1 (Host.reduce (FloatOps.maximumf (F := Ideal) (φ := .f32)) (Host.absf (prod A B)) (constant (F := Ideal) S_ .f32 0xFF800000#32) reducesTo_S4096x2048_S_d0_1 h_S_) shapeCasts_S_S1x1

theorem prod_apply (i : Fin 4096) (j : Fin 2048) : prod A B (ix2 i j) = relu A B i j := by
  show max (Host.dotGeneral (F := Ideal) (φ₁ := .f32) (φ₂ := .f32) (DotDims.plain 4096 4096 2048) none A B (ix2 i j)) (Ideal.ofBits .f32 0x00000000#32) = _
  rw [StackMember.dotGeneral_plain_apply, Ideal.ofBits_zero_f32]
  rfl

/-- The largest absolute value is the largest entry, and not negative. -/
theorem largest_le (y : S1x1.Idx) (z : EReal) : largest A B y ≤ z ↔ 0 ≤ z ∧ ∀ i j, relu A B i j ≤ z := by
  refine (hostMax_le (Host.absf (prod A B)) (constant (F := Ideal) S_ .f32 0xFF800000#32) reducesTo_S4096x2048_S_d0_1 h_S_ bits_bot (fun b => b.elim0)
    (Shape.reshapeEquiv shapeCasts_S_S1x1 y) z).trans ?_
  have e : ∀ i j, Host.absf (prod A B) (ix2 i j) = relu A B i j := fun i j => by
    show max (prod A B (ix2 i j)) (-(prod A B (ix2 i j))) = _
    rw [prod_apply, abs_of_nonneg' (relu_nonneg A B i j)]
  constructor
  · intro H
    have H' : ∀ i j, relu A B i j ≤ z := fun i j => e i j ▸ H (ix2 i j)
    exact ⟨le_trans (relu_nonneg A B 0 0) (H' 0 0), H'⟩
  · rintro ⟨-, H⟩ i
    rw [ValueIdx.eq_ix2 i]
    exact (e (i 0) (i 1)) ▸ H _ _

end Host

/-! ## The result -/

variable (m : (ℓ : Loc nD τ sig) → Buf (Elt Ideal) ℓ)

theorem V_v4 (c : Dev nD) : V m c main_v4 = prod (m ((c : Thread nD τ).loc main_arg0)) (m ((c : Thread nD τ).loc main_arg1)) := by
  entry_read
  rfl
theorem V_v7 (c : Dev nD) : V m c main_v7 = largest (m ((c : Thread nD τ).loc main_arg0)) (m ((c : Thread nD τ).loc main_arg1)) := by
  entry_read
  rfl

/-- All indices of one element are the same. -/
theorem idx_one (y z : S1x1.Idx) : y = z := by
  funext a
  match a with
  | ⟨0, _⟩ => exact Fin.ext (by have : (y (0 : Fin 2)).val < 1 := (y (0 : Fin 2)).isLt; have : (z (0 : Fin 2)).val < 1 := (z (0 : Fin 2)).isLt; show (y (0 : Fin 2)).val = (z (0 : Fin 2)).val; omega)
  | ⟨1, _⟩ => exact Fin.ext (by have : (y (1 : Fin 2)).val < 1 := (y (1 : Fin 2)).isLt; have : (z (1 : Fin 2)).val < 1 := (z (1 : Fin 2)).isLt; show (y (1 : Fin 2)).val = (z (1 : Fin 2)).val; omega)

/-- The region's operands are read whole. -/
theorem block0 (f : S4096x2048.Idx → EReal) (y : S4096x2048.Idx) : ((cfg0.win 0).blk t0_0).view.read (Elt Ideal) f y = f y := by
  have h : win0_0.index t0_0 = ![0, 0] := by decide +kernel
  blk_ext [h]
theorem block1 (f : S1x1.Idx → EReal) (y z : S1x1.Idx) : ((cfg0.win 1).blk t0_0).view.read (Elt Ideal) f y = f z :=
  congrArg f (idx_one _ _)
theorem read_v4 (c : Dev nD) (y : S4096x2048.Idx) : iblk m c 0 t0_0 y = V m c main_v4 y := block0 (V m c main_v4) y
theorem read_v7 (c : Dev nD) (y z : S1x1.Idx) : iblk m c 1 t0_0 y = V m c main_v7 z := block1 (V m c main_v7) y z

/-- The result from the arguments. -/
def resultOf (A : FVec Ideal S4096x4096 .bf16) (B : FVec Ideal S4096x2048 .bf16) (y : S4096x2048.Idx) : EReal :=
  quantBoth (largest A B (ix2 0 0)) (relu A B (y (0 : Fin 2)) (y (1 : Fin 2)))

theorem result_eq (c : Dev nD) :
    (dats m 0 c).arrAt 2 cfg0.N = resultOf (m ((c : Thread nD τ).loc main_arg0)) (m ((c : Thread nD τ).loc main_arg1)) := by
  refine (dats m 0 c).arrAt_eq_of_after_last 2 t0_0 (by decide +kernel) _ fun j => ?_
  blk_simp
  rw [after0_2]
  frame_out
  rw [Cert.ReferenceIdeal.Value.piece2_0]
  have e0 : iblk m c 0 t0_0 (Cert.ReferenceIdeal.Value.ix2_0 (r0_1.idx j)) = relu (m ((c : Thread nD τ).loc main_arg0)) (m ((c : Thread nD τ).loc main_arg1)) (j (0 : Fin 2)) (j (1 : Fin 2)) := by
    refine (read_v4 m c _).trans ((congrFun (V_v4 m c) _).trans ?_)
    refine (congrArg (prod _ _) ?_).trans (prod_apply _ _ (j (0 : Fin 2)) (j (1 : Fin 2)))
    funext a
    match a with
    | ⟨0, _⟩ => exact Fin.ext (by show 0 + 1 * (j (0 : Fin 2)).val = (j (0 : Fin 2)).val; omega)
    | ⟨1, _⟩ => exact Fin.ext (by show 0 + 1 * (j (1 : Fin 2)).val = (j (1 : Fin 2)).val; omega)
  have e1 : ∀ y, iblk m c 1 t0_0 y = largest (m ((c : Thread nD τ).loc main_arg0)) (m ((c : Thread nD τ).loc main_arg1)) (ix2 0 0) := fun y =>
    (read_v7 m c _ _).trans (congrFun (V_v7 m c) _)
  show min _ (max _ (Ideal.div (iblk m c 0 t0_0 _) (Ideal.div (iblk m c 1 t0_0 _) _))) * Ideal.div (iblk m c 1 t0_0 _) _ = _
  rw [e0, e1]
  rfl

end Cert.ReferenceIdeal.Own

end
-- ==== Proof.Algebraic.lean ====
module

public import proofs.«01_k».proof.Defs
public import proofs.«01_k».proof.Proof.ValueRun
public import proofs.«01_k».proof.Proof.ValueReference

/-! The kernel and the reference compute the same in exact arithmetic. -/

@[expose] public section

noncomputable section

namespace Cert.Proof

open Idealize.ShloMosaic hiding ix2
open Idealize.ShloMosaic.ValueIdx Idealize.SL.Sem
open Cert.Values

theorem algebraic_agree :
    haveI := Cert.KernelIdeal.Gen.facts; haveI := Cert.ReferenceIdeal.Gen.facts; Cert.algebraic_KernelIdeal_ReferenceIdeal := by
  intro m g m' g' _ hin
  refine ⟨(Cert.ReferenceIdeal.Gen.dats m' 0 0).arrAt 2 Cert.ReferenceIdeal.cfg0.N, ?_, ?_⟩
  · refine (θ_run _ _ _).mono (fun r h c => ⟨((h.1 c 2).trans ?_), (h.1 c 0).trans (Cert.KernelIdeal.Own.arr_arg0 m c), (h.1 c 1).trans (Cert.KernelIdeal.Own.arr_arg1 m c)⟩)
      (Cert.KernelIdeal.Own.run_main m g)
    funext y
    have hy : (y (1 : Fin 2)).val < 64 := (y (1 : Fin 2)).isLt
    have hc : c.val < 32 := c.isLt
    rw [Cert.ReferenceIdeal.Own.result_eq]
    generalize hA : m' (((0 : Dev Cert.ReferenceIdeal.nD).tc : Thread Cert.ReferenceIdeal.nD Cert.ReferenceIdeal.τ).loc Cert.ReferenceIdeal.main_arg0) = A at hin ⊢
    generalize hB : m' (((0 : Dev Cert.ReferenceIdeal.nD).tc : Thread Cert.ReferenceIdeal.nD Cert.ReferenceIdeal.τ).loc Cert.ReferenceIdeal.main_arg1) = B at hin ⊢
    have hM := Cert.ReferenceIdeal.Own.largest_le A B (ix2 0 0)
    have hk := Cert.KernelIdeal.Own.result_apply m A B (fun c => (hin c).1) (fun c => (hin c).2) _ hM c (y (0 : Fin 2)) (y (1 : Fin 2))
    refine (congrArg _ (ValueIdx.eq_ix2 y)).trans (hk.trans ?_)
    refine (quantBoth_eq ((hM _).1 le_rfl).1 (relu_nonneg A B _ _)).symm.trans ?_
    refine congrArg₂ (fun i j => quantBoth (Cert.ReferenceIdeal.Own.largest A B (ix2 0 0)) (relu A B i j)) (Fin.ext ?_) (Fin.ext ?_)
    · rfl
    · rfl
  · exact (θ_run _ _ _).mono (fun r h => h 0) (Cert.ReferenceIdeal.Value.run_blocks m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.kernel_frame, Cert.Proof.ideal_frame, Cert.Proof.reference_frame, trivial, Cert.Proof.algebraic_agree⟩

end Cert.Proof

end
